-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v27) = v2 c
          ∧ r.2.mem ((c.tc : Thread Cert.Reference17Ideal.nD Cert.Reference17Ideal.τ).loc Cert.Reference17Ideal.main_v32) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v41) = v0 c
          ∧ r.2.mem ((c.tc : Thread Cert.Reference18Ideal.nD Cert.Reference18Ideal.τ).loc Cert.Reference18Ideal.main_v21) = v1 c
          ∧ r.2.mem ((c.tc : Thread Cert.Reference18Ideal.nD Cert.Reference18Ideal.τ).loc Cert.Reference18Ideal.main_v24) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v10) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  IdealRules.named_const.Statement Cert.Kernel26Ideal.κ "inv_bias1" .f32 0x3FC48605#32 ((8388608 / 5463681 : ℝ) : EReal)
  ∧ IdealRules.named_const.Statement Cert.Kernel26Ideal.κ "inv_bias2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "inv_bias1" .f32 0x3FC48605#32 ((8388608 / 5463681 : ℝ) : EReal)
  ∧ IdealRules.named_const.Statement Cert.Kernel27Ideal.κ "inv_bias2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  IdealRules.named_const.Statement Cert.Kernel28Ideal.κ "inv_bias1" .f32 0x3FC48605#32 ((8388608 / 5463681 : ℝ) : EReal)
  ∧ IdealRules.named_const.Statement Cert.Kernel28Ideal.κ "inv_bias2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "inv_bias1" .f32 0x3FC48605#32 ((8388608 / 5463681 : ℝ) : EReal)
  ∧ IdealRules.named_const.Statement Cert.Kernel29Ideal.κ "inv_bias2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg1) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  IdealRules.named_const.Statement Cert.Kernel30Ideal.κ "inv_bias1" .f32 0x3FC48605#32 ((8388608 / 5463681 : ℝ) : EReal)
  ∧ IdealRules.named_const.Statement Cert.Kernel30Ideal.κ "inv_bias2" .f32 0x42C8E6D3#32 ((268435456 / 2672307 : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg1) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "inv_bias1" .f32 0x3FC48605#32 ((8388608 / 5463681 : ℝ) : EReal)
  ∧ IdealRules.named_const.Statement Cert.Kernel31Ideal.κ "inv_bias2" .f32 0x42C8E6D3#32 ((268435456 / 2672307 : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_arg1) = v0 c
          ∧ r.2.mem ((c.tc : Thread Cert.Reference31Ideal.nD Cert.Reference31Ideal.τ).loc Cert.Reference31Ideal.main_v23) = v1 c
          ∧ r.2.mem ((c.tc : Thread Cert.Reference31Ideal.nD Cert.Reference31Ideal.τ).loc Cert.Reference31Ideal.main_v4) = v2 c
          ∧ r.2.mem ((c.tc : Thread Cert.Reference31Ideal.nD Cert.Reference31Ideal.τ).loc Cert.Reference31Ideal.main_v10) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "inv_bias1" .f32 0x3FC48605#32 ((8388608 / 5463681 : ℝ) : EReal)
  ∧ IdealRules.named_const.Statement Cert.Kernel32Ideal.κ "inv_bias2" .f32 0x42C8E6D3#32 ((268435456 / 2672307 : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_arg1) = v0 c
          ∧ r.2.mem ((c.tc : Thread Cert.Reference32Ideal.nD Cert.Reference32Ideal.τ).loc Cert.Reference32Ideal.main_v23) = v1 c
          ∧ r.2.mem ((c.tc : Thread Cert.Reference32Ideal.nD Cert.Reference32Ideal.τ).loc Cert.Reference32Ideal.main_v4) = v2 c
          ∧ r.2.mem ((c.tc : Thread Cert.Reference32Ideal.nD Cert.Reference32Ideal.τ).loc Cert.Reference32Ideal.main_v10) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  IdealRules.named_const.Statement Cert.Kernel33Ideal.κ "inv_bias1" .f32 0x3FC48605#32 ((8388608 / 5463681 : ℝ) : EReal)
  ∧ IdealRules.named_const.Statement Cert.Kernel33Ideal.κ "inv_bias2" .f32 0x42C8E6D3#32 ((268435456 / 2672307 : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg1) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v18) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v14) = v0 c
          ∧ r.2.mem ((c.tc : Thread Cert.Reference35Ideal.nD Cert.Reference35Ideal.τ).loc Cert.Reference35Ideal.main_v33) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v21) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v20) = v0 c
          ∧ r.2.mem ((c.tc : Thread Cert.Reference38Ideal.nD Cert.Reference38Ideal.τ).loc Cert.Reference38Ideal.main_v34) = v1 c
          ∧ r.2.mem ((c.tc : Thread Cert.Reference38Ideal.nD Cert.Reference38Ideal.τ).loc Cert.Reference38Ideal.main_v36) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite.lean ====
abbrev S2048x4096 : Shape := ⟨2, ![2048, 4096]⟩
abbrev S2048x128 : Shape := ⟨2, ![2048, 128]⟩
abbrev S2048x2048 : Shape := ⟨2, ![2048, 2048]⟩
abbrev S2048x256 : Shape := ⟨2, ![2048, 256]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bitsLt_bf16_f32 : FTy.bits .bf16 < FTy.bits .f32
  bcast_S_S2048x128 : S_.BroadcastsInDim S2048x128 (![] : Fin 0 → Fin S2048x128.rank)
  reducesTo_S2048x128_S_d0_1 : S2048x128.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_v15 : IVec S_ 1) (main_v17 : FVec F S2048x2048 .f32) : IVec S_ 1 :=
  let main_cst_4 : FVec F S_ .f32 := constant S_ .f32 0x7F800000#32
  let main_v18 : FVec F S2048x2048 .f32 := broadcastInDim S2048x2048 ![] bcast_S_S2048x2048 main_cst_4
  let main_v19 : IVec S2048x2048 1 := cmpf .olt main_v17 main_v18
  let main_c_5 : IVec S_ 1 := constantI S_ 1 1#1
  let main_v20 : IVec S_ 1 := (fun x v => Host.reduce IntOp.andi x v reducesTo_S2048x2048_S_d0_1 h_S_) main_v19 main_c_5
  let main_v21 : IVec S_ 1 := andi main_v15 main_v20
  let main_v22 : FVec F S2048x256 .f32 := Host.absf main_arg4
  let main_cst_6 : FVec F S_ .f32 := constant S_ .f32 0x7F800000#32
  let main_v23 : FVec F S2048x256 .f32 := broadcastInDim S2048x256 ![] bcast_S_S2048x256 main_cst_6
  let main_v24 : IVec S2048x256 1 := cmpf .olt main_v22 main_v23
  let main_c_7 : IVec S_ 1 := constantI S_ 1 1#1
  let main_v25 : IVec S_ 1 := (fun x v => Host.reduce IntOp.andi x v reducesTo_S2048x256_S_d0_1 h_S_) main_v24 main_c_7
  let main_v26 : IVec S_ 1 := andi main_v21 main_v25
  main_v26

def fn {F : FTy → Type} [FloatOps F] (main_arg0 : FVec F S2048x4096 .f32) (main_arg1 : FVec F S2048x4096 .bf16) (main_arg2 : FVec F S2048x128 .bf16) (main_arg3 : FVec F S2048x2048 .bf16) (main_arg4 : FVec F S2048x256 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := (extf .f32 · bitsLt_bf16_f32) main_arg1
  let main_v5 : FVec F S2048x4096 .f32 := Host.absf main_v4
  let main_cst_0 : FVec F S_ .f32 := constant S_ .f32 0x7F800000#32
  let main_v6 : FVec F S2048x4096 .f32 := broadcastInDim S2048x4096 ![] bcast_S_S2048x4096 main_cst_0
  let main_v7 : IVec S2048x4096 1 := cmpf .olt main_v5 main_v6
  let main_c_1 : IVec S_ 1 := constantI S_ 1 1#1
  let main_v8 : IVec S_ 1 := (fun x v => Host.reduce IntOp.andi x v reducesTo_S2048x4096_S_d0_1 h_S_) main_v7 main_c_1
  let main_v9 : IVec S_ 1 := andi main_v3 main_v8
  let main_v10 : FVec F S2048x128 .f32 := (extf .f32 · bitsLt_bf16_f32) main_arg2
  let main_v11 : FVec F S2048x128 .f32 := Host.absf main_v10
  let main_cst_2 : FVec F S_ .f32 := constant S_ .f32 0x7F800000#32
  let main_v12 : FVec F S2048x128 .f32 := broadcastInDim S2048x128 ![] bcast_S_S2048x128 main_cst_2
  let main_v13 : IVec S2048x128 1 := cmpf .olt main_v11 main_v12
  let main_c_3 : IVec S_ 1 := constantI S_ 1 1#1
  let main_v14 : IVec S_ 1 := (fun x v => Host.reduce IntOp.andi x v reducesTo_S2048x128_S_d0_1 h_S_) main_v13 main_c_3
  let main_v15 : IVec S_ 1 := andi main_v9 main_v14
  let main_v16 : FVec F S2048x2048 .f32 := (extf .f32 · bitsLt_bf16_f32) main_arg3
  let main_v17 : FVec F S2048x2048 .f32 := Host.absf main_v16
  fn_part1 (F := F) main_arg4 main_v15 main_v17
-- ==== Kernel.lean ====
abbrev S2048x4096 : Shape := ⟨2, ![2048, 4096]⟩
abbrev S2048x128 : Shape := ⟨2, ![2048, 128]⟩
abbrev S2048x2048 : Shape := ⟨2, ![2048, 2048]⟩
abbrev S2048x256 : Shape := ⟨2, ![2048, 256]⟩
abbrev S2048x16x256 : Shape := ⟨3, ![2048, 16, 256]⟩
abbrev S2048x1x256 : Shape := ⟨3, ![2048, 1, 256]⟩
abbrev S2048x16x128 : Shape := ⟨3, ![2048, 16, 128]⟩
abbrev S2048x1x128 : Shape := ⟨3, ![2048, 1, 128]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S_ : Shape := ⟨0, ![]⟩
abbrev S16x2048 : Shape := ⟨2, ![16, 2048]⟩
abbrev S16x2048x1 : Shape := ⟨3, ![16, 2048, 1]⟩
abbrev S16x128x2048 : Shape := ⟨3, ![16, 128, 2048]⟩
abbrev S16x2048x128 : Shape := ⟨3, ![16, 2048, 128]⟩
abbrev S512x512 : Shape := ⟨2, ![512, 512]⟩
abbrev S512x256 : Shape := ⟨2, ![512, 256]⟩
abbrev S512x128 : Shape := ⟨2, ![512, 128]⟩
abbrev S2x512x128 : Shape := ⟨3, ![2, 512, 128]⟩
abbrev S2048x512 : Shape := ⟨2, ![2048, 512]⟩
abbrev S256x256 : Shape := ⟨2, ![256, 256]⟩
abbrev S256x128 : Shape := ⟨2, ![256, 128]⟩
abbrev S256x512 : Shape := ⟨2, ![256, 512]⟩
abbrev S1x256x1 : Shape := ⟨3, ![1, 256, 1]⟩
abbrev S256x1 : Shape := ⟨2, ![256, 1]⟩
abbrev S256 : Shape := ⟨1, ![256]⟩

abbrev nBuf : Space → Nat
  | .hbm => 56
  | .vmem => 24
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S2048x128, .bf16⟩
  | .hbm, ⟨3, _⟩ => ⟨S2048x2048, .bf16⟩
  | .hbm, ⟨4, _⟩ => ⟨S2048x256, .f32⟩
  | .hbm, ⟨5, _⟩ => ⟨S2048x16x256, .f32⟩
  | .hbm, ⟨6, _⟩ => ⟨S2048x1x256, .f32⟩
  | .hbm, ⟨7, _⟩ => ⟨S2048x16x256, .f32⟩
  | .hbm, ⟨8, _⟩ => ⟨S2048x16x256, .f32⟩
  | .hbm, ⟨9, _⟩ => ⟨S2048x2048, .bf16⟩
  | .hbm, ⟨10, _⟩ => ⟨S2048x2048, .f32⟩
  | .hbm, ⟨11, _⟩ => ⟨S2048x16x128, .f32⟩
  | .hbm, ⟨12, _⟩ => ⟨S2048x128, .f32⟩
  | .hbm, ⟨13, _⟩ => ⟨S2048x1x128, .f32⟩
  | .hbm, ⟨14, _⟩ => ⟨S2048x16x128, .f32⟩
  | .hbm, ⟨15, _⟩ => ⟨S2048x16x256, .f32⟩
  | .hbm, ⟨16, _⟩ => ⟨S2048x2048, .bf16⟩
  | .hbm, ⟨17, _⟩ => ⟨S2048x2048, .f32⟩
  | .hbm, ⟨18, _⟩ => ⟨S2048x16x128, .f32⟩
  | .hbm, ⟨19, _⟩ => ⟨S16x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S16x2048x2048, .f32⟩
  | .hbm, ⟨43, _⟩ => ⟨S16x2048x2048, .f32⟩
  | .hbm, ⟨44, _⟩ => ⟨S16x128x2048, .f32⟩
  | .hbm, ⟨45, _⟩ => ⟨S2048x16x128, .f32⟩
  | .hbm, ⟨46, _⟩ => ⟨S2048x2048, .f32⟩
  | .hbm, ⟨47, _⟩ => ⟨S16x2048x1, .f32⟩
  | .hbm, ⟨48, _⟩ => ⟨S16x2048x1, .f32⟩
  | .hbm, ⟨49, _⟩ => ⟨S16x2048x128, .f32⟩
  | .hbm, ⟨50, _⟩ => ⟨S2048x4096, .f32⟩
  | .hbm, ⟨51, _⟩ => ⟨S2048x4096, .bf16⟩
  | .hbm, ⟨52, _⟩ => ⟨S2048x2048, .bf16⟩
  | .hbm, ⟨53, _⟩ => ⟨S2048x4096, .bf16⟩
  | .hbm, ⟨54, _⟩ => ⟨S2048x4096, .bf16⟩
  | .hbm, ⟨55, _⟩ => ⟨S2048x2048, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S2x512x128, .f32⟩
  | .local _ .vmem, ⟨13, _⟩ => ⟨S2x512x128, .f32⟩
  | .local _ .vmem, ⟨14, _⟩ => ⟨S2048x256, .f32⟩
  | .local _ .vmem, ⟨15, _⟩ => ⟨S2048x512, .bf16⟩
  | .local _ .vmem, ⟨16, _⟩ => ⟨S2048x512, .bf16⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | .local _ .vmem, ⟨21, _⟩ => ⟨S512x512, .f32⟩
  | .local _ .vmem, ⟨22, _⟩ => ⟨S512x256, .f32⟩
  | .local _ .vmem, ⟨23, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let arg1 : BitVec 32 := BitVec.ofNat 32 (i 1).val
  let v5 : BitVec 1 := Scalar.cmpi .eq arg2 arg1
  let v6 : BitVec 32 := Scalar.extui v5
  let c0_i32_2 : BitVec 32 := 0#32
  let v7 : BitVec 1 := Scalar.cmpi .ne v6 c0_i32_2
  v7

def k0_mult1 (i : grid0.Coords) : BitVec 32 :=
  let arg2 : BitVec 32 := BitVec.ofNat 32 (i 2).val
  let c512_i32 : BitVec 32 := 512#32
  let v51 : BitVec 32 := Scalar.muli arg2 c512_i32
  let c256_i32_24 : BitVec 32 := 256#32
  let v52 : BitVec 32 := Scalar.addi v51 c256_i32_24
  v52
def k0_off1 (i : grid0.Coords) (c256_i32_24 : BitVec 32) : Fin 2 → Nat :=
  let arg2 : BitVec 32 := BitVec.ofNat 32 (i 2).val
  let c512_i32 : BitVec 32 := 512#32
  let v51 : BitVec 32 := Scalar.muli arg2 c512_i32
  let v52 : BitVec 32 := Scalar.addi v51 c256_i32_24
  let v53 : BitVec 32 := v52
  let v54 : Index := Scalar.indexCast v53
  let c0_25 : Index := 0#32
  ![v54.toNat, 0]
def k0_mult2 (i : grid0.Coords) : BitVec 32 :=
  let arg2 : BitVec 32 := BitVec.ofNat 32 (i 2).val
  let c512_i32_54 : BitVec 32 := 512#32
  let v103 : BitVec 32 := Scalar.muli arg2 c512_i32_54
  let c0_i32_55 : BitVec 32 := 0#32
  let v104 : BitVec 32 := Scalar.addi v103 c0_i32_55
  v104
def k0_mult3 (i : grid0.Coords) : BitVec 32 :=
  let arg2 : BitVec 32 := BitVec.ofNat 32 (i 2).val
  let c512_i32_87 : BitVec 32 := 512#32
  let v159 : BitVec 32 := Scalar.muli arg2 c512_i32_87
  let c256_i32_88 : BitVec 32 := 256#32
  let v160 : BitVec 32 := Scalar.addi v159 c256_i32_88
  v160
def k0_off2 (i : grid0.Coords) (c256_i32_88 : BitVec 32) : Fin 2 → Nat :=
  let arg2 : BitVec 32 := BitVec.ofNat 32 (i 2).val
  let c512_i32_87 : BitVec 32 := 512#32
  let v159 : BitVec 32 := Scalar.muli arg2 c512_i32_87
  let v160 : BitVec 32 := Scalar.addi v159 c256_i32_88
  let v161 : BitVec 32 := v160
  let v162 : Index := Scalar.indexCast v161
  let c256_89 : Index := 256#32
  ![v162.toNat, 256]
def k0_mult4 (i : grid0.Coords) : BitVec 32 :=
  let arg2 : BitVec 32 := BitVec.ofNat 32 (i 2).val
  let c512_i32_118 : BitVec 32 := 512#32
  let v211 : BitVec 32 := Scalar.muli arg2 c512_i32_118
  let c0_i32_119 : BitVec 32 := 0#32
  let v212 : BitVec 32 := Scalar.addi v211 c0_i32_119
  v212
def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_3 : BitVec 32 := 0#32
  let v10 : BitVec 1 := Scalar.cmpi .ne v9 c0_i32_3
  v10

def k0_mult5 (i : grid0.Coords) : BitVec 32 :=
  let arg2 : BitVec 32 := BitVec.ofNat 32 (i 2).val
  let c512_i32 : BitVec 32 := 512#32
  let v44 : BitVec 32 := Scalar.muli arg2 c512_i32
  let c0_i32_24 : BitVec 32 := 0#32
  let v45 : BitVec 32 := Scalar.addi v44 c0_i32_24
  v45
def k0_off3 (i : grid0.Coords) (c0_i32_24 : BitVec 32) : Fin 2 → Nat :=
  let arg2 : BitVec 32 := BitVec.ofNat 32 (i 2).val
  let c512_i32 : BitVec 32 := 512#32
  let v44 : BitVec 32 := Scalar.muli arg2 c512_i32
  let v45 : BitVec 32 := Scalar.addi v44 c0_i32_24
  let v46 : BitVec 32 := v45
  let v47 : Index := Scalar.indexCast v46
  let c0_25 : Index := 0#32
  ![v47.toNat, 0]
def k0_mult6 (i : grid0.Coords) : BitVec 32 :=
  let arg2 : BitVec 32 := BitVec.ofNat 32 (i 2).val
  let c512_i32_55 : BitVec 32 := 512#32
  let v93 : BitVec 32 := Scalar.muli arg2 c512_i32_55
  let c256_i32 : BitVec 32 := 256#32
  let v94 : BitVec 32 := Scalar.addi v93 c256_i32
  v94
def k0_mult7 (i : grid0.Coords) : BitVec 32 :=
  let arg2 : BitVec 32 := BitVec.ofNat 32 (i 2).val
  let c512_i32_85 : BitVec 32 := 512#32
  let v142 : BitVec 32 := Scalar.muli arg2 c512_i32_85
  let c0_i32_86 : BitVec 32 := 0#32
  let v143 : BitVec 32 := Scalar.addi v142 c0_i32_86
  v143
def k0_off4 (i : grid0.Coords) (c0_i32_86 : BitVec 32) : Fin 2 → Nat :=
  let arg2 : BitVec 32 := BitVec.ofNat 32 (i 2).val
  let c512_i32_85 : BitVec 32 := 512#32
  let v142 : BitVec 32 := Scalar.muli arg2 c512_i32_85
  let v143 : BitVec 32 := Scalar.addi v142 c0_i32_86
  let v144 : BitVec 32 := v143
  let v145 : Index := Scalar.indexCast v144
  let c256_87 : Index := 256#32
  ![v145.toNat, 256]
def k0_mult8 (i : grid0.Coords) : BitVec 32 :=
  let arg2 : BitVec 32 := BitVec.ofNat 32 (i 2).val
  let c512_i32_118 : BitVec 32 := 512#32
  let v191 : BitVec 32 := Scalar.muli arg2 c512_i32_118
  let c256_i32_119 : BitVec 32 := 256#32
  let v192 : BitVec 32 := Scalar.addi v191 c256_i32_119
  v192
def k0_cond5 (i : grid0.Coords) : BitVec 1 :=
  let arg1 : BitVec 32 := BitVec.ofNat 32 (i 1).val
  let c3_i32_5 : BitVec 32 := 3#32
  let v14 : BitVec 1 := Scalar.cmpi .eq arg1 c3_i32_5
  let arg2 : BitVec 32 := BitVec.ofNat 32 (i 2).val
  let c3_i32_6 : BitVec 32 := 3#32
  let v15 : BitVec 1 := Scalar.cmpi .eq arg2 c3_i32_6
  let v16 : BitVec 1 := Scalar.andi v14 v15
  let v17 : BitVec 32 := Scalar.extui v16
  let c0_i32_7 : BitVec 32 := 0#32
  let v18 : BitVec 1 := Scalar.cmpi .ne v17 c0_i32_7
  v18

def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2048x4096 : Shape := ⟨2, ![2048, 4096]⟩
abbrev S2048x128 : Shape := ⟨2, ![2048, 128]⟩
abbrev S2048x2048 : Shape := ⟨2, ![2048, 2048]⟩
abbrev S2048x256 : Shape := ⟨2, ![2048, 256]⟩
abbrev S2048x16x128 : Shape := ⟨3, ![2048, 16, 128]⟩
abbrev S2048x1x128 : Shape := ⟨3, ![2048, 1, 128]⟩
abbrev S2048x16x256 : Shape := ⟨3, ![2048, 16, 256]⟩
abbrev S2048x1x256 : Shape := ⟨3, ![2048, 1, 256]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S_ : Shape := ⟨0, ![]⟩
abbrev S16x2048 : Shape := ⟨2, ![16, 2048]⟩
abbrev S16x2048x1 : Shape := ⟨3, ![16, 2048, 1]⟩
abbrev S16x128x2048 : Shape := ⟨3, ![16, 128, 2048]⟩
abbrev S16x2048x256 : Shape := ⟨3, ![16, 2048, 256]⟩

abbrev nBuf : Space → Nat
  | .hbm => 110
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S2048x128, .bf16⟩
  | .hbm, ⟨3, _⟩ => ⟨S2048x2048, .bf16⟩
  | .hbm, ⟨4, _⟩ => ⟨S2048x256, .f32⟩
  | .hbm, ⟨5, _⟩ => ⟨S2048x2048, .bf16⟩
  | .hbm, ⟨6, _⟩ => ⟨S2048x2048, .f32⟩
  | .hbm, ⟨7, _⟩ => ⟨S2048x16x128, .f32⟩
  | .hbm, ⟨8, _⟩ => ⟨S2048x128, .f32⟩
  | .hbm, ⟨9, _⟩ => ⟨S2048x1x128, .f32⟩
  | .hbm, ⟨10, _⟩ => ⟨S2048x16x128, .f32⟩
  | .hbm, ⟨11, _⟩ => ⟨S2048x16x256, .f32⟩
  | .hbm, ⟨12, _⟩ => ⟨S2048x2048, .bf16⟩
  | .hbm, ⟨13, _⟩ => ⟨S2048x2048, .f32⟩
  | .hbm, ⟨14, _⟩ => ⟨S2048x16x128, .f32⟩
  | .hbm, ⟨15, _⟩ => ⟨S2048x16x256, .f32⟩
  | .hbm, ⟨16, _⟩ => ⟨S2048x1x256, .f32⟩
  | .hbm, ⟨17, _⟩ => ⟨S2048x16x256, .f32⟩
  | .hbm, ⟨18, _⟩ => ⟨S2048x16x256, .f32⟩
  | .hbm, ⟨19, _⟩ => ⟨S16x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .i1⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x128x2048, .f32⟩
  | .hbm, ⟨74, _⟩ => ⟨S2048x16x128, .f32⟩
  | .hbm, ⟨75, _⟩ => ⟨S2048x2048, .f32⟩
  | .hbm, ⟨76, _⟩ => ⟨S2048x16x128, .f32⟩
  | .hbm, ⟨77, _⟩ => ⟨S16x128x2048, .f32⟩
  | .hbm, ⟨78, _⟩ => ⟨S16x2048x2048, .f32⟩
  | .hbm, ⟨79, _⟩ => ⟨S16x128x2048, .f32⟩
  | .hbm, ⟨80, _⟩ => ⟨S2048x16x128, .f32⟩
  | .hbm, ⟨81, _⟩ => ⟨S16x2048x2048, .f32⟩
  | .hbm, ⟨82, _⟩ => ⟨S16x2048x2048, .f32⟩
  | .hbm, ⟨83, _⟩ => ⟨S16x2048x2048, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S16x2048x1, .f32⟩
  | .hbm, ⟨88, _⟩ => ⟨S16x2048x2048, .f32⟩
  | .hbm, ⟨89, _⟩ => ⟨S16x2048x2048, .f32⟩
  | .hbm, ⟨90, _⟩ => ⟨S_, .f32⟩
  | .hbm, ⟨91, _⟩ => ⟨S16x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S_, .f32⟩
  | .hbm, ⟨96, _⟩ => ⟨S16x2048x2048, .f32⟩
  | .hbm, ⟨97, _⟩ => ⟨S16x2048x2048, .f32⟩
  | .hbm, ⟨98, _⟩ => ⟨S16x2048x256, .f32⟩
  | .hbm, ⟨99, _⟩ => ⟨S2048x16x256, .f32⟩
  | .hbm, ⟨100, _⟩ => ⟨S16x2048x256, .f32⟩
  | .hbm, ⟨101, _⟩ => ⟨S2048x16x256, .f32⟩
  | .hbm, ⟨102, _⟩ => ⟨S2048x16x256, .f32⟩
  | .hbm, ⟨103, _⟩ => ⟨S2048x16x256, .f32⟩
  | .hbm, ⟨104, _⟩ => ⟨S2048x4096, .f32⟩
  | .hbm, ⟨105, _⟩ => ⟨S2048x4096, .bf16⟩
  | .hbm, ⟨106, _⟩ => ⟨S2048x4096, .f32⟩
  | .hbm, ⟨107, _⟩ => ⟨S2048x4096, .bf16⟩
  | .hbm, ⟨108, _⟩ => ⟨S2048x2048, .f32⟩
  | .hbm, ⟨109, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call1_cst : Ref sig .tc := ⟨.hbm, 95, rfl⟩
abbrev main_call1_v0 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel2.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x5632 : Shape := ⟨3, ![2, 2048, 5632]⟩
abbrev S4x2048x2816 : Shape := ⟨3, ![4, 2048, 2816]⟩
abbrev S2048x2x5632 : Shape := ⟨3, ![2048, 2, 5632]⟩
abbrev S2048x11264 : Shape := ⟨2, ![2048, 11264]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2x5632, .bf16⟩
  | .hbm, ⟨3, _⟩ => ⟨S2048x11264, .bf16⟩
  | .hbm, ⟨4, _⟩ => ⟨S2048x4x2816, .bf16⟩
  | .hbm, ⟨5, _⟩ => ⟨S2048x11264, .bf16⟩
  | .hbm, ⟨6, _⟩ => ⟨S_, .f32⟩
  | .hbm, ⟨7, _⟩ => ⟨S2048x2048, .f32⟩
  | .hbm, ⟨8, _⟩ => ⟨S2048x11264, .f32⟩
  | .hbm, ⟨9, _⟩ => ⟨S2048x11264, .f32⟩
  | .hbm, ⟨10, _⟩ => ⟨S2048x11264, .f32⟩
  | .hbm, ⟨11, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x512 : Shape := ⟨2, ![2048, 512]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S512x4096, .f32⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x512 : Shape := ⟨2, ![2048, 512]⟩
abbrev S2048x4096 : Shape := ⟨2, ![2048, 4096]⟩
abbrev S_ : Shape := ⟨0, ![]⟩
abbrev S512x4096 : Shape := ⟨2, ![512, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x4096, .bf16⟩
  | .hbm, ⟨2, _⟩ => ⟨S_, .f32⟩
  | .hbm, ⟨3, _⟩ => ⟨S512x4096, .f32⟩
  | .hbm, ⟨4, _⟩ => ⟨S2048x512, .f32⟩
  | .hbm, ⟨5, _⟩ => ⟨S2048x4096, .f32⟩
  | .hbm, ⟨6, _⟩ => ⟨S2048x4096, .f32⟩
  | .hbm, ⟨7, _⟩ => ⟨S4096x512, .f32⟩
  | .hbm, ⟨8, _⟩ => ⟨S512x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x4096 : Shape := ⟨2, ![2048, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S2048x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S512x4096 : Shape := ⟨2, ![512, 4096]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S512x4096, .bf16⟩
  | .hbm, ⟨2, _⟩ => ⟨S_, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x4096, .f32⟩
  | .hbm, ⟨7, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x256 : Shape := ⟨2, ![2048, 256]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S256x4096, .bf16⟩
  | .local _ .vmem, ⟨0, _⟩ => ⟨S2048x256, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x256 : Shape := ⟨2, ![2048, 256]⟩
abbrev S2048x4096 : Shape := ⟨2, ![2048, 4096]⟩
abbrev S_ : Shape := ⟨0, ![]⟩
abbrev S256x4096 : Shape := ⟨2, ![256, 4096]⟩
abbrev S4096x256 : Shape := ⟨2, ![4096, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x4096, .bf16⟩
  | .hbm, ⟨2, _⟩ => ⟨S_, .f32⟩
  | .hbm, ⟨3, _⟩ => ⟨S256x4096, .f32⟩
  | .hbm, ⟨4, _⟩ => ⟨S2048x256, .f32⟩
  | .hbm, ⟨5, _⟩ => ⟨S2048x4096, .f32⟩
  | .hbm, ⟨6, _⟩ => ⟨S2048x4096, .f32⟩
  | .hbm, ⟨7, _⟩ => ⟨S4096x256, .f32⟩
  | .hbm, ⟨8, _⟩ => ⟨S256x4096, .f32⟩
  | .hbm, ⟨9, _⟩ => ⟨S256x4096, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x4096 : Shape := ⟨2, ![2048, 4096]⟩
abbrev S256x4096 : Shape := ⟨2, ![256, 4096]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S256x4096, .bf16⟩
  | .hbm, ⟨2, _⟩ => ⟨S2048x256, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x4096 : Shape := ⟨2, ![2048, 4096]⟩
abbrev S256x4096 : Shape := ⟨2, ![256, 4096]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S256x4096, .bf16⟩
  | .hbm, ⟨2, _⟩ => ⟨S_, .f32⟩
  | .hbm, ⟨3, _⟩ => ⟨S2048x256, .f32⟩
  | .hbm, ⟨4, _⟩ => ⟨S256x4096, .f32⟩
  | .hbm, ⟨5, _⟩ => ⟨S2048x4096, .f32⟩
  | .hbm, ⟨6, _⟩ => ⟨S2048x4096, .f32⟩
  | .hbm, ⟨7, _⟩ => ⟨S2048x256, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x896 : Shape := ⟨2, ![2048, 896]⟩
abbrev S2048x2048 : Shape := ⟨2, ![2048, 2048]⟩
abbrev S896x2048 : Shape := ⟨2, ![896, 2048]⟩
abbrev S2048x1024 : Shape := ⟨2, ![2048, 1024]⟩
abbrev S896x1024 : Shape := ⟨2, ![896, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x896, .bf16⟩
  | .hbm, ⟨1, _⟩ => ⟨S2048x2048, .bf16⟩
  | .hbm, ⟨2, _⟩ => ⟨S896x2048, .f32⟩
  | .local _ .vmem, ⟨0, _⟩ => ⟨S2048x896, .bf16⟩
  | .local _ .vmem, ⟨1, _⟩ => ⟨S2048x1024, .bf16⟩
  | .local _ .vmem, ⟨2, _⟩ => ⟨S2048x1024, .bf16⟩
  | .local _ .vmem, ⟨3, _⟩ => ⟨S896x1024, .f32⟩
  | .local _ .vmem, ⟨4, _⟩ => ⟨S896x1024, .f32⟩
  | _, _ => ⟨S2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x896 : Shape := ⟨2, ![2048, 896]⟩
abbrev S2048x2048 : Shape := ⟨2, ![2048, 2048]⟩
abbrev S_ : Shape := ⟨0, ![]⟩
abbrev S896x2048 : Shape := ⟨2, ![896, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x896, .bf16⟩
  | .hbm, ⟨1, _⟩ => ⟨S2048x2048, .bf16⟩
  | .hbm, ⟨2, _⟩ => ⟨S_, .f32⟩
  | .hbm, ⟨3, _⟩ => ⟨S2048x896, .f32⟩
  | .hbm, ⟨4, _⟩ => ⟨S2048x2048, .f32⟩
  | .hbm, ⟨5, _⟩ => ⟨S2048x896, .f32⟩
  | .hbm, ⟨6, _⟩ => ⟨S2048x896, .f32⟩
  | .hbm, ⟨7, _⟩ => ⟨S896x2048, .f32⟩
  | .hbm, ⟨8, _⟩ => ⟨S2048x896, .f32⟩
  | .hbm, ⟨9, _⟩ => ⟨S896x2048, .f32⟩
  | _, _ => ⟨S2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x2048 : Shape := ⟨2, ![2048, 2048]⟩
abbrev S896x2048 : Shape := ⟨2, ![896, 2048]⟩
abbrev S2048x896 : Shape := ⟨2, ![2048, 896]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S896x2048, .bf16⟩
  | .hbm, ⟨2, _⟩ => ⟨S2048x896, .f32⟩
  | .local _ .vmem, ⟨0, _⟩ => ⟨S2048x2048, .bf16⟩
  | .local _ .vmem, ⟨1, _⟩ => ⟨S896x2048, .bf16⟩
  | .local _ .vmem, ⟨2, _⟩ => ⟨S2048x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S896x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S896x2048 : Shape := ⟨2, ![896, 2048]⟩
abbrev S2048x896 : Shape := ⟨2, ![2048, 896]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S896x2048, .bf16⟩
  | .hbm, ⟨2, _⟩ => ⟨S2048x896, .bf16⟩
  | .hbm, ⟨3, _⟩ => ⟨S2048x2048, .f32⟩
  | .hbm, ⟨4, _⟩ => ⟨S2048x896, .f32⟩
  | .hbm, ⟨5, _⟩ => ⟨S2048x896, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x512 : Shape := ⟨2, ![2048, 512]⟩
abbrev S512x4096 : Shape := ⟨2, ![512, 4096]⟩
abbrev S2048x256 : Shape := ⟨2, ![2048, 256]⟩
abbrev S2048x4096 : Shape := ⟨2, ![2048, 4096]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x256, .f32⟩
  | .hbm, ⟨3, _⟩ => ⟨S2048x4096, .bf16⟩
  | .local _ .vmem, ⟨0, _⟩ => ⟨S2048x512, .bf16⟩
  | .local _ .vmem, ⟨1, _⟩ => ⟨S512x256, .bf16⟩
  | .local _ .vmem, ⟨2, _⟩ => ⟨S512x256, .bf16⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x512 : Shape := ⟨2, ![2048, 512]⟩
abbrev S512x4096 : Shape := ⟨2, ![512, 4096]⟩
abbrev S2048x256 : Shape := ⟨2, ![2048, 256]⟩
abbrev S2048x4096 : Shape := ⟨2, ![2048, 4096]⟩
abbrev S2048x16x256 : Shape := ⟨3, ![2048, 16, 256]⟩
abbrev S2048x1x256 : Shape := ⟨3, ![2048, 1, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x4096, .bf16⟩
  | .hbm, ⟨2, _⟩ => ⟨S2048x256, .f32⟩
  | .hbm, ⟨3, _⟩ => ⟨S2048x512, .f32⟩
  | .hbm, ⟨4, _⟩ => ⟨S512x4096, .f32⟩
  | .hbm, ⟨5, _⟩ => ⟨S2048x4096, .f32⟩
  | .hbm, ⟨6, _⟩ => ⟨S2048x16x256, .f32⟩
  | .hbm, ⟨7, _⟩ => ⟨S2048x1x256, .f32⟩
  | .hbm, ⟨8, _⟩ => ⟨S2048x16x256, .f32⟩
  | .hbm, ⟨9, _⟩ => ⟨S2048x16x256, .f32⟩
  | .hbm, ⟨10, _⟩ => ⟨S2048x4096, .f32⟩
  | .hbm, ⟨11, _⟩ => ⟨S2048x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S2048x256 : Shape := ⟨2, ![2048, 256]⟩
abbrev S256x4096 : Shape := ⟨2, ![256, 4096]⟩
abbrev S2048x4096 : Shape := ⟨2, ![2048, 4096]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S256x4096, .bf16⟩
  | .hbm, ⟨2, _⟩ => ⟨S2048x4096, .bf16⟩
  | .local _ .vmem, ⟨0, _⟩ => ⟨S2048x256, .bf16⟩
  | .local _ .vmem, ⟨1, _⟩ => ⟨S256x1024, .bf16⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x256 : Shape := ⟨2, ![2048, 256]⟩
abbrev S256x4096 : Shape := ⟨2, ![256, 4096]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x4096, .bf16⟩
  | .hbm, ⟨2, _⟩ => ⟨S2048x256, .f32⟩
  | .hbm, ⟨3, _⟩ => ⟨S256x4096, .f32⟩
  | .hbm, ⟨4, _⟩ => ⟨S2048x4096, .f32⟩
  | .hbm, ⟨5, _⟩ => ⟨S2048x4096, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S2048x5632 : Shape := ⟨2, ![2048, 5632]⟩
abbrev S5632x2048 : Shape := ⟨2, ![5632, 2048]⟩
abbrev S2048x2048 : Shape := ⟨2, ![2048, 2048]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_12 : BitVec 32 := 0#32
  let v21 : BitVec 1 := Scalar.cmpi .sgt arg0 c0_i32_12
  let v22 : BitVec 32 := Scalar.extui v21
  let c0_i32_13 : BitVec 32 := 0#32
  let v23 : BitVec 1 := Scalar.cmpi .ne v22 c0_i32_13
  v23

def k0_cond3 (i : grid0.Coords) : BitVec 1 :=
  let arg0 : BitVec 32 := BitVec.ofNat 32 (i 0).val
  let c0_i32_15 : BitVec 32 := 0#32
  let v29 : BitVec 1 := Scalar.cmpi .eq arg0 c0_i32_15
  let v30 : BitVec 32 := Scalar.extui v29
  let c0_i32_16 : BitVec 32 := 0#32
  let v31 : BitVec 1 := Scalar.cmpi .ne v30 c0_i32_16
  v31

def k0_cond4 (i : grid0.Coords) : BitVec 1 :=
  let arg0 : BitVec 32 := BitVec.ofNat 32 (i 0).val
  let c0_i32_17 : BitVec 32 := 0#32
  let v32 : BitVec 1 := Scalar.cmpi .sgt arg0 c0_i32_17
  let v33 : BitVec 32 := Scalar.extui v32
  let c0_i32_18 : BitVec 32 := 0#32
  let v34 : BitVec 1 := Scalar.cmpi .ne v33 c0_i32_18
  v34

def k0_cond5 (i : grid0.Coords) : BitVec 1 :=
  let arg0 : BitVec 32 := BitVec.ofNat 32 (i 0).val
  let c0_i32_20 : BitVec 32 := 0#32
  let v40 : BitVec 1 := Scalar.cmpi .eq arg0 c0_i32_20
  let v41 : BitVec 32 := Scalar.extui v40
  let c0_i32_21 : BitVec 32 := 0#32
  let v42 : BitVec 1 := Scalar.cmpi .ne v41 c0_i32_21
  v42

def k0_cond6 (i : grid0.Coords) : BitVec 1 :=
  let arg0 : BitVec 32 := BitVec.ofNat 32 (i 0).val
  let c0_i32_22 : BitVec 32 := 0#32
  let v43 : BitVec 1 := Scalar.cmpi .sgt arg0 c0_i32_22
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference17Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg0 : BitVec 32 := BitVec.ofNat 32 (i 0).val
  let c0_i32_11 : BitVec 32 := 0#32
  let v22 : BitVec 1 := Scalar.cmpi .sgt arg0 c0_i32_11
  let v23 : BitVec 32 := Scalar.extui v22
  let c0_i32_12 : BitVec 32 := 0#32
  let v24 : BitVec 1 := Scalar.cmpi .ne v23 c0_i32_12
  v24

def k0_cond3 (i : grid0.Coords) : BitVec 1 :=
  let arg0 : BitVec 32 := BitVec.ofNat 32 (i 0).val
  let c0_i32_14 : BitVec 32 := 0#32
  let v30 : BitVec 1 := Scalar.cmpi .eq arg0 c0_i32_14
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c0_i32_16 : BitVec 32 := 0#32
  let v33 : BitVec 1 := Scalar.cmpi .sgt arg0 c0_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel19.lean ====
abbrev S2048x2048 : Shape := ⟨2, ![2048, 2048]⟩
abbrev S8192x2048 : Shape := ⟨2, ![8192, 2048]⟩
abbrev S2048x8192 : Shape := ⟨2, ![2048, 8192]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S8192x2048 : Shape := ⟨2, ![8192, 2048]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S2048x2048 : Shape := ⟨2, ![2048, 2048]⟩
abbrev S4x2048x2816 : Shape := ⟨3, ![4, 2048, 2816]⟩
abbrev S2048x11264 : Shape := ⟨2, ![2048, 11264]⟩
abbrev S1x2048x1408 : Shape := ⟨3, ![1, 2048, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .bf16⟩
  | .local _ .vmem, ⟨0, _⟩ => ⟨S2048x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S2048x1408, .bf16⟩
  | .local _ .vmem, ⟨4, _⟩ => ⟨S2048x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel21.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x2048 : Shape := ⟨2, ![2048, 2048]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2x5632, .bf16⟩
  | .hbm, ⟨3, _⟩ => ⟨S2048x11264, .bf16⟩
  | .hbm, ⟨4, _⟩ => ⟨S_, .f32⟩
  | .hbm, ⟨5, _⟩ => ⟨S2048x11264, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel23.lean ====
abbrev S2048x8192 : Shape := ⟨2, ![2048, 8192]⟩
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .bf16⟩
  | .hbm, ⟨3, _⟩ => ⟨S_, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel25.lean ====
abbrev S2048x896 : Shape := ⟨2, ![2048, 896]⟩
abbrev S896x2048 : Shape := ⟨2, ![896, 2048]⟩
abbrev S2048x2048 : Shape := ⟨2, ![2048, 2048]⟩
abbrev S896x512 : Shape := ⟨2, ![896, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x896, .bf16⟩
  | .hbm, ⟨1, _⟩ => ⟨S896x2048, .bf16⟩
  | .hbm, ⟨2, _⟩ => ⟨S2048x2048, .f32⟩
  | .hbm, ⟨3, _⟩ => ⟨S2048x2048, .f32⟩
  | .local _ .vmem, ⟨0, _⟩ => ⟨S2048x896, .bf16⟩
  | .local _ .vmem, ⟨1, _⟩ => ⟨S896x512, .bf16⟩
  | .local _ .vmem, ⟨2, _⟩ => ⟨S896x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S896x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S2048x896 : Shape := ⟨2, ![2048, 896]⟩
abbrev S896x2048 : Shape := ⟨2, ![896, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x896, .bf16⟩
  | .hbm, ⟨1, _⟩ => ⟨S896x2048, .bf16⟩
  | .hbm, ⟨2, _⟩ => ⟨S2048x2048, .f32⟩
  | .hbm, ⟨3, _⟩ => ⟨S2048x896, .bf16⟩
  | .hbm, ⟨4, _⟩ => ⟨S_, .f32⟩
  | .hbm, ⟨5, _⟩ => ⟨S2048x2048, .f32⟩
  | .hbm, ⟨6, _⟩ => ⟨S2048x896, .f32⟩
  | .hbm, ⟨7, _⟩ => ⟨S2048x896, .f32⟩
  | .hbm, ⟨8, _⟩ => ⟨S2048x896, .f32⟩
  | .hbm, ⟨9, _⟩ => ⟨S2048x2048, .f32⟩
  | .hbm, ⟨10, _⟩ => ⟨S2048x2048, .f32⟩
  | _, _ => ⟨S2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel26.lean ====
abbrev S2416x128 : Shape := ⟨2, ![2416, 128]⟩

abbrev nBuf : Space → Nat
  | .hbm => 7
  | .vmem => 7
  | .smem => 0
  | _ => 0

abbrev bufTy : (tb : Table) → Fin (tcTables nBuf tb) → BufTy
  | .hbm, ⟨0, _⟩ => ⟨S2416x128, .f32⟩
  | .hbm, ⟨1, _⟩ => ⟨S2416x128, .f32⟩
  | .hbm, ⟨2, _⟩ => ⟨S2416x128, .f32⟩
  | .hbm, ⟨3, _⟩ => ⟨S2416x128, .f32⟩
  | .hbm, ⟨4, _⟩ => ⟨S2416x128, .f32⟩
  | .hbm, ⟨5, _⟩ => ⟨S2416x128, .f32⟩
  | .hbm, ⟨6, _⟩ => ⟨S2416x128, .f32⟩
  | .local _ .vmem, ⟨0, _⟩ => ⟨S2416x128, .f32⟩
  | .local _ .vmem, ⟨1, _⟩ => ⟨S2416x128, .f32⟩
  | .local _ .vmem, ⟨2, _⟩ => ⟨S2416x128, .f32⟩
  | .local _ .vmem, ⟨3, _⟩ => ⟨S2416x128, .f32⟩
  | .local _ .vmem, ⟨4, _⟩ => ⟨S2416x128, .f32⟩
  | .local _ .vmem, ⟨5, _⟩ => ⟨S2416x128, .f32⟩
  | .local _ .vmem, ⟨6, _⟩ => ⟨S2416x128, .f32⟩
  | _, _ => ⟨S2416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2416x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2416x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference26Ideal.lean ====
abbrev S2416x128 : Shape := ⟨2, ![2416, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2416x128, .f32⟩
  | .hbm, ⟨1, _⟩ => ⟨S2416x128, .f32⟩
  | .hbm, ⟨2, _⟩ => ⟨S2416x128, .f32⟩
  | .hbm, ⟨3, _⟩ => ⟨S2416x128, .f32⟩
  | .hbm, ⟨4, _⟩ => ⟨S_, .f32⟩
  | .hbm, ⟨5, _⟩ => ⟨S2416x128, .f32⟩
  | .hbm, ⟨6, _⟩ => ⟨S2416x128, .f32⟩
  | .hbm, ⟨7, _⟩ => ⟨S_, .f32⟩
  | .hbm, ⟨8, _⟩ => ⟨S2416x128, .f32⟩
  | .hbm, ⟨9, _⟩ => ⟨S2416x128, .f32⟩
  | .hbm, ⟨10, _⟩ => ⟨S2416x128, .f32⟩
  | .hbm, ⟨11, _⟩ => ⟨S_, .f32⟩
  | .hbm, ⟨12, _⟩ => ⟨S2416x128, .f32⟩
  | .hbm, ⟨13, _⟩ => ⟨S2416x128, .f32⟩
  | .hbm, ⟨14, _⟩ => ⟨S2416x128, .f32⟩
  | .hbm, ⟨15, _⟩ => ⟨S_, .f32⟩
  | .hbm, ⟨16, _⟩ => ⟨S2416x128, .f32⟩
  | .hbm, ⟨17, _⟩ => ⟨S2416x128, .f32⟩
  | .hbm, ⟨18, _⟩ => ⟨S2416x128, .f32⟩
  | .hbm, ⟨19, _⟩ => ⟨S_, .f32⟩
  | .hbm, ⟨20, _⟩ => ⟨S2416x128, .f32⟩
  | .hbm, ⟨21, _⟩ => ⟨S2416x128, .f32⟩
  | .hbm, ⟨22, _⟩ => ⟨S_, .f32⟩
  | .hbm, ⟨23, _⟩ => ⟨S2416x128, .f32⟩
  | .hbm, ⟨24, _⟩ => ⟨S2416x128, .f32⟩
  | .hbm, ⟨25, _⟩ => ⟨S2416x128, .f32⟩
  | .hbm, ⟨26, _⟩ => ⟨S_, .f32⟩
  | .hbm, ⟨27, _⟩ => ⟨S2416x128, .f32⟩
  | .hbm, ⟨28, _⟩ => ⟨S2416x128, .f32⟩
  | .hbm, ⟨29, _⟩ => ⟨S2416x128, .f32⟩
  | .hbm, ⟨30, _⟩ => ⟨S_, .f32⟩
  | .hbm, ⟨31, _⟩ => ⟨S2416x128, .f32⟩
  | .hbm, ⟨32, _⟩ => ⟨S2416x128, .f32⟩
  | .hbm, ⟨33, _⟩ => ⟨S2416x128, .f32⟩
  | .hbm, ⟨34, _⟩ => ⟨S_, .f32⟩
  | .hbm, ⟨35, _⟩ => ⟨S2416x128, .f32⟩
  | .hbm, ⟨36, _⟩ => ⟨S2416x128, .f32⟩
  | _, _ => ⟨S2416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2048x3072 : Shape := ⟨2, ![2048, 3072]⟩
abbrev S8x128 : Shape := ⟨2, ![8, 128]⟩
abbrev S256x3072 : Shape := ⟨2, ![256, 3072]⟩

abbrev nBuf : Space → Nat
  | .hbm => 8
  | .vmem => 15
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S8x128, .f32⟩
  | .hbm, ⟨5, _⟩ => ⟨S2048x3072, .f32⟩
  | .hbm, ⟨6, _⟩ => ⟨S2048x3072, .f32⟩
  | .hbm, ⟨7, _⟩ => ⟨S2048x3072, .f32⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S256x3072, .f32⟩
  | .local _ .vmem, ⟨7, _⟩ => ⟨S256x3072, .f32⟩
  | .local _ .vmem, ⟨8, _⟩ => ⟨S8x128, .f32⟩
  | .local _ .vmem, ⟨9, _⟩ => ⟨S256x3072, .f32⟩
  | .local _ .vmem, ⟨10, _⟩ => ⟨S256x3072, .f32⟩
  | .local _ .vmem, ⟨11, _⟩ => ⟨S256x3072, .f32⟩
  | .local _ .vmem, ⟨12, _⟩ => ⟨S256x3072, .f32⟩
  | .local _ .vmem, ⟨13, _⟩ => ⟨S256x3072, .f32⟩
  | .local _ .vmem, ⟨14, _⟩ => ⟨S256x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel27Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference27Ideal.lean ====
abbrev S2048x3072 : Shape := ⟨2, ![2048, 3072]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S8x128, .f32⟩
  | .hbm, ⟨5, _⟩ => ⟨S_, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S_, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel28.lean ====
abbrev S2256x2048 : Shape := ⟨2, ![2256, 2048]⟩
abbrev S376x2048 : Shape := ⟨2, ![376, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2256x2048, .f32⟩
  | .hbm, ⟨1, _⟩ => ⟨S2256x2048, .f32⟩
  | .hbm, ⟨2, _⟩ => ⟨S2256x2048, .f32⟩
  | .hbm, ⟨3, _⟩ => ⟨S2256x2048, .f32⟩
  | .hbm, ⟨4, _⟩ => ⟨S2256x2048, .f32⟩
  | .hbm, ⟨5, _⟩ => ⟨S2256x2048, .f32⟩
  | .hbm, ⟨6, _⟩ => ⟨S2256x2048, .f32⟩
  | .hbm, ⟨7, _⟩ => ⟨S2256x2048, .f32⟩
  | .local _ .vmem, ⟨0, _⟩ => ⟨S376x2048, .f32⟩
  | .local _ .vmem, ⟨1, _⟩ => ⟨S376x2048, .f32⟩
  | .local _ .vmem, ⟨2, _⟩ => ⟨S376x2048, .f32⟩
  | .local _ .vmem, ⟨3, _⟩ => ⟨S376x2048, .f32⟩
  | .local _ .vmem, ⟨4, _⟩ => ⟨S376x2048, .f32⟩
  | .local _ .vmem, ⟨5, _⟩ => ⟨S376x2048, .f32⟩
  | .local _ .vmem, ⟨6, _⟩ => ⟨S376x2048, .f32⟩
  | .local _ .vmem, ⟨7, _⟩ => ⟨S376x2048, .f32⟩
  | .local _ .vmem, ⟨8, _⟩ => ⟨S376x2048, .f32⟩
  | .local _ .vmem, ⟨9, _⟩ => ⟨S376x2048, .f32⟩
  | .local _ .vmem, ⟨10, _⟩ => ⟨S376x2048, .f32⟩
  | .local _ .vmem, ⟨11, _⟩ => ⟨S376x2048, .f32⟩
  | .local _ .vmem, ⟨12, _⟩ => ⟨S376x2048, .f32⟩
  | .local _ .vmem, ⟨13, _⟩ => ⟨S376x2048, .f32⟩
  | .local _ .vmem, ⟨14, _⟩ => ⟨S376x2048, .f32⟩
  | .local _ .vmem, ⟨15, _⟩ => ⟨S376x2048, .f32⟩
  | _, _ => ⟨S2256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S376x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S376x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S376x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S376x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S376x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S376x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S376x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S376x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel28Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference28Ideal.lean ====
abbrev S2256x2048 : Shape := ⟨2, ![2256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2256x2048, .f32⟩
  | .hbm, ⟨1, _⟩ => ⟨S2256x2048, .f32⟩
  | .hbm, ⟨2, _⟩ => ⟨S2256x2048, .f32⟩
  | .hbm, ⟨3, _⟩ => ⟨S2256x2048, .f32⟩
  | .hbm, ⟨4, _⟩ => ⟨S_, .f32⟩
  | .hbm, ⟨5, _⟩ => ⟨S2256x2048, .f32⟩
  | .hbm, ⟨6, _⟩ => ⟨S2256x2048, .f32⟩
  | .hbm, ⟨7, _⟩ => ⟨S_, .f32⟩
  | .hbm, ⟨8, _⟩ => ⟨S2256x2048, .f32⟩
  | .hbm, ⟨9, _⟩ => ⟨S2256x2048, .f32⟩
  | .hbm, ⟨10, _⟩ => ⟨S2256x2048, .f32⟩
  | .hbm, ⟨11, _⟩ => ⟨S_, .f32⟩
  | .hbm, ⟨12, _⟩ => ⟨S2256x2048, .f32⟩
  | .hbm, ⟨13, _⟩ => ⟨S2256x2048, .f32⟩
  | .hbm, ⟨14, _⟩ => ⟨S2256x2048, .f32⟩
  | .hbm, ⟨15, _⟩ => ⟨S_, .f32⟩
  | .hbm, ⟨16, _⟩ => ⟨S2256x2048, .f32⟩
  | .hbm, ⟨17, _⟩ => ⟨S2256x2048, .f32⟩
  | .hbm, ⟨18, _⟩ => ⟨S2256x2048, .f32⟩
  | .hbm, ⟨19, _⟩ => ⟨S_, .f32⟩
  | .hbm, ⟨20, _⟩ => ⟨S2256x2048, .f32⟩
  | .hbm, ⟨21, _⟩ => ⟨S2256x2048, .f32⟩
  | .hbm, ⟨22, _⟩ => ⟨S_, .f32⟩
  | .hbm, ⟨23, _⟩ => ⟨S2256x2048, .f32⟩
  | .hbm, ⟨24, _⟩ => ⟨S2256x2048, .f32⟩
  | .hbm, ⟨25, _⟩ => ⟨S2256x2048, .f32⟩
  | .hbm, ⟨26, _⟩ => ⟨S_, .f32⟩
  | .hbm, ⟨27, _⟩ => ⟨S2256x2048, .f32⟩
  | .hbm, ⟨28, _⟩ => ⟨S2256x2048, .f32⟩
  | .hbm, ⟨29, _⟩ => ⟨S2256x2048, .f32⟩
  | .hbm, ⟨30, _⟩ => ⟨S_, .f32⟩
  | .hbm, ⟨31, _⟩ => ⟨S2256x2048, .f32⟩
  | .hbm, ⟨32, _⟩ => ⟨S2256x2048, .f32⟩
  | .hbm, ⟨33, _⟩ => ⟨S2256x2048, .f32⟩
  | .hbm, ⟨34, _⟩ => ⟨S_, .f32⟩
  | .hbm, ⟨35, _⟩ => ⟨S2256x2048, .f32⟩
  | .hbm, ⟨36, _⟩ => ⟨S2256x2048, .f32⟩
  | _, _ => ⟨S2256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S512x2048 : Shape := ⟨2, ![512, 2048]⟩
abbrev S8x128 : Shape := ⟨2, ![8, 128]⟩
abbrev S256x2048 : Shape := ⟨2, ![256, 2048]⟩

abbrev nBuf : Space → Nat
  | .hbm => 9
  | .vmem => 17
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel29Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference29Ideal.lean ====
abbrev S512x2048 : Shape := ⟨2, ![512, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel30.lean ====
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S512x768, .f32⟩
  | .hbm, ⟨7, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel30Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference30Ideal.lean ====
abbrev S512x768 : Shape := ⟨2, ![512, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S_, .f32⟩
  | .hbm, ⟨5, _⟩ => ⟨S512x768, .f32⟩
  | .hbm, ⟨6, _⟩ => ⟨S512x768, .f32⟩
  | .hbm, ⟨7, _⟩ => ⟨S_, .f32⟩
  | .hbm, ⟨8, _⟩ => ⟨S512x768, .f32⟩
  | .hbm, ⟨9, _⟩ => ⟨S512x768, .f32⟩
  | .hbm, ⟨10, _⟩ => ⟨S512x768, .f32⟩
  | .hbm, ⟨11, _⟩ => ⟨S_, .f32⟩
  | .hbm, ⟨12, _⟩ => ⟨S512x768, .f32⟩
  | .hbm, ⟨13, _⟩ => ⟨S512x768, .f32⟩
  | .hbm, ⟨14, _⟩ => ⟨S512x768, .f32⟩
  | .hbm, ⟨15, _⟩ => ⟨S_, .f32⟩
  | .hbm, ⟨16, _⟩ => ⟨S512x768, .f32⟩
  | .hbm, ⟨17, _⟩ => ⟨S512x768, .f32⟩
  | .hbm, ⟨18, _⟩ => ⟨S512x768, .f32⟩
  | .hbm, ⟨19, _⟩ => ⟨S_, .f32⟩
  | .hbm, ⟨20, _⟩ => ⟨S512x768, .f32⟩
  | .hbm, ⟨21, _⟩ => ⟨S512x768, .f32⟩
  | .hbm, ⟨22, _⟩ => ⟨S_, .f32⟩
  | .hbm, ⟨23, _⟩ => ⟨S512x768, .f32⟩
  | .hbm, ⟨24, _⟩ => ⟨S512x768, .f32⟩
  | .hbm, ⟨25, _⟩ => ⟨S512x768, .f32⟩
  | .hbm, ⟨26, _⟩ => ⟨S_, .f32⟩
  | .hbm, ⟨27, _⟩ => ⟨S512x768, .f32⟩
  | .hbm, ⟨28, _⟩ => ⟨S512x768, .f32⟩
  | .hbm, ⟨29, _⟩ => ⟨S512x768, .f32⟩
  | .hbm, ⟨30, _⟩ => ⟨S_, .f32⟩
  | .hbm, ⟨31, _⟩ => ⟨S512x768, .f32⟩
  | .hbm, ⟨32, _⟩ => ⟨S512x768, .f32⟩
  | .hbm, ⟨33, _⟩ => ⟨S512x768, .f32⟩
  | .hbm, ⟨34, _⟩ => ⟨S_, .f32⟩
  | .hbm, ⟨35, _⟩ => ⟨S512x768, .f32⟩
  | .hbm, ⟨36, _⟩ => ⟨S512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel31Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference31Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2048x2816 : Shape := ⟨2, ![2048, 2816]⟩
abbrev S8x128 : Shape := ⟨2, ![8, 128]⟩
abbrev S256x2816 : Shape := ⟨2, ![256, 2816]⟩

abbrev nBuf : Space → Nat
  | .hbm => 9
  | .vmem => 17
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S8x128, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S8x128, .f32⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x2816, .f32⟩
  | .local _ .vmem, ⟨16, _⟩ => ⟨S256x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel32Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference32Ideal.lean ====
abbrev S2048x2816 : Shape := ⟨2, ![2048, 2816]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S8x128, .f32⟩
  | .hbm, ⟨5, _⟩ => ⟨S_, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel33.lean ====
abbrev S1408x2048 : Shape := ⟨2, ![1408, 2048]⟩
abbrev S8x128 : Shape := ⟨2, ![8, 128]⟩
abbrev S352x2048 : Shape := ⟨2, ![352, 2048]⟩

abbrev nBuf : Space → Nat
  | .hbm => 9
  | .vmem => 17
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S352x2048, .f32⟩
  | .local _ .vmem, ⟨7, _⟩ => ⟨S352x2048, .f32⟩
  | .local _ .vmem, ⟨8, _⟩ => ⟨S8x128, .f32⟩
  | .local _ .vmem, ⟨9, _⟩ => ⟨S352x2048, .f32⟩
  | .local _ .vmem, ⟨10, _⟩ => ⟨S352x2048, .f32⟩
  | .local _ .vmem, ⟨11, _⟩ => ⟨S352x2048, .f32⟩
  | .local _ .vmem, ⟨12, _⟩ => ⟨S352x2048, .f32⟩
  | .local _ .vmem, ⟨13, _⟩ => ⟨S352x2048, .f32⟩
  | .local _ .vmem, ⟨14, _⟩ => ⟨S352x2048, .f32⟩
  | .local _ .vmem, ⟨15, _⟩ => ⟨S352x2048, .f32⟩
  | .local _ .vmem, ⟨16, _⟩ => ⟨S352x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S352x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel33Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference33Ideal.lean ====
abbrev S1408x2048 : Shape := ⟨2, ![1408, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S_, .f32⟩
  | .hbm, ⟨6, _⟩ => ⟨S1408x2048, .f32⟩
  | .hbm, ⟨7, _⟩ => ⟨S1408x2048, .f32⟩
  | .hbm, ⟨8, _⟩ => ⟨S_, .f32⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel34.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel35.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference35Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel37.lean ====
abbrev S2048x8192 : Shape := ⟨2, ![2048, 8192]⟩
abbrev S2048x2048 : Shape := ⟨2, ![2048, 2048]⟩
abbrev S512x4096 : Shape := ⟨2, ![512, 4096]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference37Ideal.lean ====
abbrev S2048x8192 : Shape := ⟨2, ![2048, 8192]⟩
abbrev S2048x2048 : Shape := ⟨2, ![2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel38.lean ====
abbrev S2048x896 : Shape := ⟨2, ![2048, 896]⟩
abbrev S1x512 : Shape := ⟨2, ![1, 512]⟩
abbrev S1x256 : Shape := ⟨2, ![1, 256]⟩
abbrev S2048x128 : Shape := ⟨2, ![2048, 128]⟩
abbrev S2048x512 : Shape := ⟨2, ![2048, 512]⟩
abbrev S2048x256 : Shape := ⟨2, ![2048, 256]⟩
abbrev S512x896 : Shape := ⟨2, ![512, 896]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x896, .f32⟩
  | .hbm, ⟨1, _⟩ => ⟨S1x512, .f32⟩
  | .hbm, ⟨2, _⟩ => ⟨S1x256, .f32⟩
  | .hbm, ⟨3, _⟩ => ⟨S2048x128, .f32⟩
  | .hbm, ⟨4, _⟩ => ⟨S2048x512, .bf16⟩
  | .hbm, ⟨5, _⟩ => ⟨S2048x256, .bf16⟩
  | .hbm, ⟨6, _⟩ => ⟨S2048x128, .bf16⟩
  | .local _ .vmem, ⟨0, _⟩ => ⟨S512x896, .f32⟩
  | .local _ .vmem, ⟨1, _⟩ => ⟨S512x896, .f32⟩
  | .local _ .vmem, ⟨2, _⟩ => ⟨S1x512, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S2048x896 : Shape := ⟨2, ![2048, 896]⟩
abbrev S1x512 : Shape := ⟨2, ![1, 512]⟩
abbrev S1x256 : Shape := ⟨2, ![1, 256]⟩
abbrev S2048x128 : Shape := ⟨2, ![2048, 128]⟩
abbrev S2048x64 : Shape := ⟨2, ![2048, 64]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S2048x256 : Shape := ⟨2, ![2048, 256]⟩

abbrev nBuf : Space → Nat
  | .hbm => 47
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S1x512, .f32⟩
  | .hbm, ⟨2, _⟩ => ⟨S1x256, .f32⟩
  | .hbm, ⟨3, _⟩ => ⟨S2048x128, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .bf16⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .bf16⟩
  | .hbm, ⟨45, _⟩ => ⟨S2048x128, .f32⟩
  | .hbm, ⟨46, _⟩ => ⟨S2048x128, .bf16⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.MulGwDown.lean ====
/-
  The gradient of the feed-forward down projection's weight, xᵀ·ct, in blocks of 512 rows of the result: each grid point
  multiplies one block of columns of `x` with the whole of `ct`.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwDown

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference2Ideal.Read.val_main_v6 (F := Ideal) (m ((c : Thread nD τ).loc main_arg0)) (m ((c : Thread nD τ).loc main_arg1))

/-- The columns of `x` and the rows of the result move with the point; `ct` is whole. -/
theorem idx : ∀ t : Fin cfg0.N, win0_0.index t 0 = 0 ∧ win0_0.index t 1 = t.val ∧ win0_1.index t 0 = 0 ∧ win0_1.index t 1 = 0
    ∧ win0_2.index t 0 = t.val ∧ win0_2.index t 1 = 0 := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference2Ideal.Read.val_main_v6, Cert.Reference2Ideal.Read.val_main_v5, Cert.Reference2Ideal.Read.val_main_v4, Cert.Reference2Ideal.Read.val_main_v3, Cert.Reference2Ideal.Read.val_main_v1]
  obtain ⟨e0, e1, e2, e3, e4, e5⟩ := idx t
  refine Finset.sum_congr (M := EReal) rfl fun k _ => ?_
  rw [mul_comm]
  congr 1
  · blk_ext [iblk, V, e0, e1, e2, e3, e4, e5]
  · blk_ext [iblk, V, e0, e1, e2, e3, e4, e5]

theorem quiescent_p : Cert.quiescent_Kernel2 := fun m ρ _ => Cert.Kernel2.Gen.frame m ρ
theorem quiescent_pi : Cert.quiescent_Kernel2Ideal := fun m ρ _ => Cert.Kernel2Ideal.Gen.frame m ρ

theorem quiescent_ri : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem algebraic : Cert.algebraic_Kernel2Ideal_Reference2Ideal := by
  pair_intro
  · run_from (Cert.Kernel2Ideal.Value.run_blocks m g)
  · run_from (Cert.Reference2Ideal.Value.run m' g')
    rw [final]
    rfl

end Cert.MulGwDown

end
-- ==== Proof.MulDh2.lean ====
/-
  The gradient of the feed-forward block's input, ct·wᵀ over a contraction of 11264 in 8 steps of 1408: the first step of
  a block of the result stores its part of the sum in the scratch, the following ones add theirs to it, and the last one
  stores the sum in the result.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDh2

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference3Ideal.Read.val_main_v8 (F := Ideal) (m ((c : Thread nD τ).loc main_arg0)) (m ((c : Thread nD τ).loc main_arg1))

theorem hz : (![0, 0] : Fin 2 → Nat) = fun _ => 0 := funext fun a => by fin_cases a <;> rfl
theorem hz3 : (![0, 0, 0] : Fin 3 → Nat) = fun _ => 0 := funext fun a => by fin_cases a <;> rfl

/-- The part of the sum that one step computes. -/
abbrev part (c : Dev nD) (t : Fin cfg0.N) : Vec Ideal S2048x1024 .f32 := k0_pay1 (iblk m c 0 t) (iblk m c 1 t)

section Cases
variable (c : Dev nD) (i : grid0.Coords) (arg3 : Memref sig .tc .vmem S1x2048x1408 .bf16) (harg3 : arg3.IsWhole) (arg4 : Memref sig .tc .vmem S1x1024x1408 .bf16) (harg4 : arg4.IsWhole) (arg5 : Memref sig .tc .vmem S2048x1024 .f32) (harg5 : arg5.IsWhole) (arg6 : Memref sig .tc .vmem S2048x1024 .f32) (harg6 : arg6.IsWhole)
variable (x0 : Vec Ideal S1x2048x1408 .bf16) (x1 : Vec Ideal S1x1024x1408 .bf16) (xs : Vec Ideal S2048x1024 .f32)

theorem first (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (fun y => scover0_A_0 c i arg3 harg3 arg4 harg4 arg5 harg5 arg6 harg6 h0 h1 h2 x0 x1 y)]
  unfold kernelRun0_A
  dsimp only
  rw [View.canon_unit_zero hz]
  unfold k0_pay2
  simp only [View.readAt_eq_ld, harg3.read_unread, harg4.read_unread, View.ld_unit_zero (S := S1x2048x1408) hz3, View.ld_unit_zero (S := S1x1024x1408) hz3, shapeCast_self]

theorem middle (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (fun y => scover0_B_0 c i arg3 harg3 arg4 harg4 arg5 harg5 arg6 harg6 h0 h1 h2 x0 x1 xs y)]
  unfold kernelRun0_B
  dsimp only
  rw [View.canon_unit_zero hz]
  simp only [View.readAt_eq_ld, harg3.read_unread, harg4.read_unread, harg6.read_unread, View.ld_unit_zero (S := S1x2048x1408) hz3, View.ld_unit_zero (S := S1x1024x1408) hz3, View.ld_unit_zero (S := S2048x1024) hz]

theorem last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (fun y => scover0_C_0 c i arg3 harg3 arg4 harg4 arg5 harg5 arg6 harg6 h0 h1 h2 x0 x1 xs y)]
  unfold kernelRun0_C
  dsimp only
  sl_unfold_words
  rw [View.canon_unit_zero hz]
  simp only [View.readAt_eq_ld, harg3.read_unread, harg4.read_unread, harg6.read_unread, View.ld_unit_zero (S := S1x2048x1408) hz3, View.ld_unit_zero (S := S1x1024x1408) hz3, View.ld_unit_zero (S := S2048x1024) hz]

theorem result (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (fun y => cover0_C_2 c i arg3 harg3 arg4 harg4 arg5 harg5 arg6 harg6 h0 h1 h2 x0 x1 xs y)]
  unfold kernelRun0_C
  dsimp only
  sl_unfold_words
  rw [View.canon_unit_zero hz, View.readCov_unit_zero (S := S2048x1024) _ hz]
  simp only [View.readAt_eq_ld, harg3.read_unread, harg4.read_unread, harg6.read_unread, View.ld_unit_zero (S := S1x2048x1408) hz3, View.ld_unit_zero (S := S1x1024x1408) hz3, View.ld_unit_zero (S := S2048x1024) hz]
end Cases

/-- The places of the blocks: step `t % 8` takes columns `1408·(t % 8)…` of the contraction out of the groups of both
    arguments, for the block of columns `t / 8` of the result. -/
theorem idx : ∀ t : Fin cfg0.N, win0_0.index t 0 = t.val % 8 / 4 ∧ win0_0.index t 1 = 0 ∧ win0_0.index t 2 = t.val % 8 % 4
    ∧ win0_1.index t 0 = t.val % 8 / 2 ∧ win0_1.index t 1 = t.val / 8 ∧ win0_1.index t 2 = t.val % 8 % 2
    ∧ win0_2.index t 0 = 0 ∧ win0_2.index t 1 = t.val / 8 := by decide +kernel

theorem add_part (x0 : Vec Ideal S1x2048x1408 .bf16) (x1 : Vec Ideal S1x1024x1408 .bf16) (v : Vec Ideal S2048x1024 .f32)
    (y : S2048x1024.Idx) : k0_pay3 x0 x1 v y = (v y + k0_pay1 x0 x1 y : EReal) := by
  unfold k0_pay3
  rw [shapeCast_self]
  rfl

/-- What the scratch holds after a step, at an entry. -/
abbrev held (c : Dev nD) (n : ℕ) (h : n < cfg0.N) (y : S2048x1024.Idx) : EReal := (outsAt0 m c n h).2 y

theorem held_first (c : Dev nD) (t : Fin cfg0.N) (h : t.val % 8 = 0) (y : S2048x1024.Idx) :
    held m c t.val t.isLt y = 0 + part m c t y := by
  rw [held, outsAt0_A m c t h (by omega) (by omega)]
  dsimp only
  rw [first, zero_add]

theorem held_next (c : Dev nD) (t : Fin cfg0.N) (h : ¬t.val % 8 = 0) (y : S2048x1024.Idx) :
    held m c t.val t.isLt y = held m c (t.val - 1) (Nat.lt_of_le_of_lt (Nat.sub_le _ _) t.isLt) y + part m c t y := by
  unfold held
  by_cases h7 : t.val % 8 = 7
  · rw [outsAt0_C m c t h (by omega) h7]
    dsimp only
    rw [last, add_part]
  · rw [outsAt0_B m c t h (by omega) h7]
    dsimp only
    rw [middle, add_part]

theorem written (c : Dev nD) (t : Fin cfg0.N) (h7 : t.val % 8 = 7) : (outsAt0 m c t.val t.isLt).1 = (outsAt0 m c t.val t.isLt).2 := by
  rw [outsAt0_C m c t (by omega) (by omega) h7]
  dsimp only
  rw [last, result]

theorem final (c : Dev nD) : (dats m 0 c).arrAt 2 cfg0.N = G m c := by
  refine (dats m 0 c).arrAt_eq_of_covers 2 _ (by decide +kernel) fun t hf y => ?_
  have h7 : t.val % 8 = 7 := (flush0_2 t).mp hf
  blk_simp
  rw [after0_2, written m c t h7]
  have e := Pipeline.eq_sum_fin_of_reset_step_apply_of_flush (held m c) 8 (fun _ => (0 : EReal)) (part m c)
    (held_first m c) (held_next m c) t h7 y
  refine Eq.trans e ?_
  rw [zero_add]
  clear e
  idx_vars y
  pointwise [part, k0_pay1, G, Cert.Reference3Ideal.Read.val_main_v8, Cert.Reference3Ideal.Read.val_main_v7, Cert.Reference3Ideal.Read.val_main_v5, Cert.Reference3Ideal.Read.val_main_v3, Cert.Reference3Ideal.Read.val_main_v2, Cert.Reference3Ideal.Read.val_main_v1, Cert.Reference3Ideal.Read.val_main_v0]
  obtain ⟨-, -, -, -, -, -, e6, e7⟩ := idx t
  refine Fin.sum_mul_add_congr (M := EReal) fun s k hl => ?_
  have hp : 8 * (t.val / 8) + s.val < cfg0.N := by
    have h16 : t.val < 16 := lt_of_lt_of_eq t.isLt N_0
    rw [show cfg0.N = 16 from N_0]; omega
  obtain ⟨e0, e1, e2, e3, e4, e5, -, -⟩ := idx ⟨8 * (t.val / 8) + s.val, hp⟩
  have es : (8 * (t.val / 8) + s.val) % 8 = s.val := by omega
  have et : (8 * (t.val / 8) + s.val) / 8 = t.val / 8 := by omega
  simp only [es, et] at e0 e2 e3 e4 e5
  congr 1
  · blk_ext [iblk, V, e0, e1, e2, e6, e7]
  · blk_ext [iblk, V, e3, e4, e5, e6, e7]

theorem quiescent_p : Cert.quiescent_Kernel3 := fun m ρ _ => Cert.Kernel3.Gen.frame m ρ
theorem quiescent_pi : Cert.quiescent_Kernel3Ideal := fun m ρ _ => Cert.Kernel3Ideal.Gen.frame m ρ

theorem quiescent_ri : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem algebraic : Cert.algebraic_Kernel3Ideal_Reference3Ideal := by
  pair_intro
  · run_from (Cert.Kernel3Ideal.Value.run_blocks m g)
  · run_from (Cert.Reference3Ideal.Value.run m' g')
    rw [final]
    rfl

end Cert.MulDh2

end
-- ==== Proof.MulDmerged.lean ====
/-
  The gradient of the output projection's input, ct·wᵀ, in blocks of 512 columns of the result: each grid point
  multiplies the whole of `ct` with 512 rows of `w`.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDmerged

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference4Ideal.Read.val_main_v5 (F := Ideal) (m ((c : Thread nD τ).loc main_arg0)) (m ((c : Thread nD τ).loc main_arg1))

/-- The rows of `w` and the columns of the result move with the point; `ct` is whole. -/
theorem idx : ∀ t : Fin cfg0.N, win0_0.index t 0 = 0 ∧ win0_0.index t 1 = 0 ∧ win0_1.index t 0 = t.val ∧ win0_1.index t 1 = 0
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference4Ideal.Read.val_main_v5, Cert.Reference4Ideal.Read.val_main_v4, Cert.Reference4Ideal.Read.val_main_v3, Cert.Reference4Ideal.Read.val_main_v1]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel4 := fun m ρ _ => Cert.Kernel4.Gen.frame m ρ
theorem quiescent_pi : Cert.quiescent_Kernel4Ideal := fun m ρ _ => Cert.Kernel4Ideal.Gen.frame m ρ

theorem quiescent_ri : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem algebraic : Cert.algebraic_Kernel4Ideal_Reference4Ideal := by
  pair_intro
  · run_from (Cert.Kernel4Ideal.Value.run_blocks m g)
  · run_from (Cert.Reference4Ideal.Value.run m' g')
    rw [final]
    rfl

end Cert.MulDmerged

end
-- ==== Proof.MulGwOut.lean ====
/-
  The gradient of a square projection's weight, xᵀ·ct, in blocks of 512 rows and 1024 columns of the result.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwOut

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference5Ideal.Read.val_main_v6 (F := Ideal) (m ((c : Thread nD τ).loc main_arg0)) (m ((c : Thread nD τ).loc main_arg1))

/-- The columns of `x` move with the block's row, the columns of `ct` with the block's column. -/
theorem idx : ∀ t : Fin cfg0.N, win0_0.index t 0 = 0 ∧ win0_0.index t 1 = t.val / 2 ∧ win0_1.index t 0 = 0 ∧ win0_1.index t 1 = t.val % 2
    ∧ win0_2.index t 0 = t.val / 2 ∧ win0_2.index t 1 = t.val % 2 := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference5Ideal.Read.val_main_v6, Cert.Reference5Ideal.Read.val_main_v5, Cert.Reference5Ideal.Read.val_main_v4, Cert.Reference5Ideal.Read.val_main_v3, Cert.Reference5Ideal.Read.val_main_v1]
  obtain ⟨e0, e1, e2, e3, e4, e5⟩ := idx t
  refine Finset.sum_congr (M := EReal) rfl fun k _ => ?_
  rw [mul_comm]
  congr 1
  · blk_ext [iblk, V, e0, e1, e2, e3, e4, e5]
  · blk_ext [iblk, V, e0, e1, e2, e3, e4, e5]

theorem quiescent_p : Cert.quiescent_Kernel5 := fun m ρ _ => Cert.Kernel5.Gen.frame m ρ
theorem quiescent_pi : Cert.quiescent_Kernel5Ideal := fun m ρ _ => Cert.Kernel5Ideal.Gen.frame m ρ

theorem quiescent_ri : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem algebraic : Cert.algebraic_Kernel5Ideal_Reference5Ideal := by
  pair_intro
  · run_from (Cert.Kernel5Ideal.Value.run_blocks m g)
  · run_from (Cert.Reference5Ideal.Value.run m' g')
    rw [final]
    rfl

end Cert.MulGwOut

end
-- ==== Proof.MulGwQ.lean ====
/-
  The gradient of the query expansion's weight, xᵀ·ct, in blocks of 1024 columns of the result.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwQ

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference6Ideal.Read.val_main_v5 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference6Ideal.Read.val_main_v5, Cert.Reference6Ideal.Read.val_main_v4, Cert.Reference6Ideal.Read.val_main_v3, Cert.Reference6Ideal.Read.val_main_v1]
  obtain ⟨e0, e1, e2, e3, e4, e5⟩ := idx t
  refine Finset.sum_congr (M := EReal) rfl fun k _ => ?_
  rw [mul_comm]
  congr 1
  · blk_ext [iblk, V, e0, e1, e2, e3, e4, e5]
  · blk_ext [iblk, V, e0, e1, e2, e3, e4, e5]

theorem quiescent_p : Cert.quiescent_Kernel6 := fun m ρ _ => Cert.Kernel6.Gen.frame m ρ
theorem quiescent_pi : Cert.quiescent_Kernel6Ideal := fun m ρ _ => Cert.Kernel6Ideal.Gen.frame m ρ

theorem quiescent_ri : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

theorem algebraic : Cert.algebraic_Kernel6Ideal_Reference6Ideal := by
  pair_intro
  · run_from (Cert.Kernel6Ideal.Value.run_blocks m g)
  · run_from (Cert.Reference6Ideal.Value.run m' g')
    rw [final]
    rfl

end Cert.MulGwQ

end
-- ==== Proof.MulGwKv.lean ====
/-
  The gradient of the key and value expansion's weight, xᵀ·ct, in blocks of 1024 columns of the result.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwKv

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference8Ideal.Read.val_main_v6 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference8Ideal.Read.val_main_v6, Cert.Reference8Ideal.Read.val_main_v5, Cert.Reference8Ideal.Read.val_main_v4, Cert.Reference8Ideal.Read.val_main_v3, Cert.Reference8Ideal.Read.val_main_v1]
  obtain ⟨e0, e1, e2, e3, e4, e5⟩ := idx t
  refine Finset.sum_congr (M := EReal) rfl fun k _ => ?_
  rw [mul_comm]
  congr 1
  · blk_ext [iblk, V, e0, e1, e2, e3, e4, e5]
  · blk_ext [iblk, V, e0, e1, e2, e3, e4, e5]

theorem quiescent_p : Cert.quiescent_Kernel8 := fun m ρ _ => Cert.Kernel8.Gen.frame m ρ
theorem quiescent_pi : Cert.quiescent_Kernel8Ideal := fun m ρ _ => Cert.Kernel8Ideal.Gen.frame m ρ

theorem quiescent_ri : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

theorem algebraic : Cert.algebraic_Kernel8Ideal_Reference8Ideal := by
  pair_intro
  · run_from (Cert.Kernel8Ideal.Value.run_blocks m g)
  · run_from (Cert.Reference8Ideal.Value.run m' g')
    rw [final]
    rfl

end Cert.MulGwKv

end
-- ==== Proof.MulGwLat.lean ====
/-
  The gradient of the latent columns of the input projection's weight, transposed, ctᵀ·x, in blocks of 1024 columns of
  the result.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwLat

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference10Ideal.Read.val_main_v6 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference10Ideal.Read.val_main_v6, Cert.Reference10Ideal.Read.val_main_v5, Cert.Reference10Ideal.Read.val_main_v4, Cert.Reference10Ideal.Read.val_main_v3, Cert.Reference10Ideal.Read.val_main_v1]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel10 := fun m ρ _ => Cert.Kernel10.Gen.frame m ρ
theorem quiescent_pi : Cert.quiescent_Kernel10Ideal := fun m ρ _ => Cert.Kernel10Ideal.Gen.frame m ρ

theorem quiescent_ri : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

theorem algebraic : Cert.algebraic_Kernel10Ideal_Reference10Ideal := by
  pair_intro
  · run_from (Cert.Kernel10Ideal.Value.run_blocks m g)
  · run_from (Cert.Reference10Ideal.Value.run m' g')
    rw [final]
    rfl

end Cert.MulGwLat

end
-- ==== Proof.MulZLat.lean ====
/-
  The latent columns of the input projection, x·w, with the weight held transposed, at one grid point.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulZLat

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference11Ideal.Read.val_main_v3 (F := Ideal) (m ((c : Thread nD τ).loc main_arg0)) (m ((c : Thread nD τ).loc main_arg1))

/-- The blocks are the whole arrays. -/
theorem idx : ∀ t : Fin cfg0.N, win0_0.index t 0 = 0 ∧ win0_0.index t 1 = 0 ∧ win0_1.index t 0 = t.val ∧ win0_1.index t 1 = 0
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference11Ideal.Read.val_main_v3, Cert.Reference11Ideal.Read.val_main_v2, Cert.Reference11Ideal.Read.val_main_v1, Cert.Reference11Ideal.Read.val_main_v0]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel11 := fun m ρ _ => Cert.Kernel11.Gen.frame m ρ
theorem quiescent_pi : Cert.quiescent_Kernel11Ideal := fun m ρ _ => Cert.Kernel11Ideal.Gen.frame m ρ

theorem quiescent_ri : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

theorem algebraic : Cert.algebraic_Kernel11Ideal_Reference11Ideal := by
  pair_intro
  · run_from (Cert.Kernel11Ideal.Value.run_blocks m g)
  · run_from (Cert.Reference11Ideal.Value.run m' g')
    rw [final]
    rfl

end Cert.MulZLat

end
-- ==== Proof.MulQ.lean ====
/-
  The query expansion, x·w, each head's 256 columns times the rotary table: one head per grid point.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulQ

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference12Ideal.Read.val_main_v8 (F := Ideal) (m ((c : Thread nD τ).loc main_arg0)) (m ((c : Thread nD τ).loc main_arg1)) (m ((c : Thread nD τ).loc main_arg2))

/-- The columns of the weight and of the result move with the point; the first array and the table are whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = 0 ∧ win0_3.index t 0 = 0 ∧ win0_3.index t 1 = t.val := by decide +kernel

/-- Block by block, the array of the result is the plain program's: an entry of a block is one contraction over the whole
    axis, of the same rows and columns, times the table's entry at the column within the head. -/
theorem final (c : Dev nD) : (dats m 0 c).arrAt 3 cfg0.N = G m c := by
  refine (dats m 0 c).arrAt_eq_of_covers 3 _ (by decide +kernel) fun t hf y => ?_
  blk_simp
  rw [after0_3]
  unfold out0_3
  frame_out
  idx_vars y
  pointwise [k0_pay1, G, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0]
  obtain ⟨e0, e1, e2, e3, e4, e5, e6, e7⟩ := idx t
  refine congrArg₂ (· * ·) (Finset.sum_congr (M := EReal) rfl fun k _ => ?_) ?_
  · congr 1
    · blk_ext [iblk, V, e0, e1, e2, e3, e4, e5, e6, e7]
    · blk_ext [iblk, V, e0, e1, e2, e3, e4, e5, e6, e7]
  · blk_ext [iblk, V, e0, e1, e2, e3, e4, e5, e6, e7]

theorem quiescent_p : Cert.quiescent_Kernel12 := fun m ρ _ => Cert.Kernel12.Gen.frame m ρ
theorem quiescent_pi : Cert.quiescent_Kernel12Ideal := fun m ρ _ => Cert.Kernel12Ideal.Gen.frame m ρ

theorem quiescent_ri : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

theorem algebraic : Cert.algebraic_Kernel12Ideal_Reference12Ideal := by
  pair_intro
  · run_from (Cert.Kernel12Ideal.Value.run_blocks m g)
  · run_from (Cert.Reference12Ideal.Value.run m' g')
    rw [final]
    rfl

end Cert.MulQ

end
-- ==== Proof.MulKv.lean ====
/-
  The key and value expansion, x·w, in blocks of 1024 columns of the result.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulKv

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference13Ideal.Read.val_main_v3 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference13Ideal.Read.val_main_v3, Cert.Reference13Ideal.Read.val_main_v2, Cert.Reference13Ideal.Read.val_main_v1, Cert.Reference13Ideal.Read.val_main_v0]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel13 := fun m ρ _ => Cert.Kernel13.Gen.frame m ρ
theorem quiescent_pi : Cert.quiescent_Kernel13Ideal := fun m ρ _ => Cert.Kernel13Ideal.Gen.frame m ρ

theorem quiescent_ri : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

theorem algebraic : Cert.algebraic_Kernel13Ideal_Reference13Ideal := by
  pair_intro
  · run_from (Cert.Kernel13Ideal.Value.run_blocks m g)
  · run_from (Cert.Reference13Ideal.Value.run m' g')
    rw [final]
    rfl

end Cert.MulKv

end
-- ==== Proof.MulBranch.lean ====
/-
  The projection of a mixing branch, x·w, in blocks of 512 columns of the result.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulBranch

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference14Ideal.Read.val_main_v3 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference14Ideal.Read.val_main_v3, Cert.Reference14Ideal.Read.val_main_v2, Cert.Reference14Ideal.Read.val_main_v1, Cert.Reference14Ideal.Read.val_main_v0]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel14 := fun m ρ _ => Cert.Kernel14.Gen.frame m ρ
theorem quiescent_pi : Cert.quiescent_Kernel14Ideal := fun m ρ _ => Cert.Kernel14Ideal.Gen.frame m ρ

theorem quiescent_ri : Cert.quiescent_Reference14Ideal := fun m ρ _ =>
  (θ_run Cert.Reference14Ideal.defs _ _).mono
    (fun r h => ⟨fun c => (h c).2, sem_eq_zero_of_no_sems (by decide) r.2⟩) (Cert.Reference14Ideal.Value.run m ρ)

theorem algebraic : Cert.algebraic_Kernel14Ideal_Reference14Ideal := by
  pair_intro
  · run_from (Cert.Kernel14Ideal.Value.run_blocks m g)
  · run_from (Cert.Reference14Ideal.Value.run m' g')
    rw [final]
    rfl

end Cert.MulBranch

end
-- ==== Proof.MulOut.lean ====
/-
  The output projection, x·w, in blocks of 512 columns of the result.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulOut

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference15Ideal.Read.val_main_v2 (F := Ideal) (m ((c : Thread nD τ).loc main_arg0)) (m ((c : Thread nD τ).loc main_arg1))

/-- The columns of the second array and of the result move with the point; the first is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference15Ideal.Read.val_main_v2, Cert.Reference15Ideal.Read.val_main_v1, Cert.Reference15Ideal.Read.val_main_v0]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel15 := fun m ρ _ => Cert.Kernel15.Gen.frame m ρ
theorem quiescent_pi : Cert.quiescent_Kernel15Ideal := fun m ρ _ => Cert.Kernel15Ideal.Gen.frame m ρ

theorem quiescent_ri : Cert.quiescent_Reference15Ideal := fun m ρ _ =>
  (θ_run Cert.Reference15Ideal.defs _ _).mono
    (fun r h => ⟨fun c => (h c).2, sem_eq_zero_of_no_sems (by decide) r.2⟩) (Cert.Reference15Ideal.Value.run m ρ)

theorem algebraic : Cert.algebraic_Kernel15Ideal_Reference15Ideal := by
  pair_intro
  · run_from (Cert.Kernel15Ideal.Value.run_blocks m g)
  · run_from (Cert.Reference15Ideal.Value.run m' g')
    rw [final]
    rfl

end Cert.MulOut

end
-- ==== Proof.MulDqn.lean ====
/-
  The gradient of the normed query latent, ct·wᵀ, in four steps of 1024 columns of the contraction added up in a scratch.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDqn

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference7Ideal.Read.val_main_v4 (F := Ideal) (m ((c : Thread nD τ).loc main_arg0)) (m ((c : Thread nD τ).loc main_arg1))

theorem hz : (![0, 0] : Fin 2 → Nat) = fun _ => 0 := funext fun a => by fin_cases a <;> rfl

/-- The part of the sum that one step computes. -/
abbrev part (c : Dev nD) (t : Fin cfg0.N) : Vec Ideal S2048x512 .f32 := k0_pay1 (iblk m c 0 t) (iblk m c 1 t)

section Cases
variable (c : Dev nD) (i : grid0.Coords) (arg3 : Memref sig .tc .vmem S2048x1024 .bf16) (harg3 : arg3.IsWhole) (arg4 : Memref sig .tc .vmem S512x1024 .bf16) (harg4 : arg4.IsWhole) (arg5 : Memref sig .tc .vmem S2048x512 .f32) (harg5 : arg5.IsWhole) (arg6 : Memref sig .tc .vmem S2048x512 .f32) (harg6 : arg6.IsWhole)
variable (x0 : Vec Ideal S2048x1024 .bf16) (x1 : Vec Ideal S512x1024 .bf16) (xs : Vec Ideal S2048x512 .f32)

theorem first (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (fun y => scover0_A_0 c i arg3 harg3 arg4 harg4 arg5 harg5 arg6 harg6 h0 h1 h2 x0 x1 y)]
  unfold kernelRun0_A
  dsimp only
  rw [View.canon_unit_zero hz]
  unfold k0_pay2
  simp only [View.readAt_eq_ld, harg3.read_unread, harg4.read_unread, View.ld_unit_zero (S := S2048x1024) hz, View.ld_unit_zero (S := S512x1024) hz, shapeCast_self]

theorem middle (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (fun y => scover0_B_0 c i arg3 harg3 arg4 harg4 arg5 harg5 arg6 harg6 h0 h1 h2 x0 x1 xs y)]
  unfold kernelRun0_B
  dsimp only
  rw [View.canon_unit_zero hz]
  simp only [View.readAt_eq_ld, harg3.read_unread, harg4.read_unread, harg6.read_unread, View.ld_unit_zero (S := S2048x1024) hz, View.ld_unit_zero (S := S512x1024) hz, View.ld_unit_zero (S := S2048x512) hz]

theorem last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (fun y => scover0_C_0 c i arg3 harg3 arg4 harg4 arg5 harg5 arg6 harg6 h0 h1 h2 x0 x1 xs y)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S512x1024) hz, View.ld_unit_zero (S := S2048x512) hz]

theorem result (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (fun y => cover0_C_2 c i arg3 harg3 arg4 harg4 arg5 harg5 arg6 harg6 h0 h1 h2 x0 x1 xs y)]
  unfold kernelRun0_C
  dsimp only
  sl_unfold_words
  rw [View.canon_unit_zero hz, View.readCov_unit_zero (S := S2048x512) _ hz]
  simp only [View.readAt_eq_ld, harg3.read_unread, harg4.read_unread, harg6.read_unread, View.ld_unit_zero (S := S2048x1024) hz, View.ld_unit_zero (S := S512x1024) hz, View.ld_unit_zero (S := S2048x512) hz]
end Cases

/-- The places of the blocks: step `t % 4` takes columns `1024·(t % 4)…` of the contraction. -/
theorem idx : ∀ t : Fin cfg0.N, win0_0.index t 0 = 0 ∧ win0_0.index t 1 = t.val % 4 ∧ win0_1.index t 0 = t.val / 4 ∧ win0_1.index t 1 = t.val % 4
    ∧ win0_2.index t 0 = 0 ∧ win0_2.index t 1 = t.val / 4 := by decide +kernel

theorem add_part (x0 : Vec Ideal S2048x1024 .bf16) (x1 : Vec Ideal S512x1024 .bf16) (v : Vec Ideal S2048x512 .f32)
    (y : S2048x512.Idx) : k0_pay3 x0 x1 v y = (v y + k0_pay1 x0 x1 y : EReal) := by
  unfold k0_pay3
  rw [shapeCast_self]
  rfl

/-- What the scratch holds after a step, at an entry. -/
abbrev held (c : Dev nD) (n : ℕ) (h : n < cfg0.N) (y : S2048x512.Idx) : EReal := (outsAt0 m c n h).2 y

theorem held_first (c : Dev nD) (t : Fin cfg0.N) (h : t.val % 4 = 0) (y : S2048x512.Idx) :
    held m c t.val t.isLt y = 0 + part m c t y := by
  have h4 : t.val < 4 := lt_of_lt_of_eq t.isLt N_0
  rw [held, outsAt0_A m c t h (by omega) (by omega)]
  dsimp only
  rw [first, zero_add]

theorem held_next (c : Dev nD) (t : Fin cfg0.N) (h : ¬t.val % 4 = 0) (y : S2048x512.Idx) :
    held m c t.val t.isLt y = held m c (t.val - 1) (Nat.lt_of_le_of_lt (Nat.sub_le _ _) t.isLt) y + part m c t y := by
  unfold held
  by_cases h7 : t.val % 4 = 3
  · rw [outsAt0_C m c t h (by omega) h7]
    dsimp only
    rw [last, add_part]
  · rw [outsAt0_B m c t h (by omega) h7]
    dsimp only
    rw [middle, add_part]

theorem written (c : Dev nD) (t : Fin cfg0.N) (h7 : t.val % 4 = 3) : (outsAt0 m c t.val t.isLt).1 = (outsAt0 m c t.val t.isLt).2 := by
  rw [outsAt0_C m c t (by omega) (by omega) h7]
  dsimp only
  rw [last, result]

theorem final (c : Dev nD) : (dats m 0 c).arrAt 2 cfg0.N = G m c := by
  refine (dats m 0 c).arrAt_eq_of_covers 2 _ (by decide +kernel) fun t hf y => ?_
  have h7 : t.val % 4 = 3 := (flush0_2 t).mp hf
  blk_simp
  rw [after0_2, written m c t h7]
  have e := Pipeline.eq_sum_fin_of_reset_step_apply_of_flush (held m c) 4 (fun _ => (0 : EReal)) (part m c)
    (held_first m c) (held_next m c) t h7 y
  refine Eq.trans e ?_
  rw [zero_add]
  clear e
  idx_vars y
  pointwise [part, k0_pay1, G, Cert.Reference7Ideal.Read.val_main_v4, Cert.Reference7Ideal.Read.val_main_v3, Cert.Reference7Ideal.Read.val_main_v1]
  obtain ⟨-, -, -, -, e4, e5⟩ := idx t
  refine Fin.sum_mul_add_congr (M := EReal) fun s k hl => ?_
  have hp : 4 * (t.val / 4) + s.val < cfg0.N := by
    have h16 : t.val < 4 := lt_of_lt_of_eq t.isLt N_0
    rw [show cfg0.N = 4 from N_0]; omega
  obtain ⟨e0, e1, e2, e3, -, -⟩ := idx ⟨4 * (t.val / 4) + s.val, hp⟩
  have es : (4 * (t.val / 4) + s.val) % 4 = s.val := by omega
  have et : (4 * (t.val / 4) + s.val) / 4 = t.val / 4 := by omega
  simp only [es, et] at e0 e1 e2 e3
  congr 1
  · blk_ext [iblk, V, e0, e1, e4, e5]
  · blk_ext [iblk, V, e2, e3, e4, e5]

theorem quiescent_p : Cert.quiescent_Kernel7 := fun m ρ _ => Cert.Kernel7.Gen.frame m ρ
theorem quiescent_pi : Cert.quiescent_Kernel7Ideal := fun m ρ _ => Cert.Kernel7Ideal.Gen.frame m ρ

theorem quiescent_ri : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

theorem algebraic : Cert.algebraic_Kernel7Ideal_Reference7Ideal := by
  pair_intro
  · run_from (Cert.Kernel7Ideal.Value.run_blocks m g)
  · run_from (Cert.Reference7Ideal.Value.run m' g')
    rw [final]
    rfl

end Cert.MulDqn

end
-- ==== Proof.MulDkvn.lean ====
/-
  The gradient of the normed key and value latent, ct·wᵀ, in four steps of 1024 columns of the contraction added up in
  a scratch.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDkvn

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference9Ideal.Read.val_main_v4 (F := Ideal) (m ((c : Thread nD τ).loc main_arg0)) (m ((c : Thread nD τ).loc main_arg1))

theorem hz : (![0, 0] : Fin 2 → Nat) = fun _ => 0 := funext fun a => by fin_cases a <;> rfl

/-- The part of the sum that one step computes. -/
abbrev part (c : Dev nD) (t : Fin cfg0.N) : Vec Ideal S2048x256 .f32 := k0_pay1 (iblk m c 0 t) (iblk m c 1 t)

section Cases
variable (c : Dev nD) (i : grid0.Coords) (arg3 : Memref sig .tc .vmem S2048x1024 .bf16) (harg3 : arg3.IsWhole) (arg4 : Memref sig .tc .vmem S256x1024 .bf16) (harg4 : arg4.IsWhole) (arg5 : Memref sig .tc .vmem S2048x256 .f32) (harg5 : arg5.IsWhole) (arg6 : Memref sig .tc .vmem S2048x256 .f32) (harg6 : arg6.IsWhole)
variable (x0 : Vec Ideal S2048x1024 .bf16) (x1 : Vec Ideal S256x1024 .bf16) (xs : Vec Ideal S2048x256 .f32)

theorem first (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (fun y => scover0_A_0 c i arg3 harg3 arg4 harg4 arg5 harg5 arg6 harg6 h0 h1 h2 x0 x1 y)]
  unfold kernelRun0_A
  dsimp only
  rw [View.canon_unit_zero hz]
  unfold k0_pay2
  simp only [View.readAt_eq_ld, harg3.read_unread, harg4.read_unread, View.ld_unit_zero (S := S2048x1024) hz, View.ld_unit_zero (S := S256x1024) hz, shapeCast_self]

theorem middle (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (fun y => scover0_B_0 c i arg3 harg3 arg4 harg4 arg5 harg5 arg6 harg6 h0 h1 h2 x0 x1 xs y)]
  unfold kernelRun0_B
  dsimp only
  rw [View.canon_unit_zero hz]
  simp only [View.readAt_eq_ld, harg3.read_unread, harg4.read_unread, harg6.read_unread, View.ld_unit_zero (S := S2048x1024) hz, View.ld_unit_zero (S := S256x1024) hz, View.ld_unit_zero (S := S2048x256) hz]

theorem last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (fun y => scover0_C_0 c i arg3 harg3 arg4 harg4 arg5 harg5 arg6 harg6 h0 h1 h2 x0 x1 xs y)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S256x1024) hz, View.ld_unit_zero (S := S2048x256) hz]

theorem result (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (fun y => cover0_C_2 c i arg3 harg3 arg4 harg4 arg5 harg5 arg6 harg6 h0 h1 h2 x0 x1 xs y)]
  unfold kernelRun0_C
  dsimp only
  sl_unfold_words
  rw [View.canon_unit_zero hz, View.readCov_unit_zero (S := S2048x256) _ hz]
  simp only [View.readAt_eq_ld, harg3.read_unread, harg4.read_unread, harg6.read_unread, View.ld_unit_zero (S := S2048x1024) hz, View.ld_unit_zero (S := S256x1024) hz, View.ld_unit_zero (S := S2048x256) hz]
end Cases

/-- The places of the blocks: step `t % 4` takes columns `1024·(t % 4)…` of the contraction. -/
theorem idx : ∀ t : Fin cfg0.N, win0_0.index t 0 = 0 ∧ win0_0.index t 1 = t.val % 4 ∧ win0_1.index t 0 = t.val / 4 ∧ win0_1.index t 1 = t.val % 4
    ∧ win0_2.index t 0 = 0 ∧ win0_2.index t 1 = t.val / 4 := by decide +kernel

theorem add_part (x0 : Vec Ideal S2048x1024 .bf16) (x1 : Vec Ideal S256x1024 .bf16) (v : Vec Ideal S2048x256 .f32)
    (y : S2048x256.Idx) : k0_pay3 x0 x1 v y = (v y + k0_pay1 x0 x1 y : EReal) := by
  unfold k0_pay3
  rw [shapeCast_self]
  rfl

/-- What the scratch holds after a step, at an entry. -/
abbrev held (c : Dev nD) (n : ℕ) (h : n < cfg0.N) (y : S2048x256.Idx) : EReal := (outsAt0 m c n h).2 y

theorem held_first (c : Dev nD) (t : Fin cfg0.N) (h : t.val % 4 = 0) (y : S2048x256.Idx) :
    held m c t.val t.isLt y = 0 + part m c t y := by
  have h4 : t.val < 4 := lt_of_lt_of_eq t.isLt N_0
  rw [held, outsAt0_A m c t h (by omega) (by omega)]
  dsimp only
  rw [first, zero_add]

theorem held_next (c : Dev nD) (t : Fin cfg0.N) (h : ¬t.val % 4 = 0) (y : S2048x256.Idx) :
    held m c t.val t.isLt y = held m c (t.val - 1) (Nat.lt_of_le_of_lt (Nat.sub_le _ _) t.isLt) y + part m c t y := by
  unfold held
  by_cases h7 : t.val % 4 = 3
  · rw [outsAt0_C m c t h (by omega) h7]
    dsimp only
    rw [last, add_part]
  · rw [outsAt0_B m c t h (by omega) h7]
    dsimp only
    rw [middle, add_part]

theorem written (c : Dev nD) (t : Fin cfg0.N) (h7 : t.val % 4 = 3) : (outsAt0 m c t.val t.isLt).1 = (outsAt0 m c t.val t.isLt).2 := by
  rw [outsAt0_C m c t (by omega) (by omega) h7]
  dsimp only
  rw [last, result]

theorem final (c : Dev nD) : (dats m 0 c).arrAt 2 cfg0.N = G m c := by
  refine (dats m 0 c).arrAt_eq_of_covers 2 _ (by decide +kernel) fun t hf y => ?_
  have h7 : t.val % 4 = 3 := (flush0_2 t).mp hf
  blk_simp
  rw [after0_2, written m c t h7]
  have e := Pipeline.eq_sum_fin_of_reset_step_apply_of_flush (held m c) 4 (fun _ => (0 : EReal)) (part m c)
    (held_first m c) (held_next m c) t h7 y
  refine Eq.trans e ?_
  rw [zero_add]
  clear e
  idx_vars y
  pointwise [part, k0_pay1, G, Cert.Reference9Ideal.Read.val_main_v4, Cert.Reference9Ideal.Read.val_main_v3, Cert.Reference9Ideal.Read.val_main_v1]
  obtain ⟨-, -, -, -, e4, e5⟩ := idx t
  refine Fin.sum_mul_add_congr (M := EReal) fun s k hl => ?_
  have hp : 4 * (t.val / 4) + s.val < cfg0.N := by
    have h16 : t.val < 4 := lt_of_lt_of_eq t.isLt N_0
    rw [show cfg0.N = 4 from N_0]; omega
  obtain ⟨e0, e1, e2, e3, -, -⟩ := idx ⟨4 * (t.val / 4) + s.val, hp⟩
  have es : (4 * (t.val / 4) + s.val) % 4 = s.val := by omega
  have et : (4 * (t.val / 4) + s.val) / 4 = t.val / 4 := by omega
  simp only [es, et] at e0 e1 e2 e3
  congr 1
  · blk_ext [iblk, V, e0, e1, e4, e5]
  · blk_ext [iblk, V, e2, e3, e4, e5]

theorem quiescent_p : Cert.quiescent_Kernel9 := fun m ρ _ => Cert.Kernel9.Gen.frame m ρ
theorem quiescent_pi : Cert.quiescent_Kernel9Ideal := fun m ρ _ => Cert.Kernel9Ideal.Gen.frame m ρ

theorem quiescent_ri : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

theorem algebraic : Cert.algebraic_Kernel9Ideal_Reference9Ideal := by
  pair_intro
  · run_from (Cert.Kernel9Ideal.Value.run_blocks m g)
  · run_from (Cert.Reference9Ideal.Value.run m' g')
    rw [final]
    rfl

end Cert.MulDkvn

end
-- ==== Proof.MulFfn.lean ====
/-
  The down projection of the feed-forward block, x·w, in blocks of 1024 columns of the result, each in four steps of 1408
  entries of the contraction added up in a scratch.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulFfn

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference16Ideal.Read.val_main_v2 (F := Ideal) (m ((c : Thread nD τ).loc main_arg0)) (m ((c : Thread nD τ).loc main_arg1))

theorem hz : (![0, 0] : Fin 2 → Nat) = fun _ => 0 := funext fun a => by fin_cases a <;> rfl

/-- The part of the sum that one step computes. -/
abbrev part (c : Dev nD) (t : Fin cfg0.N) : Vec Ideal S2048x1024 .f32 := k0_pay1 (iblk m c 0 t) (iblk m c 1 t)

section Cases
variable (c : Dev nD) (i : grid0.Coords) (arg3 : Memref sig .tc .vmem S2048x1408 .bf16) (harg3 : arg3.IsWhole) (arg4 : Memref sig .tc .vmem S1408x1024 .bf16) (harg4 : arg4.IsWhole) (arg5 : Memref sig .tc .vmem S2048x1024 .f32) (harg5 : arg5.IsWhole) (arg6 : Memref sig .tc .vmem S2048x1024 .f32) (harg6 : arg6.IsWhole)
variable (x0 : Vec Ideal S2048x1408 .bf16) (x1 : Vec Ideal S1408x1024 .bf16) (xs : Vec Ideal S2048x1024 .f32)

theorem first (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (fun y => scover0_A_0 c i arg3 harg3 arg4 harg4 arg5 harg5 arg6 harg6 h0 h1 h2 x0 x1 y)]
  unfold kernelRun0_A
  dsimp only
  rw [View.canon_unit_zero hz]
  unfold k0_pay2
  simp only [View.readAt_eq_ld, harg3.read_unread, harg4.read_unread, View.ld_unit_zero (S := S2048x1408) hz, View.ld_unit_zero (S := S1408x1024) hz, shapeCast_self]

theorem middle (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (fun y => scover0_B_0 c i arg3 harg3 arg4 harg4 arg5 harg5 arg6 harg6 h0 h1 h2 x0 x1 xs y)]
  unfold kernelRun0_B
  dsimp only
  rw [View.canon_unit_zero hz]
  simp only [View.readAt_eq_ld, harg3.read_unread, harg4.read_unread, harg6.read_unread, View.ld_unit_zero (S := S2048x1408) hz, View.ld_unit_zero (S := S1408x1024) hz, View.ld_unit_zero (S := S2048x1024) hz]

theorem last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (fun y => scover0_C_0 c i arg3 harg3 arg4 harg4 arg5 harg5 arg6 harg6 h0 h1 h2 x0 x1 xs y)]
  unfold kernelRun0_C
  dsimp only
  sl_unfold_words
  rw [View.canon_unit_zero hz]
  simp only [View.readAt_eq_ld, harg3.read_unread, harg4.read_unread, harg6.read_unread, View.ld_unit_zero (S := S2048x1408) hz, View.ld_unit_zero (S := S1408x1024) hz, View.ld_unit_zero (S := S2048x1024) hz]

theorem result (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (fun y => cover0_C_2 c i arg3 harg3 arg4 harg4 arg5 harg5 arg6 harg6 h0 h1 h2 x0 x1 xs y)]
  unfold kernelRun0_C
  dsimp only
  sl_unfold_words
  rw [View.canon_unit_zero hz, View.readCov_unit_zero (S := S2048x1024) _ hz]
  simp only [View.readAt_eq_ld, harg3.read_unread, harg4.read_unread, harg6.read_unread, View.ld_unit_zero (S := S2048x1408) hz, View.ld_unit_zero (S := S1408x1024) hz, View.ld_unit_zero (S := S2048x1024) hz]
end Cases

/-- The places of the blocks: step `t % 4` takes entries `1408·(t % 4)…` of the contraction, for the block of columns
    `t / 4` of the result. -/
theorem idx : ∀ t : Fin cfg0.N, win0_0.index t 0 = 0 ∧ win0_0.index t 1 = t.val % 4 ∧ win0_1.index t 0 = t.val % 4 ∧ win0_1.index t 1 = t.val / 4
    ∧ win0_2.index t 0 = 0 ∧ win0_2.index t 1 = t.val / 4 := by decide +kernel

theorem add_part (x0 : Vec Ideal S2048x1408 .bf16) (x1 : Vec Ideal S1408x1024 .bf16) (v : Vec Ideal S2048x1024 .f32)
    (y : S2048x1024.Idx) : k0_pay3 x0 x1 v y = (v y + k0_pay1 x0 x1 y : EReal) := by
  unfold k0_pay3
  rw [shapeCast_self]
  rfl

/-- What the scratch holds after a step, at an entry. -/
abbrev held (c : Dev nD) (n : ℕ) (h : n < cfg0.N) (y : S2048x1024.Idx) : EReal := (outsAt0 m c n h).2 y

theorem held_first (c : Dev nD) (t : Fin cfg0.N) (h : t.val % 4 = 0) (y : S2048x1024.Idx) :
    held m c t.val t.isLt y = 0 + part m c t y := by
  rw [held, outsAt0_A m c t h (by omega) (by omega)]
  dsimp only
  rw [first, zero_add]

theorem held_next (c : Dev nD) (t : Fin cfg0.N) (h : ¬t.val % 4 = 0) (y : S2048x1024.Idx) :
    held m c t.val t.isLt y = held m c (t.val - 1) (Nat.lt_of_le_of_lt (Nat.sub_le _ _) t.isLt) y + part m c t y := by
  unfold held
  by_cases h7 : t.val % 4 = 3
  · rw [outsAt0_C m c t h (by omega) h7]
    dsimp only
    rw [last, add_part]
  · rw [outsAt0_B m c t h (by omega) h7]
    dsimp only
    rw [middle, add_part]

theorem written (c : Dev nD) (t : Fin cfg0.N) (h7 : t.val % 4 = 3) : (outsAt0 m c t.val t.isLt).1 = (outsAt0 m c t.val t.isLt).2 := by
  rw [outsAt0_C m c t (by omega) (by omega) h7]
  dsimp only
  rw [last, result]

theorem final (c : Dev nD) : (dats m 0 c).arrAt 2 cfg0.N = G m c := by
  refine (dats m 0 c).arrAt_eq_of_covers 2 _ (by decide +kernel) fun t hf y => ?_
  have h7 : t.val % 4 = 3 := (flush0_2 t).mp hf
  blk_simp
  rw [after0_2, written m c t h7]
  have e := Pipeline.eq_sum_fin_of_reset_step_apply_of_flush (held m c) 4 (fun _ => (0 : EReal)) (part m c)
    (held_first m c) (held_next m c) t h7 y
  refine Eq.trans e ?_
  rw [zero_add]
  clear e
  idx_vars y
  pointwise [part, k0_pay1, G, Cert.Reference16Ideal.Read.val_main_v2, Cert.Reference16Ideal.Read.val_main_v1, Cert.Reference16Ideal.Read.val_main_v0]
  obtain ⟨-, -, -, -, e4, e5⟩ := idx t
  refine Fin.sum_mul_add_congr (M := EReal) fun s k hl => ?_
  have hp : 4 * (t.val / 4) + s.val < cfg0.N := by
    have h16 : t.val < 8 := lt_of_lt_of_eq t.isLt N_0
    rw [show cfg0.N = 8 from N_0]; omega
  obtain ⟨e0, e1, e2, e3, -, -⟩ := idx ⟨4 * (t.val / 4) + s.val, hp⟩
  have es : (4 * (t.val / 4) + s.val) % 4 = s.val := by omega
  have et : (4 * (t.val / 4) + s.val) / 4 = t.val / 4 := by omega
  simp only [es, et] at e0 e1 e2 e3
  congr 1
  · blk_ext [iblk, V, e0, e1, e4, e5]
  · blk_ext [iblk, V, e2, e3, e4, e5]

theorem quiescent_p : Cert.quiescent_Kernel16 := fun m ρ _ => Cert.Kernel16.Gen.frame m ρ
theorem quiescent_pi : Cert.quiescent_Kernel16Ideal := fun m ρ _ => Cert.Kernel16Ideal.Gen.frame m ρ

theorem quiescent_ri : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)

theorem algebraic : Cert.algebraic_Kernel16Ideal_Reference16Ideal := by
  pair_intro
  · run_from (Cert.Kernel16Ideal.Value.run_blocks m g)
  · run_from (Cert.Reference16Ideal.Value.run m' g')
    rw [final]
    rfl

end Cert.MulFfn

end
-- ==== Proof.NormReal.lean ====
/- One row of the gradient of a root-mean-square norm, over the extended reals. -/
module

public import Mathlib.Analysis.SpecialFunctions.Log.Basic
public import Idealize.ShloMosaic.PureOps.Ideal.Laws

@[expose] public section

noncomputable section

namespace Cert.NormReal

open Idealize.ShloMosaic

/-- The length of a row, and what is added to its mean square. -/
abbrev len : EReal := Ideal.ofBits FTy.f32 0x45000000#32
abbrev eps : EReal := Ideal.ofBits FTy.f32 0x358637BD#32
/-- Minus one half. -/
abbrev mhalf : EReal := Ideal.ofBits FTy.f32 0xBF000000#32

theorem len_eq : len = ((2048 : ℝ) : EReal) := by
  simp [len, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_pos : ∃ e : ℝ, 0 < e ∧ eps = (e : EReal) := by
  refine ⟨8796093 / 2 ^ 43, by positivity, ?_⟩
  simp [eps, Ideal.ofBits, Ideal.ieee]
  rw [← EReal.coe_mul]
  norm_num

variable {n : ℕ}

/-- The mean square of a row with the small constant added. -/
abbrev ms (x : Fin n → EReal) : EReal := Ideal.div (∑ k, x k * x k) len + eps

/-- The mean square is a positive real number, or infinite. -/
theorem ms_cases (x : Fin n → EReal) : ms x = ⊤ ∨ ∃ v : ℝ, 0 < v ∧ ms x = (v : EReal) := by
  obtain ⟨e, he, h⟩ := eps_pos
  have h0 : 0 ≤ ∑ k, x k * x k := Finset.sum_nonneg fun k _ => by
    generalize x k = y
    induction y using EReal.rec with
    | bot => rw [EReal.bot_mul_bot]; exact le_top
    | top => rw [EReal.top_mul_top]; exact le_top
    | coe r => rw [← EReal.coe_mul]; exact_mod_cast mul_self_nonneg r
  unfold ms
  rw [h, len_eq, Ideal.div_coe (by norm_num)]
  generalize ∑ k, x k * x k = s at h0
  induction s using EReal.rec with
  | bot => exact absurd h0 (by simp)
  | top =>
    left
    rw [EReal.top_mul_coe_of_pos (by norm_num), EReal.top_add_coe]
  | coe r =>
    right
    have hr : 0 ≤ r := by exact_mod_cast h0
    exact ⟨r * (1 / 2048) + e, by positivity, by rw [EReal.coe_add, EReal.coe_mul]⟩

/-- A real number that is not negative is taken out of a sum. -/
theorem sum_mul (f : Fin n → EReal) (r : ℝ) (hr : 0 ≤ r) : (∑ k, f k) * (r : EReal) = ∑ k, f k * (r : EReal) := by
  classical
  generalize (Finset.univ : Finset (Fin n)) = s
  induction s using Finset.induction_on with
  | empty => simp
  | insert a s ha ih =>
    rw [Finset.sum_insert ha, Finset.sum_insert ha, EReal.right_distrib_of_nonneg_of_ne_top (by exact_mod_cast hr) (EReal.coe_ne_top r), ih]

/-- The gradient of a row as a difference from its projection is the gradient of its two factors. -/
theorem row (x a : Fin n → EReal) (j : Fin n) :
    Ideal.rsqrt (ms x) * (a j - x j * Ideal.rsqrt (ms x) * Ideal.div (∑ k, a k * (x k * Ideal.rsqrt (ms x))) len)
      = (a j * Ideal.rsqrt (ms x)
          + x j * Ideal.div ((∑ k, x k * a k) * (mhalf * Ideal.div (Ideal.rsqrt (ms x)) (ms x))) len)
        + Ideal.div ((∑ k, x k * a k) * (mhalf * Ideal.div (Ideal.rsqrt (ms x)) (ms x))) len * x j := by
  rcases ms_cases x with h | ⟨v, hv, h⟩
  · rw [h, Ideal.rsqrt_top]
    have hd : Ideal.div 0 ⊤ = 0 := by simp [Ideal.div]
    rw [hd, len_eq, Ideal.div_coe (by norm_num), Ideal.div_coe (by norm_num)]
    simp
  · obtain ⟨r, hr, h1, hrr⟩ : ∃ r : ℝ, 0 < r ∧ Ideal.rsqrt (v : EReal) = r ∧ 1 / v = r * r :=
      ⟨(√v)⁻¹, by positivity, by rw [Ideal.rsqrt_coe, if_neg hv.le.not_gt, if_neg hv.ne'],
        by rw [← mul_inv, Real.mul_self_sqrt hv.le, one_div]⟩
    rw [h, h1, mhalf_eq, len_eq, Ideal.div_coe hv.ne', hrr]
    simp only [Ideal.div_coe (show (2048 : ℝ) ≠ 0 by norm_num)]
    have hs : (∑ k, a k * (x k * (r : EReal))) = (∑ k, x k * a k) * (r : EReal) := by
      rw [sum_mul _ _ hr.le]
      exact Finset.sum_congr rfl fun k _ => by rw [← mul_assoc, mul_comm (a k)]
    rw [hs]
    generalize (∑ k, x k * a k) = s
    obtain ⟨c, hc, hc'⟩ : ∃ c : ℝ, 0 ≤ c ∧ c = r * r * r * (1 / 2048) * (1 / 2) := ⟨_, by positivity, rfl⟩
    have hl : (r : EReal) * (x j * r * (s * r * ((1 / 2048 : ℝ) : EReal))) = x j * s * ((c + c : ℝ) : EReal) := by
      rw [show (r : EReal) * (x j * r * (s * r * ((1 / 2048 : ℝ) : EReal))) = x j * s * (r * r * r * ((1 / 2048 : ℝ) : EReal)) by ac_rfl]
      simp only [← EReal.coe_mul]
      rw [hc']
      congr 2
      ring
    have hp : x j * (s * (((-(1 / 2) : ℝ) : EReal) * (r * ((r * r : ℝ) : EReal))) * ((1 / 2048 : ℝ) : EReal)) = -(x j * s) * (c : EReal) := by
      rw [show x j * (s * (((-(1 / 2) : ℝ) : EReal) * (r * ((r * r : ℝ) : EReal))) * ((1 / 2048 : ℝ) : EReal))
        = x j * s * (((-(1 / 2) : ℝ) : EReal) * (r * ((r * r : ℝ) : EReal)) * ((1 / 2048 : ℝ) : EReal)) by ac_rfl]
      simp only [← EReal.coe_mul]
      rw [show (-(1 / 2) * (r * (r * r)) * (1 / 2048) : ℝ) = -c by rw [hc']; ring, EReal.coe_neg, mul_neg, neg_mul]
    rw [mul_comm _ (x j), hp, EReal.mul_sub_of_nonneg_of_ne_top (by exact_mod_cast hr.le) (EReal.coe_ne_top r), hl,
      sub_eq_add_neg, ← neg_mul, EReal.coe_add, EReal.left_distrib_of_nonneg (by exact_mod_cast hc) (by exact_mod_cast hc),
      mul_comm (r : EReal), add_assoc]

/-- The row's gradient where the norm is scaled by a weight and one plus a modulation, with the gradient past the norm added. -/
theorem row_mod (d : EReal) (x b g s : Fin n → EReal) (j : Fin n) :
    d + Ideal.rsqrt (ms x) * (b j * g j * (1 + s j) - x j * Ideal.rsqrt (ms x) * Ideal.div (∑ k, b k * g k * (1 + s k) * (x k * Ideal.rsqrt (ms x))) len)
      = d + b j * (1 + s j) * g j * Ideal.rsqrt (ms x)
          + x j * Ideal.div ((∑ k, x k * (b k * (1 + s k) * g k)) * (mhalf * Ideal.div (Ideal.rsqrt (ms x)) (ms x))) len
        + Ideal.div ((∑ k, x k * (b k * (1 + s k) * g k)) * (mhalf * Ideal.div (Ideal.rsqrt (ms x)) (ms x))) len * x j := by
  have e := row x (fun k => b k * (1 + s k) * g k) j
  simp only [mul_right_comm (b _) (g _) (1 + s _)]
  rw [add_assoc, add_assoc, ← add_assoc (b j * (1 + s j) * g j * _), ← e]

/-- The row's gradient where the norm is scaled by a weight and a gate. -/
theorem row_post (x b g s : Fin n → EReal) (j : Fin n) :
    Ideal.rsqrt (ms x) * (b j * s j * g j - x j * Ideal.rsqrt (ms x) * Ideal.div (∑ k, b k * s k * g k * (x k * Ideal.rsqrt (ms x))) len)
      = s j * b j * g j * Ideal.rsqrt (ms x)
          + x j * Ideal.div ((∑ k, x k * (s k * b k * g k)) * (mhalf * Ideal.div (Ideal.rsqrt (ms x)) (ms x))) len
        + Ideal.div ((∑ k, x k * (s k * b k * g k)) * (mhalf * Ideal.div (Ideal.rsqrt (ms x)) (ms x))) len * x j := by
  have e := row x (fun k => s k * b k * g k) j
  simp only [mul_comm (b _) (s _)]
  exact e

/-- A column's term in the other order. -/
theorem swap (a b c : EReal) : a * b * c = b * (a * c) := by rw [mul_comm a b, mul_assoc]

theorem cross (a b c : EReal) : a * b * c = c * (b * a) := by rw [mul_comm, mul_comm a b]

theorem cycle (a b c : EReal) : a * b * c = b * c * a := by rw [mul_assoc, mul_comm]

end Cert.NormReal

end
-- ==== Proof.NormPre.lean ====
/-
  The gradient of the norm and modulation before a branch, in four blocks of 512 tokens: the tokens' gradient block by
  block, and the three weight gradients added up over the blocks.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.NormReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormPre

open Cert.Kernel17Ideal Cert.Kernel17Ideal.Gen Idealize.ShloMosaic Idealize.ShloMosaic.TcCoe Idealize.SL.Sem
open Idealize.ShloMosaic.Pipeline (Dat)
open Cert.Reference17Ideal.Read

variable (m : (ℓ : Loc nD τ sig) → Buf (Elt Ideal) ℓ)

theorem hz : (![0, 0] : Fin 2 → Nat) = fun _ => 0 := funext fun a => by fin_cases a <;> rfl

section Cases
variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole)
variable (x0 x1 x2 : Vec Ideal S512x2048 .f32) (x3 x4 p6 p7 p8 : Vec Ideal S1x2048 .f32)

section A
variable (h0 : cond0_0 i) (h1 : ¬cond0_1 i) (h2 : cond0_2 i) (h3 : ¬cond0_3 i) (h4 : cond0_4 i) (h5 : ¬cond0_5 i)

theorem a5 : out0_A_5 c i arg1 harg1 arg2 harg2 arg3 harg3 arg4 harg4 arg5 harg5 arg6 harg6 arg7 harg7 arg8 harg8 arg9 harg9 h0 h1 h2 h3 h4 h5 x0 x1 x2 x3 x4
    = k0_pay4 (k0_pay5 x0) (k0_pay6 x0) x1 x3 (k0_pay7 x4) x2 := by
  unfold out0_A_5
  rw [View.read_writes_eq_canon _ _ _ (fun y => cover0_A_5 c i arg1 harg1 arg2 harg2 arg3 harg3 arg4 harg4 arg5 harg5 arg6 harg6 arg7 harg7 arg8 harg8 arg9 harg9 h0 h1 h2 h3 h4 h5 x0 x1 x2 x3 x4 y)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S512x2048) hz, View.ld_unit_zero (S := S1x2048) hz]

theorem a6 : out0_A_6 c i arg1 harg1 arg2 harg2 arg3 harg3 arg4 harg4 arg5 harg5 arg6 harg6 arg7 harg7 arg8 harg8 arg9 harg9 h0 h1 h2 h3 h4 h5 x0 x1 x2 x3 x4
    = k0_pay8 x1 := by
  unfold out0_A_6
  rw [View.read_writes_eq_canon _ _ _ (fun y => cover0_A_6 c i arg1 harg1 arg2 harg2 arg3 harg3 arg4 harg4 arg5 harg5 arg6 harg6 arg7 harg7 arg8 harg8 arg9 harg9 h0 h1 h2 h3 h4 h5 x0 x1 x2 x3 x4 y)]
  unfold kernelRun0_A
  dsimp only
  rw [View.canon_unit_zero hz]
  simp only [View.readAt_eq_ld, harg1.read_unread, harg2.read_unread, harg3.read_unread, harg4.read_unread, harg5.read_unread, View.ld_unit_zero (S := S512x2048) hz, View.ld_unit_zero (S := S1x2048) hz, shapeCast_self]

theorem a7 : out0_A_7 c i arg1 harg1 arg2 harg2 arg3 harg3 arg4 harg4 arg5 harg5 arg6 harg6 arg7 harg7 arg8 harg8 arg9 harg9 h0 h1 h2 h3 h4 h5 x0 x1 x2 x3 x4
    = k0_pay10 x0 x1 x3 := by
  unfold out0_A_7
  rw [View.read_writes_eq_canon _ _ _ (fun y => cover0_A_7 c i arg1 harg1 arg2 harg2 arg3 harg3 arg4 harg4 arg5 harg5 arg6 harg6 arg7 harg7 arg8 harg8 arg9 harg9 h0 h1 h2 h3 h4 h5 x0 x1 x2 x3 x4 y)]
  unfold kernelRun0_A
  dsimp only
  rw [View.canon_unit_zero hz]
  simp only [View.readAt_eq_ld, harg1.read_unread, harg2.read_unread, harg3.read_unread, harg4.read_unread, harg5.read_unread, View.ld_unit_zero (S := S512x2048) hz, View.ld_unit_zero (S := S1x2048) hz, shapeCast_self]

theorem a8 : out0_A_8 c i arg1 harg1 arg2 harg2 arg3 harg3 arg4 harg4 arg5 harg5 arg6 harg6 arg7 harg7 arg8 harg8 arg9 harg9 h0 h1 h2 h3 h4 h5 x0 x1 x2 x3 x4
    = k0_pay2 (k0_pay6 x0) x1 (k0_pay7 x4) := by
  unfold out0_A_8
  rw [View.read_writes_eq_canon _ _ _ (fun y => cover0_A_8 c i arg1 harg1 arg2 harg2 arg3 harg3 arg4 harg4 arg5 harg5 arg6 harg6 arg7 harg7 arg8 harg8 arg9 harg9 h0 h1 h2 h3 h4 h5 x0 x1 x2 x3 x4 y)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S512x2048) hz, View.ld_unit_zero (S := S1x2048) hz, shapeCast_self]
end A

section B
variable (h0 : ¬cond0_0 i) (h1 : cond0_1 i) (h2 : ¬cond0_2 i) (h3 : cond0_3 i) (h4 : ¬cond0_4 i) (h5 : cond0_5 i)

theorem b5 : out0_B_5 c i arg1 harg1 arg2 harg2 arg3 harg3 arg4 harg4 arg5 harg5 arg6 harg6 arg7 harg7 arg8 harg8 arg9 harg9 h0 h1 h2 h3 h4 h5 x0 x1 x2 x3 x4 p6 p7 p8
    = k0_pay4 (k0_pay5 x0) (k0_pay6 x0) x1 x3 (k0_pay7 x4) x2 := by
  unfold out0_B_5
  rw [View.read_writes_eq_canon _ _ _ (fun y => cover0_B_5 c i arg1 harg1 arg2 harg2 arg3 harg3 arg4 harg4 arg5 harg5 arg6 harg6 arg7 harg7 arg8 harg8 arg9 harg9 h0 h1 h2 h3 h4 h5 x0 x1 x2 x3 x4 p6 p7 p8 y)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S512x2048) hz, View.ld_unit_zero (S := S1x2048) hz]

theorem b6 : out0_B_6 c i arg1 harg1 arg2 harg2 arg3 harg3 arg4 harg4 arg5 harg5 arg6 harg6 arg7 harg7 arg8 harg8 arg9 harg9 h0 h1 h2 h3 h4 h5 x0 x1 x2 x3 x4 p6 p7 p8
    = k0_pay9 x1 p6 := by
  unfold out0_B_6
  rw [View.read_writes_eq_canon _ _ _ (fun y => cover0_B_6 c i arg1 harg1 arg2 harg2 arg3 harg3 arg4 harg4 arg5 harg5 arg6 harg6 arg7 harg7 arg8 harg8 arg9 harg9 h0 h1 h2 h3 h4 h5 x0 x1 x2 x3 x4 p6 p7 p8 y)]
  unfold kernelRun0_B
  dsimp only
  rw [View.canon_unit_zero hz]
  simp only [View.readAt_eq_ld, harg1.read_unread, harg2.read_unread, harg3.read_unread, harg4.read_unread, harg5.read_unread, harg7.read_unread, View.ld_unit_zero (S := S512x2048) hz, View.ld_unit_zero (S := S1x2048) hz]

theorem b7 : out0_B_7 c i arg1 harg1 arg2 harg2 arg3 harg3 arg4 harg4 arg5 harg5 arg6 harg6 arg7 harg7 arg8 harg8 arg9 harg9 h0 h1 h2 h3 h4 h5 x0 x1 x2 x3 x4 p6 p7 p8
    = k0_pay1 (k0_pay10 x0 x1 x3) p7 := by
  unfold out0_B_7
  rw [View.read_writes_eq_canon _ _ _ (fun y => cover0_B_7 c i arg1 harg1 arg2 harg2 arg3 harg3 arg4 harg4 arg5 harg5 arg6 harg6 arg7 harg7 arg8 harg8 arg9 harg9 h0 h1 h2 h3 h4 h5 x0 x1 x2 x3 x4 p6 p7 p8 y)]
  unfold kernelRun0_B
  dsimp only
  sl_unfold_words
  rw [View.canon_unit_zero hz]
  simp only [View.readAt_eq_ld, harg1.read_unread, harg2.read_unread, harg3.read_unread, harg4.read_unread, harg5.read_unread, harg8.read_unread, View.ld_unit_zero (S := S512x2048) hz, View.ld_unit_zero (S := S1x2048) hz]

theorem b8 : out0_B_8 c i arg1 harg1 arg2 harg2 arg3 harg3 arg4 harg4 arg5 harg5 arg6 harg6 arg7 harg7 arg8 harg8 arg9 harg9 h0 h1 h2 h3 h4 h5 x0 x1 x2 x3 x4 p6 p7 p8
    = k0_pay3 (k0_pay6 x0) x1 (k0_pay7 x4) p8 := by
  unfold out0_B_8
  rw [View.read_writes_eq_canon _ _ _ (fun y => cover0_B_8 c i arg1 harg1 arg2 harg2 arg3 harg3 arg4 harg4 arg5 harg5 arg6 harg6 arg7 harg7 arg8 harg8 arg9 harg9 h0 h1 h2 h3 h4 h5 x0 x1 x2 x3 x4 p6 p7 p8 y)]
  unfold kernelRun0_B
  dsimp only
  sl_unfold_words
  rw [View.canon_unit_zero hz]
  simp only [View.readAt_eq_ld, harg1.read_unread, harg2.read_unread, harg3.read_unread, harg4.read_unread, harg5.read_unread, harg9.read_unread, View.ld_unit_zero (S := S512x2048) hz, View.ld_unit_zero (S := S1x2048) hz]
end B
end Cases

/-- The places of the blocks: step `t` takes the tokens `512·t…`. -/
theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 ∧ win0_4.index t 1 = 0
    ∧ win0_5.index t 0 = t.val ∧ win0_5.index t 1 = 0 ∧ win0_6.index t 0 = 0 ∧ win0_6.index t 1 = 0 ∧ win0_7.index t 0 = 0 ∧ win0_7.index t 1 = 0
    ∧ win0_8.index t 0 = 0 ∧ win0_8.index t 1 = 0 := by decide +kernel

/-! ## The weight gradients -/

/-- What one step adds to each of the three. -/
abbrev p6 (c : Dev nD) (t : Fin cfg0.N) : Vec Ideal S1x2048 .f32 := k0_pay8 (iblk m c 1 t)
abbrev p7 (c : Dev nD) (t : Fin cfg0.N) : Vec Ideal S1x2048 .f32 := k0_pay10 (iblk m c 0 t) (iblk m c 1 t) (iblk m c 3 t)
abbrev p8 (c : Dev nD) (t : Fin cfg0.N) : Vec Ideal S1x2048 .f32 := k0_pay2 (k0_pay6 (iblk m c 0 t)) (iblk m c 1 t) (k0_pay7 (iblk m c 4 t))

abbrev H6 (c : Dev nD) (n : ℕ) (h : n < cfg0.N) (y : S1x2048.Idx) : EReal := (outsAt0 m c n h).2.1 y
abbrev H7 (c : Dev nD) (n : ℕ) (h : n < cfg0.N) (y : S1x2048.Idx) : EReal := (outsAt0 m c n h).2.2.1 y
abbrev H8 (c : Dev nD) (n : ℕ) (h : n < cfg0.N) (y : S1x2048.Idx) : EReal := (outsAt0 m c n h).2.2.2 y

theorem start (c : Dev nD) (t : Fin cfg0.N) (h : t.val % 4 = 0) (y : S1x2048.Idx) :
    H6 m c t.val t.isLt y = 0 + p6 m c t y ∧ H7 m c t.val t.isLt y = 0 + p7 m c t y ∧ H8 m c t.val t.isLt y = 0 + p8 m c t y := by
  have h4 : t.val < 4 := lt_of_lt_of_eq t.isLt N_0
  have hn : ¬1 ≤ t.val := by omega
  rw [H6, H7, H8, outsAt0_A m c t h hn h hn h hn]
  dsimp only
  rw [a6, a7, a8, zero_add, zero_add, zero_add]
  exact ⟨rfl, rfl, rfl⟩

theorem step (c : Dev nD) (t : Fin cfg0.N) (h : ¬t.val % 4 = 0) (y : S1x2048.Idx) :
    H6 m c t.val t.isLt y = H6 m c (t.val - 1) (Nat.lt_of_le_of_lt (Nat.sub_le _ _) t.isLt) y + p6 m c t y
    ∧ H7 m c t.val t.isLt y = H7 m c (t.val - 1) (Nat.lt_of_le_of_lt (Nat.sub_le _ _) t.isLt) y + p7 m c t y
    ∧ H8 m c t.val t.isLt y = H8 m c (t.val - 1) (Nat.lt_of_le_of_lt (Nat.sub_le _ _) t.isLt) y + p8 m c t y := by
  have hn : 1 ≤ t.val := by omega
  unfold H6 H7 H8
  rw [outsAt0_B m c t h hn h hn h hn]
  dsimp only
  rw [b6, b7, b8]
  unfold k0_pay9 k0_pay1 k0_pay3
  rw [shapeCast_self, shapeCast_self, shapeCast_self]
  exact ⟨rfl, rfl, rfl⟩

abbrev G6 (c : Dev nD) : Buf (Elt Ideal) ((c : Thread nD τ).loc main_v0_1) :=
  val_main_v24 (F := Ideal) (m ((c : Thread nD τ).loc main_arg1))

/-- A block's entry is an entry of its array. -/
theorem in0 (c : Dev nD) (t : Fin cfg0.N) (r : Fin 512) (k R : Fin 2048) (h : R.val = t.val * 512 + r.val) :
    iblk m c 0 t (ix2 r k) = m ((c : Thread nD τ).loc main_arg0) (ix2 R k) := by
  obtain ⟨e0, e1, -⟩ := idx t
  blk_ext [iblk, V, e0, e1]

theorem in1 (c : Dev nD) (t : Fin cfg0.N) (r : Fin 512) (k R : Fin 2048) (h : R.val = t.val * 512 + r.val) :
    iblk m c 1 t (ix2 r k) = m ((c : Thread nD τ).loc main_arg1) (ix2 R k) := by
  obtain ⟨-, -, e0, e1, -⟩ := idx t
  blk_ext [iblk, V, e0, e1]

theorem in2 (c : Dev nD) (t : Fin cfg0.N) (r : Fin 512) (k R : Fin 2048) (h : R.val = t.val * 512 + r.val) :
    iblk m c 2 t (ix2 r k) = m ((c : Thread nD τ).loc main_arg2) (ix2 R k) := by
  obtain ⟨-, -, -, -, e0, e1, -⟩ := idx t
  blk_ext [iblk, V, e0, e1]

theorem in3 (c : Dev nD) (t : Fin cfg0.N) (k : Fin 2048) :
    iblk m c 3 t (ix2 0 k) = m ((c : Thread nD τ).loc main_arg3) (ix2 0 k) := by
  obtain ⟨-, -, -, -, -, -, e0, e1, -⟩ := idx t
  blk_ext [iblk, V, e0, e1]

theorem in4 (c : Dev nD) (t : Fin cfg0.N) (k : Fin 2048) :
    iblk m c 4 t (ix2 0 k) = m ((c : Thread nD τ).loc main_arg4) (ix2 0 k) := by
  obtain ⟨-, -, -, -, -, -, -, -, e0, e1, -⟩ := idx t
  blk_ext [iblk, V, e0, e1]

/-- The four points are the four steps of the one sum. -/
theorem turn (t : Fin cfg0.N) (s : Fin 4) : 4 * (t.val / 4) + s.val = s.val := by
  have h16 : t.val < 4 := lt_of_lt_of_eq t.isLt N_0
  omega

theorem final6 (c : Dev nD) : (dats m 0 c).arrAt 6 cfg0.N = G6 m c := by
  refine (dats m 0 c).arrAt_eq_of_covers 6 _ (by decide +kernel) fun t hf y => ?_
  have h7 : t.val % 4 = 3 := (flush0_6 t).mp hf
  blk_simp
  rw [after0_6]
  have e := Pipeline.eq_sum_fin_of_reset_step_apply_of_flush (H6 m c) 4 (fun _ => (0 : EReal)) (p6 m c)
    (fun t h y => (start m c t h y).1) (fun t h y => (step m c t h y).1) t h7 y
  refine Eq.trans e ?_
  rw [zero_add]
  clear e
  idx_vars y
  obtain ⟨-, -, -, -, -, -, -, -, -, -, -, -, e0, e1, -⟩ := idx t
  have ey : ((View.whole main_v0_1).slice (win0_6.rect t)).emb (ix2 y0 y1) = ix2 y0 y1 := by
    blk_ext [e0, e1]
  rw [ey]
  pointwise [p6, k0_pay8, G6, val_main_v24, val_main_v23, val_main_cst_5]
  refine Fin.sum_mul_add_congr (M := EReal) fun s k hl => ?_
  have hk : (⟨s.val * 512 + k.val, hl⟩ : Fin 2048).val = (4 * (t.val / 4) + s.val) * 512 + k.val := by rw [turn]
  exact in1 m c _ k y1 _ hk

abbrev G7 (c : Dev nD) : Buf (Elt Ideal) ((c : Thread nD τ).loc main_v0_2) :=
  val_main_v27 (F := Ideal) (m ((c : Thread nD τ).loc main_arg0)) (m ((c : Thread nD τ).loc main_arg1)) (m ((c : Thread nD τ).loc main_arg3))

theorem final7 (c : Dev nD) : (dats m 0 c).arrAt 7 cfg0.N = G7 m c := by
  refine (dats m 0 c).arrAt_eq_of_covers 7 _ (by decide +kernel) fun t hf y => ?_
  have h7 : t.val % 4 = 3 := (flush0_7 t).mp hf
  blk_simp
  rw [after0_7]
  have e := Pipeline.eq_sum_fin_of_reset_step_apply_of_flush (H7 m c) 4 (fun _ => (0 : EReal)) (p7 m c)
    (fun t h y => (start m c t h y).2.1) (fun t h y => (step m c t h y).2.1) t h7 y
  refine Eq.trans e ?_
  rw [zero_add]
  clear e
  idx_vars y
  obtain ⟨-, -, -, -, -, -, -, -, -, -, -, -, -, -, e0, e1, -⟩ := idx t
  have ey : ((View.whole main_v0_2).slice (win0_7.rect t)).emb (ix2 y0 y1) = ix2 y0 y1 := by
    blk_ext [e0, e1]
  rw [ey]
  pointwise [p7, k0_pay10, k0_pay6, k0_pay5, G7, val_main_v27, val_main_v26, val_main_v25, val_main_v22, val_main_cst_6, val_main_v15, val_main_v14, val_main_v13, val_main_v12, val_main_v8, val_main_v7, val_main_v6, val_main_v5, val_main_v4, val_main_v3, val_main_v2, val_main_v1, val_main_cst_0, val_main_cst_1, val_main_cst_2]
  refine Fin.sum_mul_add_congr (M := EReal) fun s k hl => ?_
  generalize hT : (⟨4 * (t.val / 4) + s.val, _⟩ : Fin cfg0.N) = T
  have hk : (⟨s.val * 512 + k.val, hl⟩ : Fin 2048).val = T.val * 512 + k.val := by rw [← hT]; show _ = (4 * (t.val / 4) + s.val) * 512 + k.val; rw [turn]
  simp only [in1 m c T k y1 _ hk, in0 m c T k _ _ hk, in3 m c T]
  exact Cert.NormReal.cycle _ _ _

abbrev G8 (c : Dev nD) : Buf (Elt Ideal) ((c : Thread nD τ).loc main_v0_3) :=
  val_main_v32 (F := Ideal) (m ((c : Thread nD τ).loc main_arg0)) (m ((c : Thread nD τ).loc main_arg1)) (m ((c : Thread nD τ).loc main_arg4))

theorem final8 (c : Dev nD) : (dats m 0 c).arrAt 8 cfg0.N = G8 m c := by
  refine (dats m 0 c).arrAt_eq_of_covers 8 _ (by decide +kernel) fun t hf y => ?_
  have h7 : t.val % 4 = 3 := (flush0_8 t).mp hf
  blk_simp
  rw [after0_8]
  have e := Pipeline.eq_sum_fin_of_reset_step_apply_of_flush (H8 m c) 4 (fun _ => (0 : EReal)) (p8 m c)
    (fun t h y => (start m c t h y).2.2) (fun t h y => (step m c t h y).2.2) t h7 y
  refine Eq.trans e ?_
  rw [zero_add]
  clear e
  idx_vars y
  obtain ⟨-, -, -, -, -, -, -, -, -, -, -, -, -, -, -, -, e0, e1⟩ := idx t
  have ey : ((View.whole main_v0_3).slice (win0_8.rect t)).emb (ix2 y0 y1) = ix2 y0 y1 := by
    blk_ext [e0, e1]
  rw [ey]
  pointwise [p8, k0_pay2, k0_pay7, k0_pay6, k0_pay5, G8, val_main_v32, val_main_v31, val_main_v30, val_main_v29, val_main_v28, val_main_v22, val_main_v17, val_main_v16, val_main_cst_7, val_main_cst_4, val_main_v15, val_main_v14, val_main_v13, val_main_v12, val_main_v8, val_main_v7, val_main_v6, val_main_v5, val_main_v4, val_main_v3, val_main_v2, val_main_v1, val_main_cst_0, val_main_cst_1, val_main_cst_2]
  refine Fin.sum_mul_add_congr (M := EReal) fun s k hl => ?_
  generalize hT : (⟨4 * (t.val / 4) + s.val, _⟩ : Fin cfg0.N) = T
  have hk : (⟨s.val * 512 + k.val, hl⟩ : Fin 2048).val = T.val * 512 + k.val := by rw [← hT]; show _ = (4 * (t.val / 4) + s.val) * 512 + k.val; rw [turn]
  simp only [in1 m c T k y1 _ hk, in0 m c T k _ _ hk, in4 m c T]
  exact Cert.NormReal.swap _ _ _

/-! ## The tokens' gradient -/

theorem written (c : Dev nD) (t : Fin cfg0.N) : (outsAt0 m c t.val t.isLt).1
    = k0_pay4 (k0_pay5 (iblk m c 0 t)) (k0_pay6 (iblk m c 0 t)) (iblk m c 1 t) (iblk m c 3 t) (k0_pay7 (iblk m c 4 t)) (iblk m c 2 t) := by
  have h4 : t.val < 4 := lt_of_lt_of_eq t.isLt N_0
  by_cases h : t.val % 4 = 0
  · have hn : ¬1 ≤ t.val := by omega
    rw [outsAt0_A m c t h hn h hn h hn]
    dsimp only
    rw [a5]
  · have hn : 1 ≤ t.val := by omega
    rw [outsAt0_B m c t h hn h hn h hn]
    dsimp only
    rw [b5]

abbrev G5 (c : Dev nD) : Buf (Elt Ideal) ((c : Thread nD τ).loc main_v0_0) :=
  val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 2000000 in
theorem final5 (c : Dev nD) : (dats m 0 c).arrAt 5 cfg0.N = G5 m c := by
  refine (dats m 0 c).arrAt_eq_of_covers 5 _ (by decide +kernel) fun t hf y => ?_
  blk_simp
  rw [after0_5, written]
  idx_vars y
  obtain ⟨-, -, -, -, -, -, -, -, -, -, e0, e1, -⟩ := idx t
  have hR : t.val * 512 + y0.val < 2048 := by
    have h4 : t.val < 4 := lt_of_lt_of_eq t.isLt N_0
    omega
  have ey : ((View.whole main_v0_0).slice (win0_5.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay4, k0_pay7, k0_pay6, k0_pay5, G5, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v29, val_main_v28, val_main_v22, val_main_v17, val_main_v16, val_main_v11, val_main_v10, val_main_v9, val_main_cst_3, val_main_cst_4, val_main_cst_8, val_main_cst_9, val_main_cst_10, val_main_v8, val_main_v7, val_main_v6, val_main_v5, val_main_v4, val_main_v3, val_main_v2, val_main_v1, val_main_cst_0, val_main_cst_1, val_main_cst_2]
  simp only [Finset.univ_unique, Finset.sum_singleton, in0 m c t y0 _ R hr, in1 m c t y0 _ R hr, in2 m c t y0 _ R hr, in3 m c t, in4 m c t]
  exact Cert.NormReal.row_mod (m ((c : Thread nD τ).loc main_arg2) (ix2 R y1)) (fun k => m ((c : Thread nD τ).loc main_arg0) (ix2 R k))
    (fun k => m ((c : Thread nD τ).loc main_arg1) (ix2 R k)) (fun k => m ((c : Thread nD τ).loc main_arg3) (ix2 0 k))
    (fun k => m ((c : Thread nD τ).loc main_arg4) (ix2 0 k)) y1

/-! ## The claims -/

theorem quiescent_p : Cert.quiescent_Kernel17 := fun m ρ _ => Cert.Kernel17.Gen.frame m ρ
theorem quiescent_pi : Cert.quiescent_Kernel17Ideal := fun m ρ _ => Cert.Kernel17Ideal.Gen.frame m ρ

theorem quiescent_ri : Cert.quiescent_Reference17Ideal := fun m ρ _ =>
  (θ_run Cert.Reference17Ideal.defs _ _).mono
    (fun r h => ⟨fun c => (h c).2.2.2.2, sem_eq_zero_of_no_sems (by decide) r.2⟩) (Cert.Reference17Ideal.Value.run m ρ)

theorem algebraic : Cert.algebraic_Kernel17Ideal_Reference17Ideal := by
  intro m g m' g' _ hagree
  refine ⟨fun c => G5 m c, fun c => G6 m c, fun c => G7 m c, fun c => G8 m c, ?_, ?_⟩
  · refine (θ_run Cert.Kernel17Ideal.defs _ _).mono ?_ (Cert.Kernel17Ideal.Value.run_blocks m g)
    intro r h c
    obtain ⟨h5, h6, h7, h8, h⟩ := h c
    exact ⟨h5.trans (final5 m c), h6.trans (final6 m c), h7.trans (final7 m c), h8.trans (final8 m c), h⟩
  · refine (θ_run Cert.Reference17Ideal.defs _ _).mono ?_ (Cert.Reference17Ideal.Value.run m' g')
    intro r h c
    obtain ⟨a0, a1, a2, a3, a4⟩ := hagree c
    obtain ⟨h5, h6, h7, h8, h⟩ := h c
    refine ⟨h5.trans ?_, h6.trans ?_, h7.trans ?_, h8.trans ?_, h⟩
    · rw [val_main_v49_eq, a0, a1, a2, a3, a4]
    · exact (val_main_v24_eq _).trans (by rw [a1])
    · exact (val_main_v27_eq _ _ _).trans (by rw [a0, a1, a3])
    · exact (val_main_v32_eq _ _ _).trans (by rw [a0, a1, a4])

end Cert.NormPre

end
-- ==== Proof.NormPost.lean ====
/-
  The gradient of the gated norm after a branch, in four blocks of 512 tokens: the branch's gradient block by block, and
  the gradients of the gate and of the weight added up over the blocks.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.NormReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormPost

open Cert.Kernel18Ideal Cert.Kernel18Ideal.Gen Idealize.ShloMosaic Idealize.ShloMosaic.TcCoe Idealize.SL.Sem
open Idealize.ShloMosaic.Pipeline (Dat)
open Cert.Reference18Ideal.Read

variable (m : (ℓ : Loc nD τ sig) → Buf (Elt Ideal) ℓ)

theorem hz : (![0, 0] : Fin 2 → Nat) = fun _ => 0 := funext fun a => by fin_cases a <;> rfl

section Cases
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole)
variable (x0 : Vec Ideal S512x2048 .f32) (x1 x2 : Vec Ideal S1x2048 .f32) (x3 : Vec Ideal S512x2048 .f32) (p5 p6 : Vec Ideal S1x2048 .f32)

section A
variable (h0 : cond0_0 i) (h1 : ¬cond0_1 i) (h2 : cond0_2 i) (h3 : ¬cond0_3 i)

theorem a4 : out0_A_4 c i arg1 harg1 arg2 harg2 arg3 harg3 arg4 harg4 arg5 harg5 arg6 harg6 arg7 harg7 h0 h1 h2 h3 x0 x1 x2 x3
    = k0_pay2 (k0_pay3 x0) (k0_pay4 x0) (k0_pay7 x1 x3) x2 := by
  unfold out0_A_4
  rw [View.read_writes_eq_canon _ _ _ (fun y => cover0_A_4 c i arg1 harg1 arg2 harg2 arg3 harg3 arg4 harg4 arg5 harg5 arg6 harg6 arg7 harg7 h0 h1 h2 h3 x0 x1 x2 x3 y)]
  unfold kernelRun0_A
  dsimp only
  sl_unfold_words
  rw [View.canon_unit_zero hz]
  simp only [View.readAt_eq_ld, harg1.read_unread, harg2.read_unread, harg3.read_unread, harg4.read_unread, View.ld_unit_zero (S := S512x2048) hz, View.ld_unit_zero (S := S1x2048) hz]

theorem a5 : out0_A_5 c i arg1 harg1 arg2 harg2 arg3 harg3 arg4 harg4 arg5 harg5 arg6 harg6 arg7 harg7 h0 h1 h2 h3 x0 x1 x2 x3
    = k0_pay5 x0 x2 x3 := by
  unfold out0_A_5
  rw [View.read_writes_eq_canon _ _ _ (fun y => cover0_A_5 c i arg1 harg1 arg2 harg2 arg3 harg3 arg4 harg4 arg5 harg5 arg6 harg6 arg7 harg7 h0 h1 h2 h3 x0 x1 x2 x3 y)]
  unfold kernelRun0_A
  dsimp only
  sl_unfold_words
  rw [View.canon_unit_zero hz]
  simp only [View.readAt_eq_ld, harg1.read_unread, harg2.read_unread, harg3.read_unread, harg4.read_unread, shapeCast_self, View.ld_unit_zero (S := S512x2048) hz, View.ld_unit_zero (S := S1x2048) hz]

theorem a6 : out0_A_6 c i arg1 harg1 arg2 harg2 arg3 harg3 arg4 harg4 arg5 harg5 arg6 harg6 arg7 harg7 h0 h1 h2 h3 x0 x1 x2 x3
    = k0_pay8 x0 x1 x3 := by
  unfold out0_A_6
  rw [View.read_writes_eq_canon _ _ _ (fun y => cover0_A_6 c i arg1 harg1 arg2 harg2 arg3 harg3 arg4 harg4 arg5 harg5 arg6 harg6 arg7 harg7 h0 h1 h2 h3 x0 x1 x2 x3 y)]
  unfold kernelRun0_A
  dsimp only
  sl_unfold_words
  rw [View.canon_unit_zero hz]
  simp only [View.readAt_eq_ld, harg1.read_unread, harg2.read_unread, harg3.read_unread, harg4.read_unread, shapeCast_self, View.ld_unit_zero (S := S512x2048) hz, View.ld_unit_zero (S := S1x2048) hz]

end A

section B
variable (h0 : ¬cond0_0 i) (h1 : cond0_1 i) (h2 : ¬cond0_2 i) (h3 : cond0_3 i)

theorem b4 : out0_B_4 c i arg1 harg1 arg2 harg2 arg3 harg3 arg4 harg4 arg5 harg5 arg6 harg6 arg7 harg7 h0 h1 h2 h3 x0 x1 x2 x3 p5 p6
    = k0_pay2 (k0_pay3 x0) (k0_pay4 x0) (k0_pay7 x1 x3) x2 := by
  unfold out0_B_4
  rw [View.read_writes_eq_canon _ _ _ (fun y => cover0_B_4 c i arg1 harg1 arg2 harg2 arg3 harg3 arg4 harg4 arg5 harg5 arg6 harg6 arg7 harg7 h0 h1 h2 h3 x0 x1 x2 x3 p5 p6 y)]
  unfold kernelRun0_B
  dsimp only
  sl_unfold_words
  rw [View.canon_unit_zero hz]
  simp only [View.readAt_eq_ld, harg1.read_unread, harg2.read_unread, harg3.read_unread, harg4.read_unread, View.ld_unit_zero (S := S512x2048) hz, View.ld_unit_zero (S := S1x2048) hz]

theorem b5 : out0_B_5 c i arg1 harg1 arg2 harg2 arg3 harg3 arg4 harg4 arg5 harg5 arg6 harg6 arg7 harg7 h0 h1 h2 h3 x0 x1 x2 x3 p5 p6
    = k0_pay6 x0 x2 x3 p5 := by
  unfold out0_B_5
  rw [View.read_writes_eq_canon _ _ _ (fun y => cover0_B_5 c i arg1 harg1 arg2 harg2 arg3 harg3 arg4 harg4 arg5 harg5 arg6 harg6 arg7 harg7 h0 h1 h2 h3 x0 x1 x2 x3 p5 p6 y)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S512x2048) hz, View.ld_unit_zero (S := S1x2048) hz]

theorem b6 : out0_B_6 c i arg1 harg1 arg2 harg2 arg3 harg3 arg4 harg4 arg5 harg5 arg6 harg6 arg7 harg7 h0 h1 h2 h3 x0 x1 x2 x3 p5 p6
    = k0_pay1 (k0_pay8 x0 x1 x3) p6 := by
  unfold out0_B_6
  rw [View.read_writes_eq_canon _ _ _ (fun y => cover0_B_6 c i arg1 harg1 arg2 harg2 arg3 harg3 arg4 harg4 arg5 harg5 arg6 harg6 arg7 harg7 h0 h1 h2 h3 x0 x1 x2 x3 p5 p6 y)]
  unfold kernelRun0_B
  dsimp only
  sl_unfold_words
  rw [View.canon_unit_zero hz]
  simp only [View.readAt_eq_ld, harg1.read_unread, harg2.read_unread, harg3.read_unread, harg4.read_unread, harg7.read_unread, View.ld_unit_zero (S := S512x2048) hz, View.ld_unit_zero (S := S1x2048) hz]

end B
end Cases

/-- The places of the blocks: step `t` takes the tokens `512·t…`. -/
theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 ∧ win0_4.index t 0 = t.val ∧ win0_4.index t 1 = 0
    ∧ win0_5.index t 0 = 0 ∧ win0_5.index t 1 = 0 ∧ win0_6.index t 0 = 0 ∧ win0_6.index t 1 = 0 := by decide +kernel

/-! ## The gradients of the gate and of the weight -/

/-- What one step adds to each of the two. -/
abbrev p5 (c : Dev nD) (t : Fin cfg0.N) : Vec Ideal S1x2048 .f32 := k0_pay5 (iblk m c 0 t) (iblk m c 2 t) (iblk m c 3 t)
abbrev p6 (c : Dev nD) (t : Fin cfg0.N) : Vec Ideal S1x2048 .f32 := k0_pay8 (iblk m c 0 t) (iblk m c 1 t) (iblk m c 3 t)

abbrev H5 (c : Dev nD) (n : ℕ) (h : n < cfg0.N) (y : S1x2048.Idx) : EReal := (outsAt0 m c n h).2.1 y
abbrev H6 (c : Dev nD) (n : ℕ) (h : n < cfg0.N) (y : S1x2048.Idx) : EReal := (outsAt0 m c n h).2.2 y

theorem start (c : Dev nD) (t : Fin cfg0.N) (h : t.val % 4 = 0) (y : S1x2048.Idx) :
    H5 m c t.val t.isLt y = 0 + p5 m c t y ∧ H6 m c t.val t.isLt y = 0 + p6 m c t y := by
  have h4 : t.val < 4 := lt_of_lt_of_eq t.isLt N_0
  have hn : ¬1 ≤ t.val := by omega
  rw [H5, H6, outsAt0_A m c t h hn h hn]
  dsimp only
  rw [a5, a6, zero_add, zero_add]
  exact ⟨rfl, rfl⟩

theorem step (c : Dev nD) (t : Fin cfg0.N) (h : ¬t.val % 4 = 0) (y : S1x2048.Idx) :
    H5 m c t.val t.isLt y = H5 m c (t.val - 1) (Nat.lt_of_le_of_lt (Nat.sub_le _ _) t.isLt) y + p5 m c t y
    ∧ H6 m c t.val t.isLt y = H6 m c (t.val - 1) (Nat.lt_of_le_of_lt (Nat.sub_le _ _) t.isLt) y + p6 m c t y := by
  have hn : 1 ≤ t.val := by omega
  unfold H5 H6
  rw [outsAt0_B m c t h hn h hn]
  dsimp only
  rw [b5, b6]
  unfold k0_pay6 k0_pay1
  rw [shapeCast_self, shapeCast_self]
  exact ⟨rfl, rfl⟩

/-- A block's entry is an entry of its array. -/
theorem in0 (c : Dev nD) (t : Fin cfg0.N) (r : Fin 512) (k R : Fin 2048) (h : R.val = t.val * 512 + r.val) :
    iblk m c 0 t (ix2 r k) = m ((c : Thread nD τ).loc main_arg0) (ix2 R k) := by
  obtain ⟨e0, e1, -⟩ := idx t
  blk_ext [iblk, V, e0, e1]

theorem in1 (c : Dev nD) (t : Fin cfg0.N) (k : Fin 2048) :
    iblk m c 1 t (ix2 0 k) = m ((c : Thread nD τ).loc main_arg1) (ix2 0 k) := by
  obtain ⟨-, -, e0, e1, -⟩ := idx t
  blk_ext [iblk, V, e0, e1]

theorem in2 (c : Dev nD) (t : Fin cfg0.N) (k : Fin 2048) :
    iblk m c 2 t (ix2 0 k) = m ((c : Thread nD τ).loc main_arg2) (ix2 0 k) := by
  obtain ⟨-, -, -, -, e0, e1, -⟩ := idx t
  blk_ext [iblk, V, e0, e1]

theorem in3 (c : Dev nD) (t : Fin cfg0.N) (r : Fin 512) (k R : Fin 2048) (h : R.val = t.val * 512 + r.val) :
    iblk m c 3 t (ix2 r k) = m ((c : Thread nD τ).loc main_arg3) (ix2 R k) := by
  obtain ⟨-, -, -, -, -, -, e0, e1, -⟩ := idx t
  blk_ext [iblk, V, e0, e1]

/-- The four points are the four steps of the one sum. -/
theorem turn (t : Fin cfg0.N) (s : Fin 4) : 4 * (t.val / 4) + s.val = s.val := by
  have h16 : t.val < 4 := lt_of_lt_of_eq t.isLt N_0
  omega

abbrev G5 (c : Dev nD) : Buf (Elt Ideal) ((c : Thread nD τ).loc main_v0_1) :=
  val_main_v21 (F := Ideal) (m ((c : Thread nD τ).loc main_arg0)) (m ((c : Thread nD τ).loc main_arg2)) (m ((c : Thread nD τ).loc main_arg3))

theorem final5 (c : Dev nD) : (dats m 0 c).arrAt 5 cfg0.N = G5 m c := by
  refine (dats m 0 c).arrAt_eq_of_covers 5 _ (by decide +kernel) fun t hf y => ?_
  have h7 : t.val % 4 = 3 := (flush0_5 t).mp hf
  blk_simp
  rw [after0_5]
  have e := Pipeline.eq_sum_fin_of_reset_step_apply_of_flush (H5 m c) 4 (fun _ => (0 : EReal)) (p5 m c)
    (fun t h y => (start m c t h y).1) (fun t h y => (step m c t h y).1) t h7 y
  refine Eq.trans e ?_
  rw [zero_add]
  clear e
  idx_vars y
  obtain ⟨-, -, -, -, -, -, -, -, -, -, e0, e1, -⟩ := idx t
  have ey : ((View.whole main_v0_1).slice (win0_5.rect t)).emb (ix2 y0 y1) = ix2 y0 y1 := by
    blk_ext [e0, e1]
  rw [ey]
  pointwise [p5, k0_pay5, k0_pay4, k0_pay3, G5, val_main_v21, val_main_v20, val_main_v19, val_main_v14, val_main_v13, val_main_cst_3, val_main_v12, val_main_v11, val_main_v7, val_main_v6, val_main_v5, val_main_v4, val_main_v3, val_main_v2, val_main_v1, val_main_v0, val_main_cst, val_main_cst_0, val_main_cst_1]
  refine Fin.sum_mul_add_congr (M := EReal) fun s k hl => ?_
  generalize hT : (⟨4 * (t.val / 4) + s.val, _⟩ : Fin cfg0.N) = T
  have hk : (⟨s.val * 512 + k.val, hl⟩ : Fin 2048).val = T.val * 512 + k.val := by rw [← hT]; show _ = (4 * (t.val / 4) + s.val) * 512 + k.val; rw [turn]
  simp only [in0 m c T k _ _ hk, in2 m c T, in3 m c T k _ _ hk]

abbrev G6 (c : Dev nD) : Buf (Elt Ideal) ((c : Thread nD τ).loc main_v0_2) :=
  val_main_v24 (F := Ideal) (m ((c : Thread nD τ).loc main_arg0)) (m ((c : Thread nD τ).loc main_arg1)) (m ((c : Thread nD τ).loc main_arg3))

theorem final6 (c : Dev nD) : (dats m 0 c).arrAt 6 cfg0.N = G6 m c := by
  refine (dats m 0 c).arrAt_eq_of_covers 6 _ (by decide +kernel) fun t hf y => ?_
  have h7 : t.val % 4 = 3 := (flush0_6 t).mp hf
  blk_simp
  rw [after0_6]
  have e := Pipeline.eq_sum_fin_of_reset_step_apply_of_flush (H6 m c) 4 (fun _ => (0 : EReal)) (p6 m c)
    (fun t h y => (start m c t h y).2) (fun t h y => (step m c t h y).2) t h7 y
  refine Eq.trans e ?_
  rw [zero_add]
  clear e
  idx_vars y
  obtain ⟨-, -, -, -, -, -, -, -, -, -, -, -, e0, e1⟩ := idx t
  have ey : ((View.whole main_v0_2).slice (win0_6.rect t)).emb (ix2 y0 y1) = ix2 y0 y1 := by
    blk_ext [e0, e1]
  rw [ey]
  pointwise [p6, k0_pay8, k0_pay7, k0_pay4, k0_pay3, G6, val_main_v24, val_main_v23, val_main_v22, val_main_v18, val_main_v17, val_main_cst_4, val_main_v12, val_main_v11, val_main_v7, val_main_v6, val_main_v5, val_main_v4, val_main_v3, val_main_v2, val_main_v1, val_main_v0, val_main_cst, val_main_cst_0, val_main_cst_1]
  refine Fin.sum_mul_add_congr (M := EReal) fun s k hl => ?_
  generalize hT : (⟨4 * (t.val / 4) + s.val, _⟩ : Fin cfg0.N) = T
  have hk : (⟨s.val * 512 + k.val, hl⟩ : Fin 2048).val = T.val * 512 + k.val := by rw [← hT]; show _ = (4 * (t.val / 4) + s.val) * 512 + k.val; rw [turn]
  simp only [in0 m c T k _ _ hk, in1 m c T, in3 m c T k _ _ hk]
  exact Cert.NormReal.cross _ _ _

/-! ## The branch's gradient -/

theorem written (c : Dev nD) (t : Fin cfg0.N) : (outsAt0 m c t.val t.isLt).1
    = k0_pay2 (k0_pay3 (iblk m c 0 t)) (k0_pay4 (iblk m c 0 t)) (k0_pay7 (iblk m c 1 t) (iblk m c 3 t)) (iblk m c 2 t) := by
  have h4 : t.val < 4 := lt_of_lt_of_eq t.isLt N_0
  by_cases h : t.val % 4 = 0
  · have hn : ¬1 ≤ t.val := by omega
    rw [outsAt0_A m c t h hn h hn]
    dsimp only
    rw [a4]
  · have hn : 1 ≤ t.val := by omega
    rw [outsAt0_B m c t h hn h hn]
    dsimp only
    rw [b4]

abbrev G4 (c : Dev nD) : Buf (Elt Ideal) ((c : Thread nD τ).loc main_v0_0) :=
  val_main_v41 (F := Ideal) (m ((c : Thread nD τ).loc main_arg0)) (m ((c : Thread nD τ).loc main_arg1)) (m ((c : Thread nD τ).loc main_arg2)) (m ((c : Thread nD τ).loc main_arg3))

set_option maxHeartbeats 2000000 in
theorem final4 (c : Dev nD) : (dats m 0 c).arrAt 4 cfg0.N = G4 m c := by
  refine (dats m 0 c).arrAt_eq_of_covers 4 _ (by decide +kernel) fun t hf y => ?_
  blk_simp
  rw [after0_4, written]
  idx_vars y
  obtain ⟨-, -, -, -, -, -, -, -, e0, e1, -⟩ := idx t
  have hR : t.val * 512 + y0.val < 2048 := by
    have h4 : t.val < 4 := lt_of_lt_of_eq t.isLt N_0
    omega
  have ey : ((View.whole main_v0_0).slice (win0_4.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay2, k0_pay7, k0_pay4, k0_pay3, G4, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v18, val_main_v17, val_main_v10, val_main_v9, val_main_v8, val_main_cst_2, val_main_cst_5, val_main_cst_6, val_main_cst_7, val_main_v7, val_main_v6, val_main_v5, val_main_v4, val_main_v3, val_main_v2, val_main_v1, val_main_v0, val_main_cst, val_main_cst_0, val_main_cst_1]
  simp only [Finset.univ_unique, Finset.sum_singleton, in0 m c t y0 _ R hr, in1 m c t, in2 m c t, in3 m c t y0 _ R hr]
  exact Cert.NormReal.row_post (fun k => m ((c : Thread nD τ).loc main_arg0) (ix2 R k))
    (fun k => m ((c : Thread nD τ).loc main_arg3) (ix2 R k)) (fun k => m ((c : Thread nD τ).loc main_arg2) (ix2 0 k))
    (fun k => m ((c : Thread nD τ).loc main_arg1) (ix2 0 k)) y1

/-! ## The claims -/

theorem quiescent_p : Cert.quiescent_Kernel18 := fun m ρ _ => Cert.Kernel18.Gen.frame m ρ
theorem quiescent_pi : Cert.quiescent_Kernel18Ideal := fun m ρ _ => Cert.Kernel18Ideal.Gen.frame m ρ

theorem quiescent_ri : Cert.quiescent_Reference18Ideal := fun m ρ _ =>
  (θ_run Cert.Reference18Ideal.defs _ _).mono
    (fun r h => ⟨fun c => (h c).2.2.2, sem_eq_zero_of_no_sems (by decide) r.2⟩) (Cert.Reference18Ideal.Value.run m ρ)

theorem algebraic : Cert.algebraic_Kernel18Ideal_Reference18Ideal := by
  intro m g m' g' _ hagree
  refine ⟨fun c => G4 m c, fun c => G5 m c, fun c => G6 m c, ?_, ?_⟩
  · refine (θ_run Cert.Kernel18Ideal.defs _ _).mono ?_ (Cert.Kernel18Ideal.Value.run_blocks m g)
    intro r h c
    obtain ⟨h4, h5, h6, h⟩ := h c
    exact ⟨h4.trans (final4 m c), h5.trans (final5 m c), h6.trans (final6 m c), h⟩
  · refine (θ_run Cert.Reference18Ideal.defs _ _).mono ?_ (Cert.Reference18Ideal.Value.run m' g')
    intro r h c
    obtain ⟨a0, a1, a2, a3⟩ := hagree c
    obtain ⟨h4, h5, h6, h⟩ := h c
    refine ⟨h4.trans ?_, h5.trans ?_, h6.trans ?_, h⟩
    · rw [val_main_v41_eq, a0, a1, a2, a3]
    · exact (val_main_v21_eq _ _ _).trans (by rw [a0, a2, a3])
    · exact (val_main_v24_eq _ _ _).trans (by rw [a0, a1, a3])

end Cert.NormPost

end
-- ==== Proof.MulZBig.lean ====
/-
  The other columns of the input projection, x·w, with the weight held transposed, in blocks of 512 columns of the result.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulZBig

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference19Ideal.Read.val_main_v4 (F := Ideal) (m ((c : Thread nD τ).loc main_arg0)) (m ((c : Thread nD τ).loc main_arg1))

/-- The rows of the weight and the columns of the result move with the point; the first array is whole. -/
theorem idx : ∀ t : Fin cfg0.N, win0_0.index t 0 = 0 ∧ win0_0.index t 1 = 0 ∧ win0_1.index t 0 = t.val ∧ win0_1.index t 1 = 0
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference19Ideal.Read.val_main_v4, Cert.Reference19Ideal.Read.val_main_v3, Cert.Reference19Ideal.Read.val_main_v2, Cert.Reference19Ideal.Read.val_main_v1, Cert.Reference19Ideal.Read.val_main_v0]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel19 := fun m ρ _ => Cert.Kernel19.Gen.frame m ρ
theorem quiescent_pi : Cert.quiescent_Kernel19Ideal := fun m ρ _ => Cert.Kernel19Ideal.Gen.frame m ρ

theorem quiescent_ri : Cert.quiescent_Reference19Ideal := fun m ρ _ =>
  (θ_run Cert.Reference19Ideal.defs _ _).mono
    (fun r h => ⟨fun c => (h c).2, sem_eq_zero_of_no_sems (by decide) r.2⟩) (Cert.Reference19Ideal.Value.run m ρ)

theorem algebraic : Cert.algebraic_Kernel19Ideal_Reference19Ideal := by
  pair_intro
  · run_from (Cert.Kernel19Ideal.Value.run_blocks m g)
  · run_from (Cert.Reference19Ideal.Value.run m' g')
    rw [final]
    rfl

end Cert.MulZBig

end
-- ==== Proof.MulUp.lean ====
/-
  The up projection of the feed-forward block, x·w, in blocks of 1408 columns of the result; the weight is held as four
  groups of 2816 columns, of which a block is one half.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulUp

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference20Ideal.Read.val_main_v5 (F := Ideal) (m ((c : Thread nD τ).loc main_arg0)) (m ((c : Thread nD τ).loc main_arg1))

/-- Two points take the halves of one group of the weight's columns; the first array is whole. -/
theorem idx : ∀ t : Fin cfg0.N, win0_0.index t 0 = 0 ∧ win0_0.index t 1 = 0 ∧ win0_1.index t 0 = t.val / 2 ∧ win0_1.index t 1 = 0
    ∧ win0_1.index t 2 = t.val % 2 ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference20Ideal.Read.val_main_v5, Cert.Reference20Ideal.Read.val_main_v4, Cert.Reference20Ideal.Read.val_main_v3, Cert.Reference20Ideal.Read.val_main_v2, Cert.Reference20Ideal.Read.val_main_v1, Cert.Reference20Ideal.Read.val_main_v0]
  obtain ⟨e0, e1, e2, e3, e4, e5, e6⟩ := idx t
  refine Finset.sum_congr (M := EReal) rfl fun k _ => ?_
  congr 1
  · blk_ext [iblk, V, e0, e1, e2, e3, e4, e5, e6]
  · blk_ext [iblk, V, e0, e1, e2, e3, e4, e5, e6]

theorem quiescent_p : Cert.quiescent_Kernel20 := fun m ρ _ => Cert.Kernel20.Gen.frame m ρ
theorem quiescent_pi : Cert.quiescent_Kernel20Ideal := fun m ρ _ => Cert.Kernel20Ideal.Gen.frame m ρ

theorem quiescent_ri : Cert.quiescent_Reference20Ideal := fun m ρ _ =>
  (θ_run Cert.Reference20Ideal.defs _ _).mono
    (fun r h => ⟨fun c => (h c).2, sem_eq_zero_of_no_sems (by decide) r.2⟩) (Cert.Reference20Ideal.Value.run m ρ)

theorem algebraic : Cert.algebraic_Kernel20Ideal_Reference20Ideal := by
  pair_intro
  · run_from (Cert.Kernel20Ideal.Value.run_blocks m g)
  · run_from (Cert.Reference20Ideal.Value.run m' g')
    rw [final]
    rfl

end Cert.MulUp

end
-- ==== Proof.MulDact.lean ====
/-
  The gradient of the down projection's input, ct·wᵀ, in blocks of 512 columns of the result: each grid point multiplies the
  whole of `ct` with 512 rows of `w`.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDact

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference21Ideal.Read.val_main_v5 (F := Ideal) (m ((c : Thread nD τ).loc main_arg0)) (m ((c : Thread nD τ).loc main_arg1))

/-- The rows of `w` and the columns of the result move with the point; `ct` is whole. -/
theorem idx : ∀ t : Fin cfg0.N, win0_0.index t 0 = 0 ∧ win0_0.index t 1 = 0 ∧ win0_1.index t 0 = t.val ∧ win0_1.index t 1 = 0
    ∧ win0_2.index t 0 = 0 ∧ win0_2.index t 1 = t.val := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference21Ideal.Read.val_main_v5, Cert.Reference21Ideal.Read.val_main_v4, Cert.Reference21Ideal.Read.val_main_v3, Cert.Reference21Ideal.Read.val_main_v1]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel21 := fun m ρ _ => Cert.Kernel21.Gen.frame m ρ
theorem quiescent_pi : Cert.quiescent_Kernel21Ideal := fun m ρ _ => Cert.Kernel21Ideal.Gen.frame m ρ

theorem quiescent_ri : Cert.quiescent_Reference21Ideal := fun m ρ _ =>
  (θ_run Cert.Reference21Ideal.defs _ _).mono
    (fun r h => ⟨fun c => (h c).2, sem_eq_zero_of_no_sems (by decide) r.2⟩) (Cert.Reference21Ideal.Value.run m ρ)

theorem algebraic : Cert.algebraic_Kernel21Ideal_Reference21Ideal := by
  pair_intro
  · run_from (Cert.Kernel21Ideal.Value.run_blocks m g)
  · run_from (Cert.Reference21Ideal.Value.run m' g')
    rw [final]
    rfl

end Cert.MulDact

end
-- ==== Proof.MulGwUp.lean ====
/-
  The gradient of the up projection's weight, xᵀ·ct, in blocks of 1024 rows and 1408 columns of the result; `ct` is held as
  two groups of 5632 columns, and the result as four of 2816.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwUp

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference22Ideal.Read.val_main_v10 (F := Ideal) (m ((c : Thread nD τ).loc main_arg0)) (m ((c : Thread nD τ).loc main_arg1))

/-- Eight points take the blocks of columns, one after the other; the groups of `ct` have four of them and those of the
    result two. -/
theorem idx : ∀ t : Fin cfg0.N, win0_0.index t 0 = 0 ∧ win0_0.index t 1 = t.val / 8 ∧ win0_1.index t 0 = t.val % 8 / 4 ∧ win0_1.index t 1 = 0
    ∧ win0_1.index t 2 = t.val % 4 ∧ win0_2.index t 0 = t.val % 8 / 2 ∧ win0_2.index t 1 = t.val / 8 ∧ win0_2.index t 2 = t.val % 2 := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference22Ideal.Read.val_main_v10, Cert.Reference22Ideal.Read.val_main_v9, Cert.Reference22Ideal.Read.val_main_v8, Cert.Reference22Ideal.Read.val_main_v7, Cert.Reference22Ideal.Read.val_main_v6, Cert.Reference22Ideal.Read.val_main_v5, Cert.Reference22Ideal.Read.val_main_v3, Cert.Reference22Ideal.Read.val_main_v1, Cert.Reference22Ideal.Read.val_main_v0]
  obtain ⟨e0, e1, e2, e3, e4, e5, e6, e7⟩ := idx t
  refine Finset.sum_congr (M := EReal) rfl fun k _ => ?_
  rw [mul_comm]
  congr 1
  · blk_ext [iblk, V, e0, e1, e2, e3, e4, e5, e6, e7]
  · blk_ext [iblk, V, e0, e1, e2, e3, e4, e5, e6, e7]

theorem quiescent_p : Cert.quiescent_Kernel22 := fun m ρ _ => Cert.Kernel22.Gen.frame m ρ
theorem quiescent_pi : Cert.quiescent_Kernel22Ideal := fun m ρ _ => Cert.Kernel22Ideal.Gen.frame m ρ

theorem quiescent_ri : Cert.quiescent_Reference22Ideal := fun m ρ _ =>
  (θ_run Cert.Reference22Ideal.defs _ _).mono
    (fun r h => ⟨fun c => (h c).2, sem_eq_zero_of_no_sems (by decide) r.2⟩) (Cert.Reference22Ideal.Value.run m ρ)

theorem algebraic : Cert.algebraic_Kernel22Ideal_Reference22Ideal := by
  pair_intro
  · run_from (Cert.Kernel22Ideal.Value.run_blocks m g)
  · run_from (Cert.Reference22Ideal.Value.run m' g')
    rw [final]
    rfl

end Cert.MulGwUp

end
-- ==== Proof.MulDhBig.lean ====
/-
  The gradient of the other columns' input, ct·w with the weight held transposed, in blocks of 1024 columns of the result,
  each in eight steps of 1024 entries of the contraction added up in a scratch.
-/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDhBig

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference23Ideal.Read.val_main_v5 (F := Ideal) (m ((c : Thread nD τ).loc main_arg0)) (m ((c : Thread nD τ).loc main_arg1))

theorem hz : (![0, 0] : Fin 2 → Nat) = fun _ => 0 := funext fun a => by fin_cases a <;> rfl

/-- The part of the sum that one step computes. -/
abbrev part (c : Dev nD) (t : Fin cfg0.N) : Vec Ideal S2048x1024 .f32 := k0_pay1 (iblk m c 0 t) (iblk m c 1 t)

section Cases
variable (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole)
variable (x0 : Vec Ideal S2048x1024 .bf16) (x1 : Vec Ideal S1024x1024 .bf16) (xs : Vec Ideal S2048x1024 .f32)

theorem first (h0 : cond0_0 i) (h1 : ¬cond0_1 i) (h2 : ¬cond0_2 i) :
    sout0_A_0 c i arg3 harg3 arg4 harg4 arg5 harg5 arg6 harg6 h0 h1 h2 x0 x1 = k0_pay1 x0 x1 := by
  unfold sout0_A_0
  rw [View.read_writes_eq_canon _ _ _ (fun y => scover0_A_0 c i arg3 harg3 arg4 harg4 arg5 harg5 arg6 harg6 h0 h1 h2 x0 x1 y)]
  unfold kernelRun0_A
  dsimp only
  rw [View.canon_unit_zero hz]
  unfold k0_pay2
  simp only [View.readAt_eq_ld, harg3.read_unread, harg4.read_unread, View.ld_unit_zero (S := S2048x1024) hz, View.ld_unit_zero (S := S1024x1024) hz, shapeCast_self]

theorem middle (h0 : ¬cond0_0 i) (h1 : cond0_1 i) (h2 : ¬cond0_2 i) :
    sout0_B_0 c i arg3 harg3 arg4 harg4 arg5 harg5 arg6 harg6 h0 h1 h2 x0 x1 xs = k0_pay3 x0 x1 xs := by
  unfold sout0_B_0
  rw [View.read_writes_eq_canon _ _ _ (fun y => scover0_B_0 c i arg3 harg3 arg4 harg4 arg5 harg5 arg6 harg6 h0 h1 h2 x0 x1 xs y)]
  unfold kernelRun0_B
  dsimp only
  rw [View.canon_unit_zero hz]
  simp only [View.readAt_eq_ld, harg3.read_unread, harg4.read_unread, harg6.read_unread, View.ld_unit_zero (S := S2048x1024) hz, View.ld_unit_zero (S := S1024x1024) hz, View.ld_unit_zero (S := S2048x1024) hz]

theorem last (h0 : ¬cond0_0 i) (h1 : cond0_1 i) (h2 : cond0_2 i) :
    sout0_C_0 c i arg3 harg3 arg4 harg4 arg5 harg5 arg6 harg6 h0 h1 h2 x0 x1 xs = k0_pay3 x0 x1 xs := by
  unfold sout0_C_0
  rw [View.read_writes_eq_canon _ _ _ (fun y => scover0_C_0 c i arg3 harg3 arg4 harg4 arg5 harg5 arg6 harg6 h0 h1 h2 x0 x1 xs y)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S1024x1024) hz, View.ld_unit_zero (S := S2048x1024) hz]

theorem result (h0 : ¬cond0_0 i) (h1 : cond0_1 i) (h2 : cond0_2 i) :
    out0_C_2 c i arg3 harg3 arg4 harg4 arg5 harg5 arg6 harg6 h0 h1 h2 x0 x1 xs = k0_pay3 x0 x1 xs := by
  unfold out0_C_2
  rw [View.read_writes_eq_canon _ _ _ (fun y => cover0_C_2 c i arg3 harg3 arg4 harg4 arg5 harg5 arg6 harg6 h0 h1 h2 x0 x1 xs y)]
  unfold kernelRun0_C
  dsimp only
  sl_unfold_words
  rw [View.canon_unit_zero hz, View.readCov_unit_zero (S := S2048x1024) _ hz]
  simp only [View.readAt_eq_ld, harg3.read_unread, harg4.read_unread, harg6.read_unread, View.ld_unit_zero (S := S2048x1024) hz, View.ld_unit_zero (S := S1024x1024) hz, View.ld_unit_zero (S := S2048x1024) hz]
end Cases

/-- The places of the blocks: step `t % 8` takes entries `1024·(t % 8)…` of the contraction, for the block of columns
    `t / 8` of the result. -/
theorem idx : ∀ t : Fin cfg0.N, win0_0.index t 0 = 0 ∧ win0_0.index t 1 = t.val % 8 ∧ win0_1.index t 0 = t.val % 8 ∧ win0_1.index t 1 = t.val / 8
    ∧ win0_2.index t 0 = 0 ∧ win0_2.index t 1 = t.val / 8 := by decide +kernel

theorem add_part (x0 : Vec Ideal S2048x1024 .bf16) (x1 : Vec Ideal S1024x1024 .bf16) (v : Vec Ideal S2048x1024 .f32)
    (y : S2048x1024.Idx) : k0_pay3 x0 x1 v y = (v y + k0_pay1 x0 x1 y : EReal) := by
  unfold k0_pay3
  rw [shapeCast_self]
  rfl

/-- What the scratch holds after a step, at an entry. -/
abbrev held (c : Dev nD) (n : ℕ) (h : n < cfg0.N) (y : S2048x1024.Idx) : EReal := (outsAt0 m c n h).2 y

theorem held_first (c : Dev nD) (t : Fin cfg0.N) (h : t.val % 8 = 0) (y : S2048x1024.Idx) :
    held m c t.val t.isLt y = 0 + part m c t y := by
  rw [held, outsAt0_A m c t h (by omega) (by omega)]
  dsimp only
  rw [first, zero_add]

theorem held_next (c : Dev nD) (t : Fin cfg0.N) (h : ¬t.val % 8 = 0) (y : S2048x1024.Idx) :
    held m c t.val t.isLt y = held m c (t.val - 1) (Nat.lt_of_le_of_lt (Nat.sub_le _ _) t.isLt) y + part m c t y := by
  unfold held
  by_cases h7 : t.val % 8 = 7
  · rw [outsAt0_C m c t h (by omega) h7]
    dsimp only
    rw [last, add_part]
  · rw [outsAt0_B m c t h (by omega) h7]
    dsimp only
    rw [middle, add_part]

theorem written (c : Dev nD) (t : Fin cfg0.N) (h7 : t.val % 8 = 7) : (outsAt0 m c t.val t.isLt).1 = (outsAt0 m c t.val t.isLt).2 := by
  rw [outsAt0_C m c t (by omega) (by omega) h7]
  dsimp only
  rw [last, result]

theorem final (c : Dev nD) : (dats m 0 c).arrAt 2 cfg0.N = G m c := by
  refine (dats m 0 c).arrAt_eq_of_covers 2 _ (by decide +kernel) fun t hf y => ?_
  have h7 : t.val % 8 = 7 := (flush0_2 t).mp hf
  blk_simp
  rw [after0_2, written m c t h7]
  have e := Pipeline.eq_sum_fin_of_reset_step_apply_of_flush (held m c) 8 (fun _ => (0 : EReal)) (part m c)
    (held_first m c) (held_next m c) t h7 y
  refine Eq.trans e ?_
  rw [zero_add]
  clear e
  idx_vars y
  pointwise [part, k0_pay1, G, Cert.Reference23Ideal.Read.val_main_v5, Cert.Reference23Ideal.Read.val_main_v4, Cert.Reference23Ideal.Read.val_main_v2, Cert.Reference23Ideal.Read.val_main_v0]
  obtain ⟨-, -, -, -, e4, e5⟩ := idx t
  refine Fin.sum_mul_add_congr (M := EReal) fun s k hl => ?_
  have hp : 8 * (t.val / 8) + s.val < cfg0.N := by
    have h16 : t.val < 16 := lt_of_lt_of_eq t.isLt N_0
    rw [show cfg0.N = 16 from N_0]; omega
  obtain ⟨e0, e1, e2, e3, -, -⟩ := idx ⟨8 * (t.val / 8) + s.val, hp⟩
  have es : (8 * (t.val / 8) + s.val) % 8 = s.val := by omega
  have et : (8 * (t.val / 8) + s.val) / 8 = t.val / 8 := by omega
  simp only [es, et] at e0 e1 e2 e3
  congr 1
  · blk_ext [iblk, V, e0, e1, e4, e5]
  · blk_ext [iblk, V, e2, e3, e4, e5]

theorem quiescent_p : Cert.quiescent_Kernel23 := fun m ρ _ => Cert.Kernel23.Gen.frame m ρ
theorem quiescent_pi : Cert.quiescent_Kernel23Ideal := fun m ρ _ => Cert.Kernel23Ideal.Gen.frame m ρ

theorem quiescent_ri : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

theorem algebraic : Cert.algebraic_Kernel23Ideal_Reference23Ideal := by
  pair_intro
  · run_from (Cert.Kernel23Ideal.Value.run_blocks m g)
  · run_from (Cert.Reference23Ideal.Value.run m' g')
    rw [final]
    rfl

end Cert.MulDhBig

end
-- ==== Proof.MulGwBig.lean ====
/-
  The gradient of the other columns of the input projection, held transposed, ctᵀ·x, in blocks of 512 rows of the result.
-/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulGwBig

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference24Ideal.Read.val_main_v7 (F := Ideal) (m ((c : Thread nD τ).loc main_arg0)) (m ((c : Thread nD τ).loc main_arg1))

/-- The columns of the first array and the rows of the result move with the point; the second is whole. -/
theorem idx : ∀ t : Fin cfg0.N, win0_0.index t 0 = 0 ∧ win0_0.index t 1 = t.val ∧ win0_1.index t 0 = 0 ∧ win0_1.index t 1 = 0
    ∧ win0_2.index t 0 = t.val ∧ win0_2.index t 1 = 0 := by decide +kernel

/-- Block by block, the array of the result is the plain product: an entry of a block is one contraction over the whole
    axis, of the same rows and columns. -/
theorem final (c : Dev nD) : (dats m 0 c).arrAt 2 cfg0.N = G m c := by
  refine (dats m 0 c).arrAt_eq_of_covers 2 _ (by decide +kernel) fun t hf y => ?_
  blk_simp
  rw [after0_2]
  unfold out0_2
  frame_out
  idx_vars y
  pointwise [k0_pay1, G, Cert.Reference24Ideal.Read.val_main_v7, Cert.Reference24Ideal.Read.val_main_v6, Cert.Reference24Ideal.Read.val_main_v5, Cert.Reference24Ideal.Read.val_main_v4, Cert.Reference24Ideal.Read.val_main_v3, Cert.Reference24Ideal.Read.val_main_v1]
  obtain ⟨e0, e1, e2, e3, e4, e5⟩ := idx t
  refine Finset.sum_congr (M := EReal) rfl fun k _ => ?_
  congr 1
  · blk_ext [iblk, V, e0, e1, e2, e3, e4, e5]
  · blk_ext [iblk, V, e0, e1, e2, e3, e4, e5]

theorem quiescent_p : Cert.quiescent_Kernel24 := fun m ρ _ => Cert.Kernel24.Gen.frame m ρ
theorem quiescent_pi : Cert.quiescent_Kernel24Ideal := fun m ρ _ => Cert.Kernel24Ideal.Gen.frame m ρ

theorem quiescent_ri : Cert.quiescent_Reference24Ideal := fun m ρ _ =>
  (θ_run Cert.Reference24Ideal.defs _ _).mono
    (fun r h => ⟨fun c => (h c).2, sem_eq_zero_of_no_sems (by decide) r.2⟩) (Cert.Reference24Ideal.Value.run m ρ)

theorem algebraic : Cert.algebraic_Kernel24Ideal_Reference24Ideal := by
  pair_intro
  · run_from (Cert.Kernel24Ideal.Value.run_blocks m g)
  · run_from (Cert.Reference24Ideal.Value.run m' g')
    rw [final]
    rfl

end Cert.MulGwBig

end
-- ==== Proof.MulDhLat.lean ====
/-
  The gradient of the latent columns' input, ct·w with the weight held transposed, added to what the other columns gave, in
  blocks of 512 columns of the result.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.MulDhLat

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- The result of the plain program. -/
abbrev G (c : Dev nD) : Buf (Elt Ideal) ((c : Thread nD τ).loc main_v0) :=
  Cert.Reference25Ideal.Read.val_main_v6 (F := Ideal) (m ((c : Thread nD τ).loc main_arg0)) (m ((c : Thread nD τ).loc main_arg1)) (m ((c : Thread nD τ).loc main_arg2))

/-- The columns of the weight, of the added array and of the result move with the point; the first array is whole. -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val := by decide +kernel

/-- Block by block, the array of the result is the plain program's: an entry of a block is one contraction over the whole
    axis, of the same rows and columns, and the added array's entry. -/
theorem final (c : Dev nD) : (dats m 0 c).arrAt 3 cfg0.N = G m c := by
  refine (dats m 0 c).arrAt_eq_of_covers 3 _ (by decide +kernel) fun t hf y => ?_
  blk_simp
  rw [after0_3]
  unfold out0_3
  frame_out
  idx_vars y
  pointwise [k0_pay1, G, Cert.Reference25Ideal.Read.val_main_v6, Cert.Reference25Ideal.Read.val_main_v5, Cert.Reference25Ideal.Read.val_main_v4, Cert.Reference25Ideal.Read.val_main_v2, Cert.Reference25Ideal.Read.val_main_v0]
  obtain ⟨e0, e1, e2, e3, e4, e5, e6, e7⟩ := idx t
  refine congrArg₂ (fun a b : EReal => a + b) (Finset.sum_congr (M := EReal) rfl fun k _ => ?_) ?_
  · congr 1
    · blk_ext [iblk, V, e0, e1, e2, e3, e4, e5, e6, e7]
    · blk_ext [iblk, V, e0, e1, e2, e3, e4, e5, e6, e7]
  · blk_ext [iblk, V, e0, e1, e2, e3, e4, e5, e6, e7]

theorem quiescent_p : Cert.quiescent_Kernel25 := fun m ρ _ => Cert.Kernel25.Gen.frame m ρ
theorem quiescent_pi : Cert.quiescent_Kernel25Ideal := fun m ρ _ => Cert.Kernel25Ideal.Gen.frame m ρ

theorem quiescent_ri : Cert.quiescent_Reference25Ideal := fun m ρ _ =>
  (θ_run Cert.Reference25Ideal.defs _ _).mono
    (fun r h => ⟨fun c => (h c).2, sem_eq_zero_of_no_sems (by decide) r.2⟩) (Cert.Reference25Ideal.Value.run m ρ)

theorem algebraic : Cert.algebraic_Kernel25Ideal_Reference25Ideal := by
  pair_intro
  · run_from (Cert.Kernel25Ideal.Value.run_blocks m g)
  · run_from (Cert.Reference25Ideal.Value.run m' g')
    rw [final]
    rfl

end Cert.MulDhLat

end
-- ==== Proof.AdamReal.lean ====
/- The corrections of the two moments, over the extended reals. -/
module

public import Idealize.ShloMosaic.PureOps.Ideal.Laws

@[expose] public section

noncomputable section

namespace Cert.AdamReal

open Idealize.ShloMosaic

/-- Dividing by the first moment's correction is multiplying by its reciprocal. -/
theorem bias1 (a : EReal) : Ideal.div a (Ideal.ofBits FTy.f32 0x3F26BD02#32) = a * ((8388608 / 5463681 : ℝ) : EReal) := by
  have h : Ideal.ofBits FTy.f32 0x3F26BD02#32 = ((5463681 / 8388608 : ℝ) : EReal) := by
    simp [Ideal.ofBits, Ideal.ieee]
    rw [← EReal.coe_mul]
    norm_num
  rw [h, Ideal.div_coe (by norm_num)]
  norm_num

/-- Dividing by the second moment's correction is multiplying by its reciprocal. -/
theorem bias2 (a : EReal) : Ideal.div a (Ideal.ofBits FTy.f32 0x3C231ACC#32) = a * ((268435456 / 2672307 : ℝ) : EReal) := by
  have h : Ideal.ofBits FTy.f32 0x3C231ACC#32 = ((2672307 / 268435456 : ℝ) : EReal) := by
    simp [Ideal.ofBits, Ideal.ieee]
    rw [← EReal.coe_mul]
    norm_num
  rw [h, Ideal.div_coe (by norm_num)]
  norm_num

end Cert.AdamReal

end
-- ==== Proof.AdamSmall.lean ====
/-
  The update of the packed small weights, in one block, block by block: each element of the step and of the two moments is a function of the same
  element of the weight, its gradient and the moments.
-/
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamSmall

open Cert.Kernel26Ideal Cert.Kernel26Ideal.Gen Idealize.ShloMosaic Idealize.ShloMosaic.TcCoe Idealize.SL.Sem
open Idealize.ShloMosaic.Pipeline (Dat)
open Cert.Reference26Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0 ∧ win0_6.index t 0 = t.val ∧ win0_6.index t 1 = 0 := by decide +kernel

abbrev G4 (c : Dev nD) : Buf (Elt Ideal) ((c : Thread nD τ).loc main_v0_0) :=
  val_main_v23 (F := Ideal) (m ((c : Thread nD τ).loc main_arg0)) (m ((c : Thread nD τ).loc main_arg1)) (m ((c : Thread nD τ).loc main_arg2)) (m ((c : Thread nD τ).loc main_arg3))

theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  idx_vars y
  obtain ⟨e0, f0, e1, f1, e2, f2, e3, f3, e4, f4, e5, f5, e6, f6⟩ := idx t
  have h0 : iblk m c 0 t (ix2 y0 y1) = m ((c : Thread nD τ).loc main_arg0) (((View.whole main_v0_0).slice (win0_4.rect t)).emb (ix2 y0 y1)) := by
    blk_ext [iblk, V, e0, f0, e4, f4]
  have h1 : iblk m c 1 t (ix2 y0 y1) = m ((c : Thread nD τ).loc main_arg1) (((View.whole main_v0_0).slice (win0_4.rect t)).emb (ix2 y0 y1)) := by
    blk_ext [iblk, V, e1, f1, e4, f4]
  have h2 : iblk m c 2 t (ix2 y0 y1) = m ((c : Thread nD τ).loc main_arg2) (((View.whole main_v0_0).slice (win0_4.rect t)).emb (ix2 y0 y1)) := by
    blk_ext [iblk, V, e2, f2, e4, f4]
  have h3 : iblk m c 3 t (ix2 y0 y1) = m ((c : Thread nD τ).loc main_arg3) (((View.whole main_v0_0).slice (win0_4.rect t)).emb (ix2 y0 y1)) := by
    blk_ext [iblk, V, e3, f3, e4, f4]
  pointwise [k0_pay3, k0_pay2, k0_pay1, G4, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G5 (c : Dev nD) : Buf (Elt Ideal) ((c : Thread nD τ).loc main_v0_1) :=
  val_main_v4 (F := Ideal) (m ((c : Thread nD τ).loc main_arg1)) (m ((c : Thread nD τ).loc main_arg2))

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e4, f4, e5, f5, e6, f6⟩ := idx t
  have h1 : iblk m c 1 t (ix2 y0 y1) = m ((c : Thread nD τ).loc main_arg1) (((View.whole main_v0_1).slice (win0_5.rect t)).emb (ix2 y0 y1)) := by
    blk_ext [iblk, V, e1, f1, e5, f5]
  have h2 : iblk m c 2 t (ix2 y0 y1) = m ((c : Thread nD τ).loc main_arg2) (((View.whole main_v0_1).slice (win0_5.rect t)).emb (ix2 y0 y1)) := by
    blk_ext [iblk, V, e2, f2, e5, f5]
  pointwise [k0_pay1, G5, val_main_v4, val_main_v3, val_main_v2, val_main_v1, val_main_v0, val_main_cst, val_main_cst_0]
  rw [h1, h2]

abbrev G6 (c : Dev nD) : Buf (Elt Ideal) ((c : Thread nD τ).loc main_v0_2) :=
  val_main_v10 (F := Ideal) (m ((c : Thread nD τ).loc main_arg1)) (m ((c : Thread nD τ).loc main_arg3))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e4, f4, e5, f5, e6, f6⟩ := idx t
  have h1 : iblk m c 1 t (ix2 y0 y1) = m ((c : Thread nD τ).loc main_arg1) (((View.whole main_v0_2).slice (win0_6.rect t)).emb (ix2 y0 y1)) := by
    blk_ext [iblk, V, e1, f1, e6, f6]
  have h3 : iblk m c 3 t (ix2 y0 y1) = m ((c : Thread nD τ).loc main_arg3) (((View.whole main_v0_2).slice (win0_6.rect t)).emb (ix2 y0 y1)) := by
    blk_ext [iblk, V, e3, f3, e6, f6]
  pointwise [k0_pay2, G6, val_main_v10, val_main_v9, val_main_v8, val_main_v7, val_main_v6, val_main_v5, val_main_cst_1, val_main_cst_2]
  rw [h1, h3]

theorem quiescent_p : Cert.quiescent_Kernel26 := fun m ρ _ => Cert.Kernel26.Gen.frame m ρ
theorem quiescent_pi : Cert.quiescent_Kernel26Ideal := fun m ρ _ => Cert.Kernel26Ideal.Gen.frame m ρ

theorem quiescent_ri : Cert.quiescent_Reference26Ideal := fun m ρ _ =>
  (θ_run Cert.Reference26Ideal.defs _ _).mono
    (fun r h => ⟨fun c => (h c).2.2.2, sem_eq_zero_of_no_sems (by decide) r.2⟩) (Cert.Reference26Ideal.Value.run m ρ)

theorem preserves : Cert.preserves_Kernel26_Kernel26Ideal :=
  ⟨IdealRules.named_const.statement _ _ _ _ _ rfl, IdealRules.named_const.statement _ _ _ _ _ rfl⟩

theorem algebraic : Cert.algebraic_Kernel26Ideal_Reference26Ideal := by
  intro m g m' g' _ hagree
  refine ⟨fun c => G4 m c, fun c => G5 m c, fun c => G6 m c, ?_, ?_⟩
  · refine (θ_run Cert.Kernel26Ideal.defs _ _).mono ?_ (Cert.Kernel26Ideal.Value.run_blocks m g)
    intro r h c
    obtain ⟨h4, h5, h6, h⟩ := h c
    exact ⟨h4.trans (final4 m c), h5.trans (final5 m c), h6.trans (final6 m c), h⟩
  · refine (θ_run Cert.Reference26Ideal.defs _ _).mono ?_ (Cert.Reference26Ideal.Value.run m' g')
    intro r h c
    obtain ⟨a0, a1, a2, a3⟩ := hagree c
    obtain ⟨h4, h5, h6, h⟩ := h c
    refine ⟨h4.trans ?_, h5.trans ?_, h6.trans ?_, h⟩
    · rw [val_main_v23_eq, a0, a1, a2, a3]
    · exact (val_main_v4_eq _ _).trans (by rw [a1, a2])
    · exact (val_main_v10_eq _ _).trans (by rw [a1, a3])

end Cert.AdamSmall

end
-- ==== Proof.AdamAda.lean ====
/-
  The update of the weight of the modulation, block by block: each element of the step and of the two moments is a function of the same
  element of the weight, its gradient and the moments.
-/
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamAda

open Cert.Kernel27Ideal Cert.Kernel27Ideal.Gen Idealize.ShloMosaic Idealize.ShloMosaic.TcCoe Idealize.SL.Sem
open Idealize.ShloMosaic.Pipeline (Dat)
open Cert.Reference27Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_5.index t 0 = t.val ∧ win0_5.index t 1 = 0 ∧ win0_6.index t 0 = t.val ∧ win0_6.index t 1 = 0 ∧ win0_7.index t 0 = t.val ∧ win0_7.index t 1 = 0 := by decide +kernel

abbrev G5 (c : Dev nD) : Buf (Elt Ideal) ((c : Thread nD τ).loc main_v0_0) :=
  val_main_v23 (F := Ideal) (m ((c : Thread nD τ).loc main_arg0)) (m ((c : Thread nD τ).loc main_arg1)) (m ((c : Thread nD τ).loc main_arg2)) (m ((c : Thread nD τ).loc main_arg3))

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e5, f5, e6, f6, e7, f7⟩ := idx t
  have h0 : iblk m c 0 t (ix2 y0 y1) = m ((c : Thread nD τ).loc main_arg0) (((View.whole main_v0_0).slice (win0_5.rect t)).emb (ix2 y0 y1)) := by
    blk_ext [iblk, V, e0, f0, e5, f5]
  have h1 : iblk m c 1 t (ix2 y0 y1) = m ((c : Thread nD τ).loc main_arg1) (((View.whole main_v0_0).slice (win0_5.rect t)).emb (ix2 y0 y1)) := by
    blk_ext [iblk, V, e1, f1, e5, f5]
  have h2 : iblk m c 2 t (ix2 y0 y1) = m ((c : Thread nD τ).loc main_arg2) (((View.whole main_v0_0).slice (win0_5.rect t)).emb (ix2 y0 y1)) := by
    blk_ext [iblk, V, e2, f2, e5, f5]
  have h3 : iblk m c 3 t (ix2 y0 y1) = m ((c : Thread nD τ).loc main_arg3) (((View.whole main_v0_0).slice (win0_5.rect t)).emb (ix2 y0 y1)) := by
    blk_ext [iblk, V, e3, f3, e5, f5]
  pointwise [k0_pay3, k0_pay2, k0_pay1, G5, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G6 (c : Dev nD) : Buf (Elt Ideal) ((c : Thread nD τ).loc main_v0_1) :=
  val_main_v4 (F := Ideal) (m ((c : Thread nD τ).loc main_arg1)) (m ((c : Thread nD τ).loc main_arg2))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e5, f5, e6, f6, e7, f7⟩ := idx t
  have h1 : iblk m c 1 t (ix2 y0 y1) = m ((c : Thread nD τ).loc main_arg1) (((View.whole main_v0_1).slice (win0_6.rect t)).emb (ix2 y0 y1)) := by
    blk_ext [iblk, V, e1, f1, e6, f6]
  have h2 : iblk m c 2 t (ix2 y0 y1) = m ((c : Thread nD τ).loc main_arg2) (((View.whole main_v0_1).slice (win0_6.rect t)).emb (ix2 y0 y1)) := by
    blk_ext [iblk, V, e2, f2, e6, f6]
  pointwise [k0_pay1, G6, val_main_v4, val_main_v3, val_main_v2, val_main_v1, val_main_v0, val_main_cst, val_main_cst_0]
  rw [h1, h2]

abbrev G7 (c : Dev nD) : Buf (Elt Ideal) ((c : Thread nD τ).loc main_v0_2) :=
  val_main_v10 (F := Ideal) (m ((c : Thread nD τ).loc main_arg1)) (m ((c : Thread nD τ).loc main_arg3))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e5, f5, e6, f6, e7, f7⟩ := idx t
  have h1 : iblk m c 1 t (ix2 y0 y1) = m ((c : Thread nD τ).loc main_arg1) (((View.whole main_v0_2).slice (win0_7.rect t)).emb (ix2 y0 y1)) := by
    blk_ext [iblk, V, e1, f1, e7, f7]
  have h3 : iblk m c 3 t (ix2 y0 y1) = m ((c : Thread nD τ).loc main_arg3) (((View.whole main_v0_2).slice (win0_7.rect t)).emb (ix2 y0 y1)) := by
    blk_ext [iblk, V, e3, f3, e7, f7]
  pointwise [k0_pay2, G7, val_main_v10, val_main_v9, val_main_v8, val_main_v7, val_main_v6, val_main_v5, val_main_cst_1, val_main_cst_2]
  rw [h1, h3]

theorem quiescent_p : Cert.quiescent_Kernel27 := fun m ρ _ => Cert.Kernel27.Gen.frame m ρ
theorem quiescent_pi : Cert.quiescent_Kernel27Ideal := fun m ρ _ => Cert.Kernel27Ideal.Gen.frame m ρ

theorem quiescent_ri : Cert.quiescent_Reference27Ideal := fun m ρ _ =>
  (θ_run Cert.Reference27Ideal.defs _ _).mono
    (fun r h => ⟨fun c => (h c).2.2.2, sem_eq_zero_of_no_sems (by decide) r.2⟩) (Cert.Reference27Ideal.Value.run m ρ)

theorem preserves : Cert.preserves_Kernel27_Kernel27Ideal :=
  ⟨IdealRules.named_const.statement _ _ _ _ _ rfl, IdealRules.named_const.statement _ _ _ _ _ rfl⟩

theorem algebraic : Cert.algebraic_Kernel27Ideal_Reference27Ideal := by
  intro m g m' g' _ hagree
  refine ⟨fun c => G5 m c, fun c => G6 m c, fun c => G7 m c, ?_, ?_⟩
  · refine (θ_run Cert.Kernel27Ideal.defs _ _).mono ?_ (Cert.Kernel27Ideal.Value.run_blocks m g)
    intro r h c
    obtain ⟨h5, h6, h7, h⟩ := h c
    exact ⟨h5.trans (final5 m c), h6.trans (final6 m c), h7.trans (final7 m c), h⟩
  · refine (θ_run Cert.Reference27Ideal.defs _ _).mono ?_ (Cert.Reference27Ideal.Value.run m' g')
    intro r h c
    obtain ⟨a0, a1, a2, a3, a4⟩ := hagree c
    obtain ⟨h5, h6, h7, h⟩ := h c
    refine ⟨h5.trans ?_, h6.trans ?_, h7.trans ?_, h⟩
    · rw [val_main_v23_eq, a0, a1, a2, a3]
    · exact (val_main_v4_eq _ _).trans (by rw [a1, a2])
    · exact (val_main_v10_eq _ _).trans (by rw [a1, a3])

end Cert.AdamAda

end
-- ==== Proof.AdamIn.lean ====
/-
  The update of the input projection's weight, transposed, block by block: each element of the step and of the two moments is a function of the same
  element of the weight, its gradient and the moments.
-/
module

public import proofs.«01_k».proof.Defs
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamIn

open Cert.Kernel28Ideal Cert.Kernel28Ideal.Gen Idealize.ShloMosaic Idealize.ShloMosaic.TcCoe Idealize.SL.Sem
open Idealize.ShloMosaic.Pipeline (Dat)
open Cert.Reference28Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

abbrev G4 (c : Dev nD) : Buf (Elt Ideal) ((c : Thread nD τ).loc main_v0_0) :=
  m ((c : Thread nD τ).loc main_arg1)

theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_0).slice (win0_4.rect t)).emb (ix2 y0 y1)) := by
    blk_ext [iblk, V, e1, f1, e4, f4]
  exact h1

abbrev G5 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e4, f4, e5, f5, e6, f6, e7, f7⟩ := idx t
  have h0 : iblk m c 0 t (ix2 y0 y1) = m ((c : Thread nD τ).loc main_arg0) (((View.whole main_v0_1).slice (win0_5.rect t)).emb (ix2 y0 y1)) := by
    blk_ext [iblk, V, e0, f0, e5, f5]
  have h1 : iblk m c 1 t (ix2 y0 y1) = m ((c : Thread nD τ).loc main_arg1) (((View.whole main_v0_1).slice (win0_5.rect t)).emb (ix2 y0 y1)) := by
    blk_ext [iblk, V, e1, f1, e5, f5]
  have h2 : iblk m c 2 t (ix2 y0 y1) = m ((c : Thread nD τ).loc main_arg2) (((View.whole main_v0_1).slice (win0_5.rect t)).emb (ix2 y0 y1)) := by
    blk_ext [iblk, V, e2, f2, e5, f5]
  have h3 : iblk m c 3 t (ix2 y0 y1) = m ((c : Thread nD τ).loc main_arg3) (((View.whole main_v0_1).slice (win0_5.rect t)).emb (ix2 y0 y1)) := by
    blk_ext [iblk, V, e3, f3, e5, f5]
  pointwise [k0_pay3, k0_pay2, k0_pay1, G5, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G6 (c : Dev nD) : Buf (Elt Ideal) ((c : Thread nD τ).loc main_v0_2) :=
  val_main_v4 (F := Ideal) (m ((c : Thread nD τ).loc main_arg1)) (m ((c : Thread nD τ).loc main_arg2))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_2).slice (win0_6.rect t)).emb (ix2 y0 y1)) := by
    blk_ext [iblk, V, e1, f1, e6, f6]
  have h2 : iblk m c 2 t (ix2 y0 y1) = m ((c : Thread nD τ).loc main_arg2) (((View.whole main_v0_2).slice (win0_6.rect t)).emb (ix2 y0 y1)) := by
    blk_ext [iblk, V, e2, f2, e6, f6]
  pointwise [k0_pay1, G6, val_main_v4, val_main_v3, val_main_v2, val_main_v1, val_main_v0, val_main_cst, val_main_cst_0]
  rw [h1, h2]

abbrev G7 (c : Dev nD) : Buf (Elt Ideal) ((c : Thread nD τ).loc main_v0_3) :=
  val_main_v10 (F := Ideal) (m ((c : Thread nD τ).loc main_arg1)) (m ((c : Thread nD τ).loc main_arg3))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_3).slice (win0_7.rect t)).emb (ix2 y0 y1)) := by
    blk_ext [iblk, V, e1, f1, e7, f7]
  have h3 : iblk m c 3 t (ix2 y0 y1) = m ((c : Thread nD τ).loc main_arg3) (((View.whole main_v0_3).slice (win0_7.rect t)).emb (ix2 y0 y1)) := by
    blk_ext [iblk, V, e3, f3, e7, f7]
  pointwise [k0_pay2, G7, val_main_v10, val_main_v9, val_main_v8, val_main_v7, val_main_v6, val_main_v5, val_main_cst_1, val_main_cst_2]
  rw [h1, h3]

theorem quiescent_p : Cert.quiescent_Kernel28 := fun m ρ _ => Cert.Kernel28.Gen.frame m ρ
theorem quiescent_pi : Cert.quiescent_Kernel28Ideal := fun m ρ _ => Cert.Kernel28Ideal.Gen.frame m ρ

theorem quiescent_ri : Cert.quiescent_Reference28Ideal := fun m ρ _ =>
  (θ_run Cert.Reference28Ideal.defs _ _).mono
    (fun r h => ⟨fun c => (h c).2.2.2.2, sem_eq_zero_of_no_sems (by decide) r.2⟩) (Cert.Reference28Ideal.Value.run m ρ)

theorem preserves : Cert.preserves_Kernel28_Kernel28Ideal :=
  ⟨IdealRules.named_const.statement _ _ _ _ _ rfl, IdealRules.named_const.statement _ _ _ _ _ rfl⟩

theorem algebraic : Cert.algebraic_Kernel28Ideal_Reference28Ideal := by
  intro m g m' g' _ hagree
  refine ⟨fun c => G4 m c, fun c => G5 m c, fun c => G6 m c, fun c => G7 m c, ?_, ?_⟩
  · refine (θ_run Cert.Kernel28Ideal.defs _ _).mono ?_ (Cert.Kernel28Ideal.Value.run_blocks m g)
    intro r h c
    obtain ⟨h4, h5, h6, h7, h⟩ := h c
    exact ⟨h4.trans (final4 m c), h5.trans (final5 m c), h6.trans (final6 m c), h7.trans (final7 m c), h⟩
  · refine (θ_run Cert.Reference28Ideal.defs _ _).mono ?_ (Cert.Reference28Ideal.Value.run m' g')
    intro r h c
    obtain ⟨a0, a1, a2, a3⟩ := hagree c
    obtain ⟨hg, h5, h6, h7, h⟩ := h c
    refine ⟨hg.trans a1, h5.trans ?_, h6.trans ?_, h7.trans ?_, h⟩
    · rw [val_main_v23_eq, a0, a1, a2, a3]
    · exact (val_main_v4_eq _ _).trans (by rw [a1, a2])
    · exact (val_main_v10_eq _ _).trans (by rw [a1, a3])

end Cert.AdamIn

end
-- ==== Proof.AdamOut.lean ====
/-
  The update of the output projection's weight, and of the two branches' projections, which have its shape, block by block: each element of the step and of the two moments is a function of the same
  element of the weight, its gradient and the moments.
-/
module

public import proofs.«01_k».proof.Defs
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamOut

open Cert.Kernel29Ideal Cert.Kernel29Ideal.Gen Idealize.ShloMosaic Idealize.ShloMosaic.TcCoe Idealize.SL.Sem
open Idealize.ShloMosaic.Pipeline (Dat)
open Cert.Reference29Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 := by decide +kernel

abbrev G5 (c : Dev nD) : Buf (Elt Ideal) ((c : Thread nD τ).loc main_v0_0) :=
  m ((c : Thread nD τ).loc main_arg1)

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_0).slice (win0_5.rect t)).emb (ix2 y0 y1)) := by
    blk_ext [iblk, V, e1, f1, e5, f5]
  exact h1

abbrev G6 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e5, f5, e6, f6, e7, f7, e8, f8⟩ := idx t
  have h0 : iblk m c 0 t (ix2 y0 y1) = m ((c : Thread nD τ).loc main_arg0) (((View.whole main_v0_1).slice (win0_6.rect t)).emb (ix2 y0 y1)) := by
    blk_ext [iblk, V, e0, f0, e6, f6]
  have h1 : iblk m c 1 t (ix2 y0 y1) = m ((c : Thread nD τ).loc main_arg1) (((View.whole main_v0_1).slice (win0_6.rect t)).emb (ix2 y0 y1)) := by
    blk_ext [iblk, V, e1, f1, e6, f6]
  have h2 : iblk m c 2 t (ix2 y0 y1) = m ((c : Thread nD τ).loc main_arg2) (((View.whole main_v0_1).slice (win0_6.rect t)).emb (ix2 y0 y1)) := by
    blk_ext [iblk, V, e2, f2, e6, f6]
  have h3 : iblk m c 3 t (ix2 y0 y1) = m ((c : Thread nD τ).loc main_arg3) (((View.whole main_v0_1).slice (win0_6.rect t)).emb (ix2 y0 y1)) := by
    blk_ext [iblk, V, e3, f3, e6, f6]
  pointwise [k0_pay3, k0_pay2, k0_pay1, G6, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G7 (c : Dev nD) : Buf (Elt Ideal) ((c : Thread nD τ).loc main_v0_2) :=
  val_main_v4 (F := Ideal) (m ((c : Thread nD τ).loc main_arg1)) (m ((c : Thread nD τ).loc main_arg2))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_2).slice (win0_7.rect t)).emb (ix2 y0 y1)) := by
    blk_ext [iblk, V, e1, f1, e7, f7]
  have h2 : iblk m c 2 t (ix2 y0 y1) = m ((c : Thread nD τ).loc main_arg2) (((View.whole main_v0_2).slice (win0_7.rect t)).emb (ix2 y0 y1)) := by
    blk_ext [iblk, V, e2, f2, e7, f7]
  pointwise [k0_pay1, G7, val_main_v4, val_main_v3, val_main_v2, val_main_v1, val_main_v0, val_main_cst, val_main_cst_0]
  rw [h1, h2]

abbrev G8 (c : Dev nD) : Buf (Elt Ideal) ((c : Thread nD τ).loc main_v0_3) :=
  val_main_v10 (F := Ideal) (m ((c : Thread nD τ).loc main_arg1)) (m ((c : Thread nD τ).loc main_arg3))

theorem final8 (c : Dev nD) : (dats m 0 c).arrAt 8 cfg0.N = G8 m c := by
  refine (dats m 0 c).arrAt_eq_of_covers 8 _ (by decide +kernel) fun t hf y => ?_
  blk_simp
  rw [after0_8]
  unfold out0_8
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_3).slice (win0_8.rect t)).emb (ix2 y0 y1)) := by
    blk_ext [iblk, V, e1, f1, e8, f8]
  have h3 : iblk m c 3 t (ix2 y0 y1) = m ((c : Thread nD τ).loc main_arg3) (((View.whole main_v0_3).slice (win0_8.rect t)).emb (ix2 y0 y1)) := by
    blk_ext [iblk, V, e3, f3, e8, f8]
  pointwise [k0_pay2, G8, val_main_v10, val_main_v9, val_main_v8, val_main_v7, val_main_v6, val_main_v5, val_main_cst_1, val_main_cst_2]
  rw [h1, h3]

theorem quiescent_p : Cert.quiescent_Kernel29 := fun m ρ _ => Cert.Kernel29.Gen.frame m ρ
theorem quiescent_pi : Cert.quiescent_Kernel29Ideal := fun m ρ _ => Cert.Kernel29Ideal.Gen.frame m ρ

theorem quiescent_ri : Cert.quiescent_Reference29Ideal := fun m ρ _ =>
  (θ_run Cert.Reference29Ideal.defs _ _).mono
    (fun r h => ⟨fun c => (h c).2.2.2.2, sem_eq_zero_of_no_sems (by decide) r.2⟩) (Cert.Reference29Ideal.Value.run m ρ)

theorem preserves : Cert.preserves_Kernel29_Kernel29Ideal :=
  ⟨IdealRules.named_const.statement _ _ _ _ _ rfl, IdealRules.named_const.statement _ _ _ _ _ rfl⟩

theorem algebraic : Cert.algebraic_Kernel29Ideal_Reference29Ideal := by
  intro m g m' g' _ hagree
  refine ⟨fun c => G5 m c, fun c => G6 m c, fun c => G7 m c, fun c => G8 m c, ?_, ?_⟩
  · refine (θ_run Cert.Kernel29Ideal.defs _ _).mono ?_ (Cert.Kernel29Ideal.Value.run_blocks m g)
    intro r h c
    obtain ⟨h5, h6, h7, h8, h⟩ := h c
    exact ⟨h5.trans (final5 m c), h6.trans (final6 m c), h7.trans (final7 m c), h8.trans (final8 m c), h⟩
  · refine (θ_run Cert.Reference29Ideal.defs _ _).mono ?_ (Cert.Reference29Ideal.Value.run m' g')
    intro r h c
    obtain ⟨a0, a1, a2, a3, a4⟩ := hagree c
    obtain ⟨hg, h6, h7, h8, h⟩ := h c
    refine ⟨hg.trans a1, h6.trans ?_, h7.trans ?_, h8.trans ?_, h⟩
    · rw [val_main_v23_eq, a0, a1, a2, a3]
    · exact (val_main_v4_eq _ _).trans (by rw [a1, a2])
    · exact (val_main_v10_eq _ _).trans (by rw [a1, a3])

end Cert.AdamOut

end
-- ==== Proof.AdamUq.lean ====
/-
  The update of the query expansion's weight, block by block: each element of the step and of the two moments is a function of the same
  element of the weight, its gradient and the moments.
-/
module

public import proofs.«01_k».proof.Defs
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamUq

open Cert.Kernel30Ideal Cert.Kernel30Ideal.Gen Idealize.ShloMosaic Idealize.ShloMosaic.TcCoe Idealize.SL.Sem
open Idealize.ShloMosaic.Pipeline (Dat)
open Cert.Reference30Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

abbrev G4 (c : Dev nD) : Buf (Elt Ideal) ((c : Thread nD τ).loc main_v0_0) :=
  m ((c : Thread nD τ).loc main_arg1)

theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_0).slice (win0_4.rect t)).emb (ix2 y0 y1)) := by
    blk_ext [iblk, V, e1, f1, e4, f4]
  exact h1

abbrev G5 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e4, f4, e5, f5, e6, f6, e7, f7⟩ := idx t
  have h0 : iblk m c 0 t (ix2 y0 y1) = m ((c : Thread nD τ).loc main_arg0) (((View.whole main_v0_1).slice (win0_5.rect t)).emb (ix2 y0 y1)) := by
    blk_ext [iblk, V, e0, f0, e5, f5]
  have h1 : iblk m c 1 t (ix2 y0 y1) = m ((c : Thread nD τ).loc main_arg1) (((View.whole main_v0_1).slice (win0_5.rect t)).emb (ix2 y0 y1)) := by
    blk_ext [iblk, V, e1, f1, e5, f5]
  have h2 : iblk m c 2 t (ix2 y0 y1) = m ((c : Thread nD τ).loc main_arg2) (((View.whole main_v0_1).slice (win0_5.rect t)).emb (ix2 y0 y1)) := by
    blk_ext [iblk, V, e2, f2, e5, f5]
  have h3 : iblk m c 3 t (ix2 y0 y1) = m ((c : Thread nD τ).loc main_arg3) (((View.whole main_v0_1).slice (win0_5.rect t)).emb (ix2 y0 y1)) := by
    blk_ext [iblk, V, e3, f3, e5, f5]
  pointwise [k0_pay3, k0_pay2, k0_pay1, G5, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G6 (c : Dev nD) : Buf (Elt Ideal) ((c : Thread nD τ).loc main_v0_2) :=
  val_main_v4 (F := Ideal) (m ((c : Thread nD τ).loc main_arg1)) (m ((c : Thread nD τ).loc main_arg2))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_2).slice (win0_6.rect t)).emb (ix2 y0 y1)) := by
    blk_ext [iblk, V, e1, f1, e6, f6]
  have h2 : iblk m c 2 t (ix2 y0 y1) = m ((c : Thread nD τ).loc main_arg2) (((View.whole main_v0_2).slice (win0_6.rect t)).emb (ix2 y0 y1)) := by
    blk_ext [iblk, V, e2, f2, e6, f6]
  pointwise [k0_pay1, G6, val_main_v4, val_main_v3, val_main_v2, val_main_v1, val_main_v0, val_main_cst, val_main_cst_0]
  rw [h1, h2]

abbrev G7 (c : Dev nD) : Buf (Elt Ideal) ((c : Thread nD τ).loc main_v0_3) :=
  val_main_v10 (F := Ideal) (m ((c : Thread nD τ).loc main_arg1)) (m ((c : Thread nD τ).loc main_arg3))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_3).slice (win0_7.rect t)).emb (ix2 y0 y1)) := by
    blk_ext [iblk, V, e1, f1, e7, f7]
  have h3 : iblk m c 3 t (ix2 y0 y1) = m ((c : Thread nD τ).loc main_arg3) (((View.whole main_v0_3).slice (win0_7.rect t)).emb (ix2 y0 y1)) := by
    blk_ext [iblk, V, e3, f3, e7, f7]
  pointwise [k0_pay2, G7, val_main_v10, val_main_v9, val_main_v8, val_main_v7, val_main_v6, val_main_v5, val_main_cst_1, val_main_cst_2]
  rw [h1, h3]

theorem quiescent_p : Cert.quiescent_Kernel30 := fun m ρ _ => Cert.Kernel30.Gen.frame m ρ
theorem quiescent_pi : Cert.quiescent_Kernel30Ideal := fun m ρ _ => Cert.Kernel30Ideal.Gen.frame m ρ

theorem quiescent_ri : Cert.quiescent_Reference30Ideal := fun m ρ _ =>
  (θ_run Cert.Reference30Ideal.defs _ _).mono
    (fun r h => ⟨fun c => (h c).2.2.2.2, sem_eq_zero_of_no_sems (by decide) r.2⟩) (Cert.Reference30Ideal.Value.run m ρ)

theorem preserves : Cert.preserves_Kernel30_Kernel30Ideal :=
  ⟨IdealRules.named_const.statement _ _ _ _ _ rfl, IdealRules.named_const.statement _ _ _ _ _ rfl⟩

theorem algebraic : Cert.algebraic_Kernel30Ideal_Reference30Ideal := by
  intro m g m' g' _ hagree
  refine ⟨fun c => G4 m c, fun c => G5 m c, fun c => G6 m c, fun c => G7 m c, ?_, ?_⟩
  · refine (θ_run Cert.Kernel30Ideal.defs _ _).mono ?_ (Cert.Kernel30Ideal.Value.run_blocks m g)
    intro r h c
    obtain ⟨h4, h5, h6, h7, h⟩ := h c
    exact ⟨h4.trans (final4 m c), h5.trans (final5 m c), h6.trans (final6 m c), h7.trans (final7 m c), h⟩
  · refine (θ_run Cert.Reference30Ideal.defs _ _).mono ?_ (Cert.Reference30Ideal.Value.run m' g')
    intro r h c
    obtain ⟨a0, a1, a2, a3⟩ := hagree c
    obtain ⟨hg, h5, h6, h7, h⟩ := h c
    refine ⟨hg.trans a1, h5.trans ?_, h6.trans ?_, h7.trans ?_, h⟩
    · rw [val_main_v23_eq, a0, a1, a2, a3]
    · exact (val_main_v4_eq _ _).trans (by rw [a1, a2])
    · exact (val_main_v10_eq _ _).trans (by rw [a1, a3])

end Cert.AdamUq

end
-- ==== Proof.AdamUkv.lean ====
/-
  The update of the key and value expansion's weight, block by block: each element of the step and of the two moments is a function of the same
  element of the weight, its gradient and the moments.
-/
module

public import proofs.«01_k».proof.Defs
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamUkv

open Cert.Kernel31Ideal Cert.Kernel31Ideal.Gen Idealize.ShloMosaic Idealize.ShloMosaic.TcCoe Idealize.SL.Sem
open Idealize.ShloMosaic.Pipeline (Dat)
open Cert.Reference31Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 := by decide +kernel

abbrev G4 (c : Dev nD) : Buf (Elt Ideal) ((c : Thread nD τ).loc main_v0_0) :=
  m ((c : Thread nD τ).loc main_arg1)

theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_0).slice (win0_4.rect t)).emb (ix2 y0 y1)) := by
    blk_ext [iblk, V, e1, f1, e4, f4]
  exact h1

abbrev G5 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e4, f4, e5, f5, e6, f6, e7, f7⟩ := idx t
  have h0 : iblk m c 0 t (ix2 y0 y1) = m ((c : Thread nD τ).loc main_arg0) (((View.whole main_v0_1).slice (win0_5.rect t)).emb (ix2 y0 y1)) := by
    blk_ext [iblk, V, e0, f0, e5, f5]
  have h1 : iblk m c 1 t (ix2 y0 y1) = m ((c : Thread nD τ).loc main_arg1) (((View.whole main_v0_1).slice (win0_5.rect t)).emb (ix2 y0 y1)) := by
    blk_ext [iblk, V, e1, f1, e5, f5]
  have h2 : iblk m c 2 t (ix2 y0 y1) = m ((c : Thread nD τ).loc main_arg2) (((View.whole main_v0_1).slice (win0_5.rect t)).emb (ix2 y0 y1)) := by
    blk_ext [iblk, V, e2, f2, e5, f5]
  have h3 : iblk m c 3 t (ix2 y0 y1) = m ((c : Thread nD τ).loc main_arg3) (((View.whole main_v0_1).slice (win0_5.rect t)).emb (ix2 y0 y1)) := by
    blk_ext [iblk, V, e3, f3, e5, f5]
  pointwise [k0_pay3, k0_pay2, k0_pay1, G5, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G6 (c : Dev nD) : Buf (Elt Ideal) ((c : Thread nD τ).loc main_v0_2) :=
  val_main_v4 (F := Ideal) (m ((c : Thread nD τ).loc main_arg1)) (m ((c : Thread nD τ).loc main_arg2))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_2).slice (win0_6.rect t)).emb (ix2 y0 y1)) := by
    blk_ext [iblk, V, e1, f1, e6, f6]
  have h2 : iblk m c 2 t (ix2 y0 y1) = m ((c : Thread nD τ).loc main_arg2) (((View.whole main_v0_2).slice (win0_6.rect t)).emb (ix2 y0 y1)) := by
    blk_ext [iblk, V, e2, f2, e6, f6]
  pointwise [k0_pay1, G6, val_main_v4, val_main_v3, val_main_v2, val_main_v1, val_main_v0, val_main_cst, val_main_cst_0]
  rw [h1, h2]

abbrev G7 (c : Dev nD) : Buf (Elt Ideal) ((c : Thread nD τ).loc main_v0_3) :=
  val_main_v10 (F := Ideal) (m ((c : Thread nD τ).loc main_arg1)) (m ((c : Thread nD τ).loc main_arg3))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e4, f4, e5, f5, e6, f6, e7, f7⟩ := idx t
  have h1 : iblk m c 1 t (ix2 y0 y1) = m ((c : Thread nD τ).loc main_arg1) (((View.whole main_v0_3).slice (win0_7.rect t)).emb (ix2 y0 y1)) := by
    blk_ext [iblk, V, e1, f1, e7, f7]
  have h3 : iblk m c 3 t (ix2 y0 y1) = m ((c : Thread nD τ).loc main_arg3) (((View.whole main_v0_3).slice (win0_7.rect t)).emb (ix2 y0 y1)) := by
    blk_ext [iblk, V, e3, f3, e7, f7]
  pointwise [k0_pay2, G7, val_main_v10, val_main_v9, val_main_v8, val_main_v7, val_main_v6, val_main_v5, val_main_cst_1, val_main_cst_2]
  rw [h1, h3]

theorem quiescent_p : Cert.quiescent_Kernel31 := fun m ρ _ => Cert.Kernel31.Gen.frame m ρ
theorem quiescent_pi : Cert.quiescent_Kernel31Ideal := fun m ρ _ => Cert.Kernel31Ideal.Gen.frame m ρ

theorem quiescent_ri : Cert.quiescent_Reference31Ideal := fun m ρ _ =>
  (θ_run Cert.Reference31Ideal.defs _ _).mono
    (fun r h => ⟨fun c => (h c).2.2.2.2, sem_eq_zero_of_no_sems (by decide) r.2⟩) (Cert.Reference31Ideal.Value.run m ρ)

theorem preserves : Cert.preserves_Kernel31_Kernel31Ideal :=
  ⟨IdealRules.named_const.statement _ _ _ _ _ rfl, IdealRules.named_const.statement _ _ _ _ _ rfl⟩

theorem algebraic : Cert.algebraic_Kernel31Ideal_Reference31Ideal := by
  intro m g m' g' _ hagree
  refine ⟨fun c => G4 m c, fun c => G5 m c, fun c => G6 m c, fun c => G7 m c, ?_, ?_⟩
  · refine (θ_run Cert.Kernel31Ideal.defs _ _).mono ?_ (Cert.Kernel31Ideal.Value.run_blocks m g)
    intro r h c
    obtain ⟨h4, h5, h6, h7, h⟩ := h c
    exact ⟨h4.trans (final4 m c), h5.trans (final5 m c), h6.trans (final6 m c), h7.trans (final7 m c), h⟩
  · refine (θ_run Cert.Reference31Ideal.defs _ _).mono ?_ (Cert.Reference31Ideal.Value.run m' g')
    intro r h c
    obtain ⟨a0, a1, a2, a3⟩ := hagree c
    obtain ⟨hg, h5, h6, h7, h⟩ := h c
    refine ⟨hg.trans a1, h5.trans ?_, h6.trans ?_, h7.trans ?_, h⟩
    · rw [val_main_v23_eq, a0, a1, a2, a3]
    · exact (val_main_v4_eq _ _).trans (by rw [a1, a2])
    · exact (val_main_v10_eq _ _).trans (by rw [a1, a3])

end Cert.AdamUkv

end
-- ==== Proof.AdamUp.lean ====
/-
  The update of the up projection's weight, block by block: each element of the step and of the two moments is a function of the same
  element of the weight, its gradient and the moments.
-/
module

public import proofs.«01_k».proof.Defs
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamUp

open Cert.Kernel32Ideal Cert.Kernel32Ideal.Gen Idealize.ShloMosaic Idealize.ShloMosaic.TcCoe Idealize.SL.Sem
open Idealize.ShloMosaic.Pipeline (Dat)
open Cert.Reference32Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 := by decide +kernel

abbrev G5 (c : Dev nD) : Buf (Elt Ideal) ((c : Thread nD τ).loc main_v0_0) :=
  m ((c : Thread nD τ).loc main_arg1)

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_0).slice (win0_5.rect t)).emb (ix2 y0 y1)) := by
    blk_ext [iblk, V, e1, f1, e5, f5]
  exact h1

abbrev G6 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e5, f5, e6, f6, e7, f7, e8, f8⟩ := idx t
  have h0 : iblk m c 0 t (ix2 y0 y1) = m ((c : Thread nD τ).loc main_arg0) (((View.whole main_v0_1).slice (win0_6.rect t)).emb (ix2 y0 y1)) := by
    blk_ext [iblk, V, e0, f0, e6, f6]
  have h1 : iblk m c 1 t (ix2 y0 y1) = m ((c : Thread nD τ).loc main_arg1) (((View.whole main_v0_1).slice (win0_6.rect t)).emb (ix2 y0 y1)) := by
    blk_ext [iblk, V, e1, f1, e6, f6]
  have h2 : iblk m c 2 t (ix2 y0 y1) = m ((c : Thread nD τ).loc main_arg2) (((View.whole main_v0_1).slice (win0_6.rect t)).emb (ix2 y0 y1)) := by
    blk_ext [iblk, V, e2, f2, e6, f6]
  have h3 : iblk m c 3 t (ix2 y0 y1) = m ((c : Thread nD τ).loc main_arg3) (((View.whole main_v0_1).slice (win0_6.rect t)).emb (ix2 y0 y1)) := by
    blk_ext [iblk, V, e3, f3, e6, f6]
  pointwise [k0_pay3, k0_pay2, k0_pay1, G6, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G7 (c : Dev nD) : Buf (Elt Ideal) ((c : Thread nD τ).loc main_v0_2) :=
  val_main_v4 (F := Ideal) (m ((c : Thread nD τ).loc main_arg1)) (m ((c : Thread nD τ).loc main_arg2))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_2).slice (win0_7.rect t)).emb (ix2 y0 y1)) := by
    blk_ext [iblk, V, e1, f1, e7, f7]
  have h2 : iblk m c 2 t (ix2 y0 y1) = m ((c : Thread nD τ).loc main_arg2) (((View.whole main_v0_2).slice (win0_7.rect t)).emb (ix2 y0 y1)) := by
    blk_ext [iblk, V, e2, f2, e7, f7]
  pointwise [k0_pay1, G7, val_main_v4, val_main_v3, val_main_v2, val_main_v1, val_main_v0, val_main_cst, val_main_cst_0]
  rw [h1, h2]

abbrev G8 (c : Dev nD) : Buf (Elt Ideal) ((c : Thread nD τ).loc main_v0_3) :=
  val_main_v10 (F := Ideal) (m ((c : Thread nD τ).loc main_arg1)) (m ((c : Thread nD τ).loc main_arg3))

theorem final8 (c : Dev nD) : (dats m 0 c).arrAt 8 cfg0.N = G8 m c := by
  refine (dats m 0 c).arrAt_eq_of_covers 8 _ (by decide +kernel) fun t hf y => ?_
  blk_simp
  rw [after0_8]
  unfold out0_8
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_3).slice (win0_8.rect t)).emb (ix2 y0 y1)) := by
    blk_ext [iblk, V, e1, f1, e8, f8]
  have h3 : iblk m c 3 t (ix2 y0 y1) = m ((c : Thread nD τ).loc main_arg3) (((View.whole main_v0_3).slice (win0_8.rect t)).emb (ix2 y0 y1)) := by
    blk_ext [iblk, V, e3, f3, e8, f8]
  pointwise [k0_pay2, G8, val_main_v10, val_main_v9, val_main_v8, val_main_v7, val_main_v6, val_main_v5, val_main_cst_1, val_main_cst_2]
  rw [h1, h3]

theorem quiescent_p : Cert.quiescent_Kernel32 := fun m ρ _ => Cert.Kernel32.Gen.frame m ρ
theorem quiescent_pi : Cert.quiescent_Kernel32Ideal := fun m ρ _ => Cert.Kernel32Ideal.Gen.frame m ρ

theorem quiescent_ri : Cert.quiescent_Reference32Ideal := fun m ρ _ =>
  (θ_run Cert.Reference32Ideal.defs _ _).mono
    (fun r h => ⟨fun c => (h c).2.2.2.2, sem_eq_zero_of_no_sems (by decide) r.2⟩) (Cert.Reference32Ideal.Value.run m ρ)

theorem preserves : Cert.preserves_Kernel32_Kernel32Ideal :=
  ⟨IdealRules.named_const.statement _ _ _ _ _ rfl, IdealRules.named_const.statement _ _ _ _ _ rfl⟩

theorem algebraic : Cert.algebraic_Kernel32Ideal_Reference32Ideal := by
  intro m g m' g' _ hagree
  refine ⟨fun c => G5 m c, fun c => G6 m c, fun c => G7 m c, fun c => G8 m c, ?_, ?_⟩
  · refine (θ_run Cert.Kernel32Ideal.defs _ _).mono ?_ (Cert.Kernel32Ideal.Value.run_blocks m g)
    intro r h c
    obtain ⟨h5, h6, h7, h8, h⟩ := h c
    exact ⟨h5.trans (final5 m c), h6.trans (final6 m c), h7.trans (final7 m c), h8.trans (final8 m c), h⟩
  · refine (θ_run Cert.Reference32Ideal.defs _ _).mono ?_ (Cert.Reference32Ideal.Value.run m' g')
    intro r h c
    obtain ⟨a0, a1, a2, a3, a4⟩ := hagree c
    obtain ⟨hg, h6, h7, h8, h⟩ := h c
    refine ⟨hg.trans a1, h6.trans ?_, h7.trans ?_, h8.trans ?_, h⟩
    · rw [val_main_v23_eq, a0, a1, a2, a3]
    · exact (val_main_v4_eq _ _).trans (by rw [a1, a2])
    · exact (val_main_v10_eq _ _).trans (by rw [a1, a3])

end Cert.AdamUp

end
-- ==== Proof.AdamDown.lean ====
/-
  The update of the down projection's weight, block by block: each element of the step and of the two moments is a function of the same
  element of the weight, its gradient and the moments.
-/
module

public import proofs.«01_k».proof.Defs
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.AdamReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.AdamDown

open Cert.Kernel33Ideal Cert.Kernel33Ideal.Gen Idealize.ShloMosaic Idealize.ShloMosaic.TcCoe Idealize.SL.Sem
open Idealize.ShloMosaic.Pipeline (Dat)
open Cert.Reference33Ideal.Read

variable (m : (ℓ : Loc nD τ sig) → Buf (Elt Ideal) ℓ)

/-- Every block moves down the rows with the point. -/
theorem idx : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 := by decide +kernel

abbrev G5 (c : Dev nD) : Buf (Elt Ideal) ((c : Thread nD τ).loc main_v0_0) :=
  m ((c : Thread nD τ).loc main_arg1)

theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_0).slice (win0_5.rect t)).emb (ix2 y0 y1)) := by
    blk_ext [iblk, V, e1, f1, e5, f5]
  exact h1

abbrev G6 (c : Dev nD) : Buf (Elt Ideal) ((c : Thread nD τ).loc main_v0_1) :=
  val_main_v23 (F := Ideal) (m ((c : Thread nD τ).loc main_arg0)) (m ((c : Thread nD τ).loc main_arg1)) (m ((c : Thread nD τ).loc main_arg2)) (m ((c : Thread nD τ).loc main_arg3))

theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  idx_vars y
  obtain ⟨e0, f0, e1, f1, e2, f2, e3, f3, e5, f5, e6, f6, e7, f7, e8, f8⟩ := idx t
  have h0 : iblk m c 0 t (ix2 y0 y1) = m ((c : Thread nD τ).loc main_arg0) (((View.whole main_v0_1).slice (win0_6.rect t)).emb (ix2 y0 y1)) := by
    blk_ext [iblk, V, e0, f0, e6, f6]
  have h1 : iblk m c 1 t (ix2 y0 y1) = m ((c : Thread nD τ).loc main_arg1) (((View.whole main_v0_1).slice (win0_6.rect t)).emb (ix2 y0 y1)) := by
    blk_ext [iblk, V, e1, f1, e6, f6]
  have h2 : iblk m c 2 t (ix2 y0 y1) = m ((c : Thread nD τ).loc main_arg2) (((View.whole main_v0_1).slice (win0_6.rect t)).emb (ix2 y0 y1)) := by
    blk_ext [iblk, V, e2, f2, e6, f6]
  have h3 : iblk m c 3 t (ix2 y0 y1) = m ((c : Thread nD τ).loc main_arg3) (((View.whole main_v0_1).slice (win0_6.rect t)).emb (ix2 y0 y1)) := by
    blk_ext [iblk, V, e3, f3, e6, f6]
  pointwise [k0_pay3, k0_pay2, k0_pay1, G6, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [h0, h1, h2, h3, Cert.AdamReal.bias1, Cert.AdamReal.bias2]
  rfl

abbrev G7 (c : Dev nD) : Buf (Elt Ideal) ((c : Thread nD τ).loc main_v0_2) :=
  val_main_v4 (F := Ideal) (m ((c : Thread nD τ).loc main_arg1)) (m ((c : Thread nD τ).loc main_arg2))

theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_2).slice (win0_7.rect t)).emb (ix2 y0 y1)) := by
    blk_ext [iblk, V, e1, f1, e7, f7]
  have h2 : iblk m c 2 t (ix2 y0 y1) = m ((c : Thread nD τ).loc main_arg2) (((View.whole main_v0_2).slice (win0_7.rect t)).emb (ix2 y0 y1)) := by
    blk_ext [iblk, V, e2, f2, e7, f7]
  pointwise [k0_pay1, G7, val_main_v4, val_main_v3, val_main_v2, val_main_v1, val_main_v0, val_main_cst, val_main_cst_0]
  rw [h1, h2]

abbrev G8 (c : Dev nD) : Buf (Elt Ideal) ((c : Thread nD τ).loc main_v0_3) :=
  val_main_v10 (F := Ideal) (m ((c : Thread nD τ).loc main_arg1)) (m ((c : Thread nD τ).loc main_arg3))

theorem final8 (c : Dev nD) : (dats m 0 c).arrAt 8 cfg0.N = G8 m c := by
  refine (dats m 0 c).arrAt_eq_of_covers 8 _ (by decide +kernel) fun t hf y => ?_
  blk_simp
  rw [after0_8]
  unfold out0_8
  frame_out
  idx_vars y
  obtain ⟨e0, f0, e1, f1, e2, f2, e3, f3, e5, f5, e6, f6, e7, f7, e8, f8⟩ := idx t
  have h1 : iblk m c 1 t (ix2 y0 y1) = m ((c : Thread nD τ).loc main_arg1) (((View.whole main_v0_3).slice (win0_8.rect t)).emb (ix2 y0 y1)) := by
    blk_ext [iblk, V, e1, f1, e8, f8]
  have h3 : iblk m c 3 t (ix2 y0 y1) = m ((c : Thread nD τ).loc main_arg3) (((View.whole main_v0_3).slice (win0_8.rect t)).emb (ix2 y0 y1)) := by
    blk_ext [iblk, V, e3, f3, e8, f8]
  pointwise [k0_pay2, G8, val_main_v10, val_main_v9, val_main_v8, val_main_v7, val_main_v6, val_main_v5, val_main_cst_1, val_main_cst_2]
  rw [h1, h3]

theorem quiescent_p : Cert.quiescent_Kernel33 := fun m ρ _ => Cert.Kernel33.Gen.frame m ρ
theorem quiescent_pi : Cert.quiescent_Kernel33Ideal := fun m ρ _ => Cert.Kernel33Ideal.Gen.frame m ρ

theorem quiescent_ri : Cert.quiescent_Reference33Ideal := fun m ρ _ =>
  (θ_run Cert.Reference33Ideal.defs _ _).mono
    (fun r h => ⟨fun c => (h c).2.2.2.2, sem_eq_zero_of_no_sems (by decide) r.2⟩) (Cert.Reference33Ideal.Value.run m ρ)

theorem preserves : Cert.preserves_Kernel33_Kernel33Ideal :=
  ⟨IdealRules.named_const.statement _ _ _ _ _ rfl, IdealRules.named_const.statement _ _ _ _ _ rfl⟩

theorem algebraic : Cert.algebraic_Kernel33Ideal_Reference33Ideal := by
  intro m g m' g' _ hagree
  refine ⟨fun c => G5 m c, fun c => G6 m c, fun c => G7 m c, fun c => G8 m c, ?_, ?_⟩
  · refine (θ_run Cert.Kernel33Ideal.defs _ _).mono ?_ (Cert.Kernel33Ideal.Value.run_blocks m g)
    intro r h c
    obtain ⟨h5, h6, h7, h8, h⟩ := h c
    exact ⟨h5.trans (final5 m c), h6.trans (final6 m c), h7.trans (final7 m c), h8.trans (final8 m c), h⟩
  · refine (θ_run Cert.Reference33Ideal.defs _ _).mono ?_ (Cert.Reference33Ideal.Value.run m' g')
    intro r h c
    obtain ⟨a0, a1, a2, a3, a4⟩ := hagree c
    obtain ⟨hg, h6, h7, h8, h⟩ := h c
    refine ⟨hg.trans a1, h6.trans ?_, h7.trans ?_, h8.trans ?_, h⟩
    · rw [val_main_v23_eq, a0, a1, a2, a3]
    · exact (val_main_v4_eq _ _).trans (by rw [a1, a2])
    · exact (val_main_v10_eq _ _).trans (by rw [a1, a3])

end Cert.AdamDown

end
-- ==== Proof.NormIn.lean ====
/-
The modulated norm at the head of a block, in four blocks of 512 tokens.
-/
module

public import proofs.«01_k».proof.Defs
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormIn

open Cert.Kernel34Ideal Cert.Kernel34Ideal.Gen Idealize.ShloMosaic Idealize.ShloMosaic.TcCoe Idealize.SL.Sem
open Idealize.ShloMosaic.Pipeline (Dat)
open Cert.Reference34Ideal.Read

variable (m : (ℓ : Loc nD τ sig) → Buf (Elt Ideal) ℓ)

/-- The places of the blocks: step `t` takes the tokens `512·t…`. -/
theorem idx : ∀ t : Fin cfg0.N, win0_0.index t 0 = t.val ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 := by decide +kernel

/-- A block's entry is an entry of its array. -/
theorem in0 (c : Dev nD) (t : Fin cfg0.N) (r : Fin 512) (k : Fin 2048) (R : Fin 2048) (h : R.val = t.val * 512 + r.val) :
    iblk m c 0 t (ix2 r k) = m ((c : Thread nD τ).loc main_arg0) (ix2 R k) := by
  obtain ⟨e0, e1, -⟩ := idx t
  blk_ext [iblk, V, e0, e1]

theorem in1 (c : Dev nD) (t : Fin cfg0.N) (k : Fin 2048) :
    iblk m c 1 t (ix2 0 k) = m ((c : Thread nD τ).loc main_arg1) (ix2 0 k) := by
  obtain ⟨-, -, e0, e1, -⟩ := idx t
  blk_ext [iblk, V, e0, e1]

theorem in2 (c : Dev nD) (t : Fin cfg0.N) (k : Fin 2048) :
    iblk m c 2 t (ix2 0 k) = m ((c : Thread nD τ).loc main_arg2) (ix2 0 k) := by
  obtain ⟨-, -, -, -, e0, e1, -⟩ := idx t
  blk_ext [iblk, V, e0, e1]

theorem in3 (c : Dev nD) (t : Fin cfg0.N) (k : Fin 2048) :
    iblk m c 3 t (ix2 0 k) = m ((c : Thread nD τ).loc main_arg3) (ix2 0 k) := by
  obtain ⟨-, -, -, -, -, -, e0, e1, -⟩ := idx t
  blk_ext [iblk, V, e0, e1]

/-- The result of the plain program. -/
abbrev G4 (c : Dev nD) : Buf (Elt Ideal) ((c : Thread nD τ).loc main_v0) :=
  val_main_v18 (F := Ideal) (m ((c : Thread nD τ).loc main_arg0)) (m ((c : Thread nD τ).loc main_arg1)) (m ((c : Thread nD τ).loc main_arg2)) (m ((c : Thread nD τ).loc main_arg3))

set_option maxHeartbeats 1000000 in
theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  idx_vars y
  obtain ⟨-, -, -, -, -, -, -, -, e0, e1⟩ := idx t
  have hR : t.val * 512 + y0.val < 2048 := by
    have h4 : t.val < 4 := lt_of_lt_of_eq t.isLt N_0
    omega
  have ey : ((View.whole main_v0).slice (win0_4.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay1, G4, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [in0 m c t y0 _ R hr, in1 m c t, in2 m c t, in3 m c t]

/-! ## The claims -/

theorem quiescent_p : Cert.quiescent_Kernel34 := fun m ρ _ => Cert.Kernel34.Gen.frame m ρ
theorem quiescent_pi : Cert.quiescent_Kernel34Ideal := fun m ρ _ => Cert.Kernel34Ideal.Gen.frame m ρ

theorem quiescent_ri : Cert.quiescent_Reference34Ideal := fun m ρ _ =>
  (θ_run Cert.Reference34Ideal.defs _ _).mono
    (fun r h => ⟨fun c => (h c).2, sem_eq_zero_of_no_sems (by decide) r.2⟩) (Cert.Reference34Ideal.Value.run m ρ)

theorem algebraic : Cert.algebraic_Kernel34Ideal_Reference34Ideal := by
  intro m g m' g' _ hagree
  refine ⟨fun c => G4 m c, ?_, ?_⟩
  · refine (θ_run Cert.Kernel34Ideal.defs _ _).mono ?_ (Cert.Kernel34Ideal.Value.run_blocks m g)
    intro r h c
    obtain ⟨h4, h⟩ := h c
    exact ⟨h4.trans (final4 m c), h⟩
  · refine (θ_run Cert.Reference34Ideal.defs _ _).mono ?_ (Cert.Reference34Ideal.Value.run m' g')
    intro r h c
    obtain ⟨a0, a1, a2, a3⟩ := hagree c
    obtain ⟨h4, h⟩ := h c
    refine ⟨h4.trans ?_, h⟩
    · exact (val_main_v18_eq _ _ _ _).trans (by rw [a0, a1, a2, a3])

end Cert.NormIn

end
-- ==== Proof.NormMid.lean ====
/-
The gated norm added to the stream and the modulated norm of the sum, in four blocks of 512 tokens.
-/
module

public import proofs.«01_k».proof.Defs
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.NormMid

open Cert.Kernel35Ideal Cert.Kernel35Ideal.Gen Idealize.ShloMosaic Idealize.ShloMosaic.TcCoe Idealize.SL.Sem
open Idealize.ShloMosaic.Pipeline (Dat)
open Cert.Reference35Ideal.Read

variable (m : (ℓ : Loc nD τ sig) → Buf (Elt Ideal) ℓ)

/-- The places of the blocks: step `t` takes the tokens `512·t…`. -/
theorem idx : ∀ t : Fin cfg0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = t.val ∧ win0_7.index t 1 = 0 ∧ win0_8.index t 0 = t.val ∧ win0_8.index t 1 = 0 := by decide +kernel

/-- A block's entry is an entry of its array. -/
theorem in0 (c : Dev nD) (t : Fin cfg0.N) (r : Fin 512) (k : Fin 2048) (R : Fin 2048) (h : R.val = t.val * 512 + r.val) :
    iblk m c 0 t (ix2 r k) = m ((c : Thread nD τ).loc main_arg0) (ix2 R k) := by
  obtain ⟨e0, e1, -⟩ := idx t
  blk_ext [iblk, V, e0, e1]

theorem in1 (c : Dev nD) (t : Fin cfg0.N) (r : Fin 512) (k : Fin 2048) (R : Fin 2048) (h : R.val = t.val * 512 + r.val) :
    iblk m c 1 t (ix2 r k) = m ((c : Thread nD τ).loc main_arg1) (ix2 R k) := by
  obtain ⟨-, -, e0, e1, -⟩ := idx t
  blk_ext [iblk, V, e0, e1]

theorem in2 (c : Dev nD) (t : Fin cfg0.N) (k : Fin 2048) :
    iblk m c 2 t (ix2 0 k) = m ((c : Thread nD τ).loc main_arg2) (ix2 0 k) := by
  obtain ⟨-, -, -, -, e0, e1, -⟩ := idx t
  blk_ext [iblk, V, e0, e1]

theorem in3 (c : Dev nD) (t : Fin cfg0.N) (k : Fin 2048) :
    iblk m c 3 t (ix2 0 k) = m ((c : Thread nD τ).loc main_arg3) (ix2 0 k) := by
  obtain ⟨-, -, -, -, -, -, e0, e1, -⟩ := idx t
  blk_ext [iblk, V, e0, e1]

theorem in4 (c : Dev nD) (t : Fin cfg0.N) (k : Fin 2048) :
    iblk m c 4 t (ix2 0 k) = m ((c : Thread nD τ).loc main_arg4) (ix2 0 k) := by
  obtain ⟨-, -, -, -, -, -, -, -, e0, e1, -⟩ := idx t
  blk_ext [iblk, V, e0, e1]

theorem in5 (c : Dev nD) (t : Fin cfg0.N) (k : Fin 2048) :
    iblk m c 5 t (ix2 0 k) = m ((c : Thread nD τ).loc main_arg5) (ix2 0 k) := by
  obtain ⟨-, -, -, -, -, -, -, -, -, -, e0, e1, -⟩ := idx t
  blk_ext [iblk, V, e0, e1]

theorem in6 (c : Dev nD) (t : Fin cfg0.N) (k : Fin 2048) :
    iblk m c 6 t (ix2 0 k) = m ((c : Thread nD τ).loc main_arg6) (ix2 0 k) := by
  obtain ⟨-, -, -, -, -, -, -, -, -, -, -, -, e0, e1, -⟩ := idx t
  blk_ext [iblk, V, e0, e1]

/-- The result of the plain program. -/
abbrev G7 (c : Dev nD) : Buf (Elt Ideal) ((c : Thread nD τ).loc main_v0_0) :=
  val_main_v14 (F := Ideal) (m ((c : Thread nD τ).loc main_arg0)) (m ((c : Thread nD τ).loc main_arg1)) (m ((c : Thread nD τ).loc main_arg2)) (m ((c : Thread nD τ).loc main_arg3))

set_option maxHeartbeats 1000000 in
theorem final7 (c : Dev nD) : (dats m 0 c).arrAt 7 cfg0.N = G7 m c := by
  refine (dats m 0 c).arrAt_eq_of_covers 7 _ (by decide +kernel) fun t hf y => ?_
  blk_simp
  rw [after0_7]
  unfold out0_7
  frame_out
  idx_vars y
  obtain ⟨-, -, -, -, -, -, -, -, -, -, -, -, -, -, e0, e1, -⟩ := idx t
  have hR : t.val * 512 + y0.val < 2048 := by
    have h4 : t.val < 4 := lt_of_lt_of_eq t.isLt N_0
    omega
  have ey : ((View.whole main_v0_0).slice (win0_7.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay2, G7, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [in0 m c t y0 _ R hr, in1 m c t y0 _ R hr, in2 m c t, in3 m c t]

/-- The result of the plain program. -/
abbrev G8 (c : Dev nD) : Buf (Elt Ideal) ((c : Thread nD τ).loc main_v0_1) :=
  val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

set_option maxHeartbeats 1000000 in
theorem final8 (c : Dev nD) : (dats m 0 c).arrAt 8 cfg0.N = G8 m c := by
  refine (dats m 0 c).arrAt_eq_of_covers 8 _ (by decide +kernel) fun t hf y => ?_
  blk_simp
  rw [after0_8]
  unfold out0_8
  frame_out
  idx_vars y
  obtain ⟨-, -, -, -, -, -, -, -, -, -, -, -, -, -, -, -, e0, e1⟩ := idx t
  have hR : t.val * 512 + y0.val < 2048 := by
    have h4 : t.val < 4 := lt_of_lt_of_eq t.isLt N_0
    omega
  have ey : ((View.whole main_v0_1).slice (win0_8.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay1, k0_pay3, k0_pay2, k0_pay4, G8, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]
  simp only [in0 m c t y0 _ R hr, in1 m c t y0 _ R hr, in2 m c t, in3 m c t, in4 m c t, in5 m c t, in6 m c t]

/-! ## The claims -/

theorem quiescent_p : Cert.quiescent_Kernel35 := fun m ρ _ => Cert.Kernel35.Gen.frame m ρ
theorem quiescent_pi : Cert.quiescent_Kernel35Ideal := fun m ρ _ => Cert.Kernel35Ideal.Gen.frame m ρ

theorem quiescent_ri : Cert.quiescent_Reference35Ideal := fun m ρ _ =>
  (θ_run Cert.Reference35Ideal.defs _ _).mono
    (fun r h => ⟨fun c => (h c).2.2, sem_eq_zero_of_no_sems (by decide) r.2⟩) (Cert.Reference35Ideal.Value.run m ρ)

theorem algebraic : Cert.algebraic_Kernel35Ideal_Reference35Ideal := by
  intro m g m' g' _ hagree
  refine ⟨fun c => G7 m c, fun c => G8 m c, ?_, ?_⟩
  · refine (θ_run Cert.Kernel35Ideal.defs _ _).mono ?_ (Cert.Kernel35Ideal.Value.run_blocks m g)
    intro r h c
    obtain ⟨h7, h8, h⟩ := h c
    exact ⟨h7.trans (final7 m c), h8.trans (final8 m c), h⟩
  · refine (θ_run Cert.Reference35Ideal.defs _ _).mono ?_ (Cert.Reference35Ideal.Value.run m' g')
    intro r h c
    obtain ⟨a0, a1, a2, a3, a4, a5, a6⟩ := hagree c
    obtain ⟨h7, h8, h⟩ := h c
    refine ⟨h7.trans ?_, h8.trans ?_, h⟩
    · exact (val_main_v14_eq _ _ _ _).trans (by rw [a0, a1, a2, a3])
    · exact (val_main_v33_eq _ _ _ _ _ _ _).trans (by rw [a0, a1, a2, a3, a4, a5, a6])

end Cert.NormMid

end
-- ==== Proof.GateReal.lean ====
/-
  The sigmoid by the hyperbolic tangent, on the extended reals.
-/
module

public import Idealize.ShloMosaic.PureOps.Ideal
public import Mathlib.Analysis.SpecialFunctions.Trigonometric.DerivHyp

@[expose] public section

noncomputable section

namespace Cert.GateReal

open Idealize.ShloMosaic

theorem half_eq : Ideal.ofBits FTy.f32 0x3F000000#32 = ((1 / 2 : ℝ) : EReal) := by
  simp [Ideal.ofBits, Ideal.ieee]
  rw [← EReal.coe_mul]
  norm_num

theorem real (r : ℝ) : 1 / 2 * Real.tanh (1 / 2 * r) + 1 / 2 = 1 / (1 + Real.exp (-r)) := by
  rw [Real.tanh_eq_sinh_div_cosh, Real.sinh_eq, Real.cosh_eq]
  have h : Real.exp (-r) = Real.exp (-(1 / 2 * r)) * Real.exp (-(1 / 2 * r)) := by
    rw [← Real.exp_add]
    ring_nf
  have h1 : Real.exp (1 / 2 * r) * Real.exp (-(1 / 2 * r)) = 1 := by
    rw [← Real.exp_add, add_neg_cancel, Real.exp_zero]
  rw [h]
  have ha := Real.exp_pos (1 / 2 * r)
  have hb := Real.exp_pos (-(1 / 2 * r))
  generalize Real.exp (1 / 2 * r) = a at *
  generalize Real.exp (-(1 / 2 * r)) = b at *
  have e : a = 1 / b := by field_simp; linarith
  subst e
  field_simp
  ring

/-- One half of the tangent of one half of the argument, and one half more, is the sigmoid. -/
theorem sigmoid (x : EReal) : Ideal.ofBits FTy.f32 0x3F000000#32 * Ideal.tanh (Ideal.ofBits FTy.f32 0x3F000000#32 * x) + Ideal.ofBits FTy.f32 0x3F000000#32
    = Ideal.div 1 (1 + Ideal.exp (-x)) := by
  rw [half_eq]
  induction x using EReal.rec with
  | bot =>
    rw [EReal.coe_mul_bot_of_pos (by norm_num), Ideal.tanh_bot, EReal.neg_bot, Ideal.exp_top, EReal.add_top_of_ne_bot (by decide)]
    simp [Ideal.div]
    rw [← EReal.coe_neg, ← EReal.coe_add]
    norm_num
  | top =>
    rw [EReal.coe_mul_top_of_pos (by norm_num), Ideal.tanh_top, EReal.neg_top, Ideal.exp_bot, add_zero, mul_one]
    rw [← EReal.coe_add, ← EReal.coe_one, Ideal.div_coe (by norm_num)]
    norm_num
  | coe r =>
    rw [← EReal.coe_mul, Ideal.tanh_coe, ← EReal.coe_neg, Ideal.exp_coe, ← EReal.coe_one, ← EReal.coe_add, ← EReal.coe_mul,
      ← EReal.coe_add, Ideal.div_coe (by positivity), ← EReal.coe_mul, one_mul, real]

end Cert.GateReal

end
-- ==== Proof.Merge.lean ====
/-
The two branches' outputs, each times the sigmoid of its gate, added up: four blocks of 512 tokens.
-/
module

public import proofs.«01_k».proof.Defs
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.GateReal
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.Merge

open Cert.Kernel37Ideal Cert.Kernel37Ideal.Gen Idealize.ShloMosaic Idealize.ShloMosaic.TcCoe Idealize.SL.Sem
open Idealize.ShloMosaic.Pipeline (Dat)
open Cert.Reference37Ideal.Read

variable (m : (ℓ : Loc nD τ sig) → Buf (Elt Ideal) ℓ)

/-- The places of the blocks: step `t` takes the tokens `512·t…`. -/
theorem idx : ∀ t : Fin cfg0.N, win0_0.index t 0 = t.val ∧ win0_0.index t 1 = 1 ∧ win0_1.index t 0 = t.val ∧ win0_1.index t 1 = 0 ∧ win0_2.index t 0 = t.val ∧ win0_2.index t 1 = 0 ∧ win0_3.index t 0 = t.val ∧ win0_3.index t 1 = 0 := by decide +kernel

/-- A block's entry is an entry of its array. -/
theorem in0 (c : Dev nD) (t : Fin cfg0.N) (r : Fin 512) (k : Fin 4096) (R : Fin 2048) (K : Fin 8192) (h : R.val = t.val * 512 + r.val) (hK : K.val = 4096 + k.val) :
    iblk m c 0 t (ix2 r k) = m ((c : Thread nD τ).loc main_arg0) (ix2 R K) := by
  obtain ⟨e0, e1, -⟩ := idx t
  blk_ext [iblk, V, e0, e1]

theorem in1 (c : Dev nD) (t : Fin cfg0.N) (r : Fin 512) (k : Fin 2048) (R : Fin 2048) (h : R.val = t.val * 512 + r.val) :
    iblk m c 1 t (ix2 r k) = m ((c : Thread nD τ).loc main_arg1) (ix2 R k) := by
  obtain ⟨-, -, e0, e1, -⟩ := idx t
  blk_ext [iblk, V, e0, e1]

theorem in2 (c : Dev nD) (t : Fin cfg0.N) (r : Fin 512) (k : Fin 2048) (R : Fin 2048) (h : R.val = t.val * 512 + r.val) :
    iblk m c 2 t (ix2 r k) = m ((c : Thread nD τ).loc main_arg2) (ix2 R k) := by
  obtain ⟨-, -, -, -, e0, e1, -⟩ := idx t
  blk_ext [iblk, V, e0, e1]

/-- The result of the plain program. -/
abbrev G3 (c : Dev nD) : Buf (Elt Ideal) ((c : Thread nD τ).loc main_v0) :=
  val_main_v21 (F := Ideal) (m ((c : Thread nD τ).loc main_arg0)) (m ((c : Thread nD τ).loc main_arg1)) (m ((c : Thread nD τ).loc main_arg2))

set_option maxHeartbeats 1000000 in
theorem final3 (c : Dev nD) : (dats m 0 c).arrAt 3 cfg0.N = G3 m c := by
  refine (dats m 0 c).arrAt_eq_of_covers 3 _ (by decide +kernel) fun t hf y => ?_
  blk_simp
  rw [after0_3]
  unfold out0_3
  frame_out
  rw [View.ld_unit, View.ld_unit]
  idx_vars y
  obtain ⟨-, -, -, -, -, -, e0, e1⟩ := idx t
  have hR : t.val * 512 + y0.val < 2048 := by
    have h4 : t.val < 4 := lt_of_lt_of_eq t.isLt N_0
    omega
  have ey : ((View.whole main_v0).slice (win0_3.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay1, G3, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [in1 m c t y0 _ R hr, in2 m c t y0 _ R hr, Cert.GateReal.sigmoid]
  rw [in0 m c t y0 ⟨y1.val, by omega⟩ R ⟨4096 + y1.val, by omega⟩ hr rfl, in0 m c t y0 ⟨2048 + y1.val, by omega⟩ R ⟨6144 + y1.val, by omega⟩ hr (by show 6144 + y1.val = 4096 + (2048 + y1.val); omega)]

/-! ## The claims -/

theorem quiescent_p : Cert.quiescent_Kernel37 := fun m ρ _ => Cert.Kernel37.Gen.frame m ρ
theorem quiescent_pi : Cert.quiescent_Kernel37Ideal := fun m ρ _ => Cert.Kernel37Ideal.Gen.frame m ρ

theorem quiescent_ri : Cert.quiescent_Reference37Ideal := fun m ρ _ =>
  (θ_run Cert.Reference37Ideal.defs _ _).mono
    (fun r h => ⟨fun c => (h c).2, sem_eq_zero_of_no_sems (by decide) r.2⟩) (Cert.Reference37Ideal.Value.run m ρ)

theorem algebraic : Cert.algebraic_Kernel37Ideal_Reference37Ideal := by
  intro m g m' g' _ hagree
  refine ⟨fun c => G3 m c, ?_, ?_⟩
  · refine (θ_run Cert.Kernel37Ideal.defs _ _).mono ?_ (Cert.Kernel37Ideal.Value.run_blocks m g)
    intro r h c
    obtain ⟨h3, h⟩ := h c
    exact ⟨h3.trans (final3 m c), h⟩
  · refine (θ_run Cert.Reference37Ideal.defs _ _).mono ?_ (Cert.Reference37Ideal.Value.run m' g')
    intro r h c
    obtain ⟨a0, a1, a2⟩ := hagree c
    obtain ⟨h3, h⟩ := h c
    refine ⟨h3.trans ?_, h⟩
    · exact (val_main_v21_eq _ _ _).trans (by rw [a0, a1, a2])

end Cert.Merge

end
-- ==== Proof.Latents.lean ====
/-
The norms of the two latents and the rotated key, in four blocks of 512 tokens.
-/
module

public import proofs.«01_k».proof.Defs
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Reference38Ideal.Read
public import Idealize.ShloMosaic.Lib.Claim
public import Idealize.ShloMosaic.Lib.Quiescent
public import Idealize.ShloMosaic.Lib.Pointwise
public import Idealize.ShloMosaic.Lib.Pipeline.ValueKit

@[expose] public section

set_option maxRecDepth 16384

noncomputable section

namespace Cert.Latents

open Cert.Kernel38Ideal Cert.Kernel38Ideal.Gen Idealize.ShloMosaic Idealize.ShloMosaic.TcCoe Idealize.SL.Sem
open Idealize.ShloMosaic.Pipeline (Dat)
open Cert.Reference38Ideal.Read

variable (m : (ℓ : Loc nD τ sig) → Buf (Elt Ideal) ℓ)

/-- The places of the blocks: step `t` takes the tokens `512·t…`. -/
theorem idx : ∀ t : Fin cfg0.N, win0_0.index t 0 = t.val ∧ win0_0.index t 1 = 0 ∧ win0_1.index t 0 = 0 ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 := by decide +kernel

/-- A block's entry is an entry of its array. -/
theorem in0 (c : Dev nD) (t : Fin cfg0.N) (r : Fin 512) (k : Fin 896) (R : Fin 2048) (h : R.val = t.val * 512 + r.val) :
    iblk m c 0 t (ix2 r k) = m ((c : Thread nD τ).loc main_arg0) (ix2 R k) := by
  obtain ⟨e0, e1, -⟩ := idx t
  blk_ext [iblk, V, e0, e1]

theorem in1 (c : Dev nD) (t : Fin cfg0.N) (k : Fin 512) :
    iblk m c 1 t (ix2 0 k) = m ((c : Thread nD τ).loc main_arg1) (ix2 0 k) := by
  obtain ⟨-, -, e0, e1, -⟩ := idx t
  blk_ext [iblk, V, e0, e1]

theorem in2 (c : Dev nD) (t : Fin cfg0.N) (k : Fin 256) :
    iblk m c 2 t (ix2 0 k) = m ((c : Thread nD τ).loc main_arg2) (ix2 0 k) := by
  obtain ⟨-, -, -, -, e0, e1, -⟩ := idx t
  blk_ext [iblk, V, e0, e1]

theorem in3 (c : Dev nD) (t : Fin cfg0.N) (r : Fin 512) (k : Fin 128) (R : Fin 2048) (h : R.val = t.val * 512 + r.val) :
    iblk m c 3 t (ix2 r k) = m ((c : Thread nD τ).loc main_arg3) (ix2 R k) := by
  obtain ⟨-, -, -, -, -, -, e0, e1, -⟩ := idx t
  blk_ext [iblk, V, e0, e1]

/-- The result of the plain program. -/
abbrev G4 (c : Dev nD) : Buf (Elt Ideal) ((c : Thread nD τ).loc main_v0_0) :=
  val_main_v20 (F := Ideal) (m ((c : Thread nD τ).loc main_arg0)) (m ((c : Thread nD τ).loc main_arg1))

set_option maxHeartbeats 1000000 in
theorem final4 (c : Dev nD) : (dats m 0 c).arrAt 4 cfg0.N = G4 m c := by
  refine (dats m 0 c).arrAt_eq_of_covers 4 _ (by decide +kernel) fun t hf y => ?_
  blk_simp
  rw [after0_4]
  unfold out0_4
  frame_out
  rw [View.ld_unit]
  idx_vars y
  obtain ⟨-, -, -, -, -, -, -, -, e0, e1, -⟩ := idx t
  have hR : t.val * 512 + y0.val < 2048 := by
    have h4 : t.val < 4 := lt_of_lt_of_eq t.isLt N_0
    omega
  have ey : ((View.whole main_v0_0).slice (win0_4.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay2, G4, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [in0 m c t y0 _ R hr, in1 m c t]

/-- The result of the plain program. -/
abbrev G5 (c : Dev nD) : Buf (Elt Ideal) ((c : Thread nD τ).loc main_v0_1) :=
  val_main_v34 (F := Ideal) (m ((c : Thread nD τ).loc main_arg0)) (m ((c : Thread nD τ).loc main_arg2))

set_option maxHeartbeats 1000000 in
theorem final5 (c : Dev nD) : (dats m 0 c).arrAt 5 cfg0.N = G5 m c := by
  refine (dats m 0 c).arrAt_eq_of_covers 5 _ (by decide +kernel) fun t hf y => ?_
  blk_simp
  rw [after0_5]
  unfold out0_5
  frame_out
  rw [View.ld_unit]
  idx_vars y
  obtain ⟨-, -, -, -, -, -, -, -, -, -, e0, e1, -⟩ := idx t
  have hR : t.val * 512 + y0.val < 2048 := by
    have h4 : t.val < 4 := lt_of_lt_of_eq t.isLt N_0
    omega
  have ey : ((View.whole main_v0_1).slice (win0_5.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay3, G5, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  simp only [in0 m c t y0 _ R hr, in2 m c t]

/-- The result of the plain program. -/
abbrev G6 (c : Dev nD) : Buf (Elt Ideal) ((c : Thread nD τ).loc main_v0_2) :=
  val_main_v36 (F := Ideal) (m ((c : Thread nD τ).loc main_arg0)) (m ((c : Thread nD τ).loc main_arg3))

set_option maxHeartbeats 1000000 in
theorem final6 (c : Dev nD) : (dats m 0 c).arrAt 6 cfg0.N = G6 m c := by
  refine (dats m 0 c).arrAt_eq_of_covers 6 _ (by decide +kernel) fun t hf y => ?_
  blk_simp
  rw [after0_6]
  unfold out0_6
  frame_out
  rw [View.ld_unit]
  idx_vars y
  obtain ⟨-, -, -, -, -, -, -, -, -, -, -, -, e0, e1⟩ := idx t
  have hR : t.val * 512 + y0.val < 2048 := by
    have h4 : t.val < 4 := lt_of_lt_of_eq t.isLt N_0
    omega
  have ey : ((View.whole main_v0_2).slice (win0_6.rect t)).emb (ix2 y0 y1) = ix2 (⟨t.val * 512 + y0.val, hR⟩ : Fin 2048) y1 := by
    blk_ext [e0, e1]
  rw [ey]
  generalize hRR : (⟨t.val * 512 + y0.val, hR⟩ : Fin 2048) = R
  have hr : R.val = t.val * 512 + y0.val := by rw [← hRR]
  pointwise [k0_pay1, k0_pay4, G6, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [in0 m c t y0 _ R hr, in3 m c t y0 _ R hr]
  by_cases h : y1.val < 64
  · rw [dif_pos h]
    have e : (y1.val + 128 - 64) % 128 = 64 + y1.val := by omega
    have e' : 768 + (64 + y1.val) = 832 + y1.val := by omega
    simp only [e, e']
  · rw [dif_neg h]
    have e : (y1.val + 128 - 64) % 128 = y1.val - 64 := by omega
    have e' : 832 + (y1.val - 64) = 768 + y1.val := by omega
    have e'' : 64 + (y1.val - 64) = y1.val := by omega
    simp only [e, e', e'', Fin.eta]
    exact add_comm (G := EReal) _ _

/-! ## The claims -/

theorem quiescent_p : Cert.quiescent_Kernel38 := fun m ρ _ => Cert.Kernel38.Gen.frame m ρ
theorem quiescent_pi : Cert.quiescent_Kernel38Ideal := fun m ρ _ => Cert.Kernel38Ideal.Gen.frame m ρ

theorem quiescent_ri : Cert.quiescent_Reference38Ideal := fun m ρ _ =>
  (θ_run Cert.Reference38Ideal.defs _ _).mono
    (fun r h => ⟨fun c => (h c).2.2.2, sem_eq_zero_of_no_sems (by decide) r.2⟩) (Cert.Reference38Ideal.Value.run m ρ)

theorem algebraic : Cert.algebraic_Kernel38Ideal_Reference38Ideal := by
  intro m g m' g' _ hagree
  refine ⟨fun c => G4 m c, fun c => G5 m c, fun c => G6 m c, ?_, ?_⟩
  · refine (θ_run Cert.Kernel38Ideal.defs _ _).mono ?_ (Cert.Kernel38Ideal.Value.run_blocks m g)
    intro r h c
    obtain ⟨h4, h5, h6, h⟩ := h c
    exact ⟨h4.trans (final4 m c), h5.trans (final5 m c), h6.trans (final6 m c), h⟩
  · refine (θ_run Cert.Reference38Ideal.defs _ _).mono ?_ (Cert.Reference38Ideal.Value.run m' g')
    intro r h c
    obtain ⟨a0, a1, a2, a3⟩ := hagree c
    obtain ⟨h4, h5, h6, h⟩ := h c
    refine ⟨h4.trans ?_, h5.trans ?_, h6.trans ?_, h⟩
    · exact (val_main_v20_eq _ _).trans (by rw [a0, a1])
    · exact (val_main_v34_eq _ _).trans (by rw [a0, a2])
    · exact (val_main_v36_eq _ _).trans (by rw [a0, a3])

end Cert.Latents

end
-- ==== Proof.AttnSpec.lean ====
/- The attention gradient written entry by entry over natural coordinates, as the kernel computes it. -/
module

public import Idealize.ShloMosaic.PureOps.Ideal
public import Idealize.ShloMosaic.Lib.Pointwise

@[expose] public section

noncomputable section

namespace Cert.AttnSpec

open Idealize.ShloMosaic

/-- The arrays of one device by natural coordinates: queries, keys and values side by side, rotary keys, output,
    cotangent, logarithms of the normalisers, rotary table. -/
structure Data where
  Q : ℕ → ℕ → EReal
  KV : ℕ → ℕ → EReal
  KR : ℕ → ℕ → EReal
  O : ℕ → ℕ → EReal
  DO : ℕ → ℕ → EReal
  LS : ℕ → ℕ → EReal
  T : ℕ → ℕ → EReal

variable (g : Data)

/-- The key of head `H` at position `C`: its own half and the shared rotary half. -/
def KF (H C k : ℕ) : EReal := if k < 128 then g.KV C (128 * H + k) else g.KR C (k - 128)

/-- The score of query `R` against key `C`. -/
def SC (H R C : ℕ) : EReal :=
  ∑ k : Fin 128, g.Q R (256 * H + k.val) * g.KV C (128 * H + k.val) + ∑ k : Fin 128, g.Q R (256 * H + (128 + k.val)) * g.KR C k.val

/-- The weight of key `C` for query `R`. -/
def PR (H R C : ℕ) : EReal := Ideal.exp ((if C ≤ R then SC g H R C else ⊥) - g.LS H R)

/-- The cotangent of the weight, before it is centred. -/
def DP (H R C : ℕ) : EReal := ∑ k : Fin 128, g.DO R (128 * H + k.val) * g.KV C (2048 + (128 * H + k.val))

/-- The centre of a row. -/
def DL (H R : ℕ) : EReal := ∑ k : Fin 128, g.DO R (128 * H + k.val) * g.O R (128 * H + k.val)

/-- The cotangent of the score. -/
def DS (H R C : ℕ) : EReal := PR g H R C * (DP g H R C - DL g H R)

/-- What key `C` adds to the query gradient at row `R`, coordinate `k`. -/
def dqT (H R k C : ℕ) : EReal := DS g H R C * KF g H C k
/-- What query `R` adds to the key gradient at row `C`, coordinate `k`. -/
def dkT (H C k R : ℕ) : EReal := DS g H R C * g.Q R (256 * H + k)
/-- What query `R` adds to the value gradient at row `C`, coordinate `k`. -/
def dvT (H C k R : ℕ) : EReal := PR g H R C * g.DO R (128 * H + k)

theorem dqT_congr {H H' a a' k k' b b' : ℕ} (h1 : H = H') (h2 : a = a') (h3 : k = k') (h4 : b = b') : dqT g H a k b = dqT g H' a' k' b' := by
  subst h1 h2 h3 h4; rfl
theorem dkT_congr {H H' a a' k k' b b' : ℕ} (h1 : H = H') (h2 : a = a') (h3 : k = k') (h4 : b = b') : dkT g H a k b = dkT g H' a' k' b' := by
  subst h1 h2 h3 h4; rfl
theorem dvT_congr {H H' a a' k k' b b' : ℕ} (h1 : H = H') (h2 : a = a') (h3 : k = k') (h4 : b = b') : dvT g H a k b = dvT g H' a' k' b' := by
  subst h1 h2 h3 h4; rfl

theorem PR_masked {H R C : ℕ} (h : R < C) : PR g H R C = 0 := by
  unfold PR
  rw [if_neg (by omega), EReal.bot_sub]
  exact Ideal.exp_bot
theorem DS_masked {H R C : ℕ} (h : R < C) : DS g H R C = 0 := by
  unfold DS; rw [PR_masked g h, zero_mul]
theorem dqT_masked {H R C : ℕ} (k : ℕ) (h : R < C) : dqT g H R k C = 0 := by
  unfold dqT; rw [DS_masked g h, zero_mul]
theorem dkT_masked {H R C : ℕ} (k : ℕ) (h : R < C) : dkT g H C k R = 0 := by
  unfold dkT; rw [DS_masked g h, zero_mul]
theorem dvT_masked {H R C : ℕ} (k : ℕ) (h : R < C) : dvT g H C k R = 0 := by
  unfold dvT; rw [PR_masked g h, zero_mul]

theorem sum512 (f : ℕ → EReal) :
    ∑ x ∈ Finset.range 512, f x = ∑ x ∈ Finset.range 256, f (256 + x) + ∑ x ∈ Finset.range 256, f x := by
  rw [show (512 : ℕ) = 256 + 256 from rfl, Finset.sum_range_add (M := EReal)]
  exact add_comm _ _

theorem sum512_hi (f : ℕ → EReal) (h : ∀ x, x < 256 → f x = 0) :
    ∑ x ∈ Finset.range 512, f x = ∑ x ∈ Finset.range 256, f (256 + x) := by
  rw [sum512, Finset.sum_eq_zero (M := EReal) (s := Finset.range 256) (f := f) fun x hx => h x (Finset.mem_range.mp hx), add_zero]

theorem sum512_lo (f : ℕ → EReal) (h : ∀ x, x < 256 → f (256 + x) = 0) :
    ∑ x ∈ Finset.range 512, f x = ∑ x ∈ Finset.range 256, f x := by
  rw [sum512, Finset.sum_eq_zero (M := EReal) (s := Finset.range 256) (f := fun x => f (256 + x)) fun x hx => h x (Finset.mem_range.mp hx), zero_add]

/-- An array by natural coordinates. -/
def at2 {n m : ℕ} [NeZero n] [NeZero m] (A : (⟨2, ![n, m]⟩ : Shape).Idx → EReal) (R C : ℕ) : EReal :=
  A (ix2 (Fin.ofNat n R) (Fin.ofNat m C))

theorem at2_eq {n m : ℕ} [NeZero n] [NeZero m] (A : (⟨2, ![n, m]⟩ : Shape).Idx → EReal) (R : Fin n) (C : Fin m) (R' C' : ℕ)
    (hR : R' = R.val) (hC : C' = C.val) : at2 A R' C' = A (ix2 R C) := by
  subst hR hC
  unfold at2
  congr 2 <;> exact Fin.ext (Nat.mod_eq_of_lt (Fin.isLt _))

/-- The first column of a stack of planes, by natural coordinates. -/
def at3 {n m k : ℕ} [NeZero n] [NeZero m] [NeZero k] (A : (⟨3, ![n, m, k]⟩ : Shape).Idx → EReal) (H R : ℕ) : EReal :=
  A (ix3 (Fin.ofNat n H) (Fin.ofNat m R) (Fin.ofNat k 0))

theorem at3_eq {n m k : ℕ} [NeZero n] [NeZero m] [NeZero k] (A : (⟨3, ![n, m, k]⟩ : Shape).Idx → EReal) (H : Fin n) (R : Fin m)
    (z : Fin k) (H' R' : ℕ) (hH : H' = H.val) (hR : R' = R.val) (hz : z.val = 0) : at3 A H' R' = A (ix3 H R z) := by
  subst hH hR
  unfold at3
  congr 1
  congr 1
  · exact Fin.ext (Nat.mod_eq_of_lt (Fin.isLt _))
  · exact Fin.ext (Nat.mod_eq_of_lt (Fin.isLt _))
  · exact Fin.ext (by rw [hz]; exact Nat.zero_mod k)

end Cert.AttnSpec

end
-- ==== Proof.AttnIPay.lean ====
/- The values the attention gradient's body computes from a piece of 256 queries and the keys it meets, at the ideal
   instance, entry by entry. -/
module

public import proofs.«01_k».proof.Proof.AttnSpec
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Attn

open Cert.KernelIdeal.Gen Cert.AttnSpec
open Idealize.ShloMosaic Idealize.ShloMosaic.TcCoe Idealize.ShloMosaic.Tactic

theorem mask_eq : Named.named (F := Ideal) κ "mask" (φ := .f32) 4048155338#32 = ⊥ :=
  IdealRules.named_const.ideal_named_scalar _ _ _ _ rfl

/-- The loaded pieces are the rows from `Rb` and the keys from `Cb` of head `H`. -/
structure Ck (g : Data) (H Rb Cb n : ℕ) (q : Vec Ideal S256x256 .bf16) (kn kr : Vec Ideal ⟨2, ![n, 128]⟩ .bf16)
    (l : Vec Ideal S1x256x1 .f32) (v : Vec Ideal ⟨2, ![n, 128]⟩ .bf16) (o d : Vec Ideal S256x128 .bf16) : Prop where
  hq : ∀ (r : Fin 256) (k : Fin 256), q (ix2 r k) = g.Q (Rb + r.val) (256 * H + k.val)
  hkn : ∀ (c : Fin n) (k : Fin 128), kn (ix2 c k) = g.KV (Cb + c.val) (128 * H + k.val)
  hkr : ∀ (c : Fin n) (k : Fin 128), kr (ix2 c k) = g.KR (Cb + c.val) k.val
  hl : ∀ r : Fin 256, l (ix3 (0 : Fin 1) r (0 : Fin 1)) = g.LS H (Rb + r.val)
  hv : ∀ (c : Fin n) (k : Fin 128), v (ix2 c k) = g.KV (Cb + c.val) (2048 + (128 * H + k.val))
  ho : ∀ (r : Fin 256) (k : Fin 128), o (ix2 r k) = g.O (Rb + r.val) (128 * H + k.val)
  hd : ∀ (r : Fin 256) (k : Fin 128), d (ix2 r k) = g.DO (Rb + r.val) (128 * H + k.val)

variable {g : Data} {H Rb Cb : ℕ} {q : Vec Ideal S256x256 .bf16} {l : Vec Ideal S1x256x1 .f32} {o d : Vec Ideal S256x128 .bf16}

section Below
variable {kn kr v : Vec Ideal S512x128 .bf16} (ck : Ck g H Rb Cb 512 q kn kr l v o d)
include ck

theorem pay39_apply (hm : Cb + 512 ≤ Rb) (r : Fin 256) (c : Fin 512) :
    k0_pay39 (F := Ideal) q kn kr l (ix2 r c) = PR g H (Rb + r.val) (Cb + c.val) := by
  pointwise [k0_pay39, k0_pay37, k0_pay38]
  simp only [ck.hq, ck.hkn, ck.hkr, ck.hl]
  unfold PR SC
  rw [if_pos (by omega)]

theorem pay40_apply (hm : Cb + 512 ≤ Rb) (r : Fin 256) (c : Fin 512) :
    k0_pay40 (F := Ideal) q d kn kr l v o (ix2 r c) = DS g H (Rb + r.val) (Cb + c.val) := by
  pointwise [k0_pay40]
  rw [pay39_apply ck hm r c]
  simp only [ck.hd, ck.ho, ck.hv]
  rfl

theorem pay38_apply (c : Fin 512) (k : Fin 256) :
    k0_pay38 (F := Ideal) kn kr (ix2 c k) = KF g H (Cb + c.val) k.val := by
  pointwise [k0_pay38]
  unfold KF
  simp only [ck.hkn, ck.hkr]
  rfl

theorem pay41_apply (hm : Cb + 512 ≤ Rb) (old : Vec Ideal S256x256 .f32) (r k : Fin 256) :
    k0_pay41 (F := Ideal) q d kn kr l v o old (ix2 r k)
      = old (ix2 r k) + ∑ c ∈ Finset.range 512, dqT g H (Rb + r.val) k.val (Cb + c) := by
  rw [Finset.sum_range (M := EReal)]
  pointwise [k0_pay41]
  refine congrArg (old (ix2 r k) + ·) (Finset.sum_congr (M := EReal) rfl fun c _ => ?_)
  rw [pay40_apply ck hm r c, pay38_apply ck c k]
  rfl

theorem pay42_apply (hm : Cb + 512 ≤ Rb) (old : Vec Ideal S512x128 .f32) (c : Fin 512) (k : Fin 128) :
    k0_pay42 (F := Ideal) d (k0_pay39 q kn kr l) old (ix2 c k)
      = old (ix2 c k) + ∑ r ∈ Finset.range 256, dvT g H (Cb + c.val) k.val (Rb + r) := by
  rw [Finset.sum_range (M := EReal)]
  pointwise [k0_pay42]
  refine congrArg (old (ix2 c k) + ·) (Finset.sum_congr (M := EReal) rfl fun r _ => ?_)
  rw [pay39_apply ck hm r c, ck.hd]
  rfl

theorem pay43_apply (hm : Cb + 512 ≤ Rb) (old : Vec Ideal S512x256 .f32) (c : Fin 512) (k : Fin 256) :
    k0_pay43 (F := Ideal) (k0_pay37 q) (k0_pay40 q d kn kr l v o) old (ix2 c k)
      = old (ix2 c k) + ∑ r ∈ Finset.range 256, dkT g H (Cb + c.val) k.val (Rb + r) := by
  rw [Finset.sum_range (M := EReal)]
  pointwise [k0_pay43, k0_pay37]
  refine congrArg (old (ix2 c k) + ·) (Finset.sum_congr (M := EReal) rfl fun r _ => ?_)
  rw [pay40_apply ck hm r c, ck.hq]
  rfl

/-! The other pieces below the diagonal are the same values in other places of the text. -/

theorem pay51_apply (hm : Cb + 512 ≤ Rb) (old : Vec Ideal S256x256 .f32) (r k : Fin 256) :
    k0_pay51 (F := Ideal) (k0_pay45 kn kr) (k0_pay46 q kn kr l) (k0_pay47 d v) (k0_pay48 d) (k0_pay49 o) old (ix2 r k)
      = old (ix2 r k) + ∑ c ∈ Finset.range 512, dqT g H (Rb + r.val) k.val (Cb + c) := pay41_apply ck hm old r k
theorem pay52_apply (hm : Cb + 512 ≤ Rb) (old : Vec Ideal S512x128 .f32) (c : Fin 512) (k : Fin 128) :
    k0_pay52 (F := Ideal) d (k0_pay46 q kn kr l) old (ix2 c k)
      = old (ix2 c k) + ∑ r ∈ Finset.range 256, dvT g H (Cb + c.val) k.val (Rb + r) := pay42_apply ck hm old c k
theorem pay53_apply (hm : Cb + 512 ≤ Rb) (old : Vec Ideal S512x256 .f32) (c : Fin 512) (k : Fin 256) :
    k0_pay53 (F := Ideal) (k0_pay44 q) (k0_pay46 q kn kr l) (k0_pay47 d v) (k0_pay48 d) (k0_pay49 o) old (ix2 c k)
      = old (ix2 c k) + ∑ r ∈ Finset.range 256, dkT g H (Cb + c.val) k.val (Rb + r) := pay43_apply ck hm old c k
theorem pay58_apply (hm : Cb + 512 ≤ Rb) (old : Vec Ideal S256x256 .f32) (r k : Fin 256) :
    k0_pay58 (F := Ideal) (k0_pay54 q) d kn kr l v o old (ix2 r k)
      = old (ix2 r k) + ∑ c ∈ Finset.range 512, dqT g H (Rb + r.val) k.val (Cb + c) := pay41_apply ck hm old r k
theorem pay61_apply (hm : Cb + 512 ≤ Rb) (old : Vec Ideal S512x128 .f32) (c : Fin 512) (k : Fin 128) :
    k0_pay61 (F := Ideal) (k0_pay60 (k0_pay54 q) d kn kr l old) (ix2 c k)
      = old (ix2 c k) + ∑ r ∈ Finset.range 256, dvT g H (Cb + c.val) k.val (Rb + r) := pay42_apply ck hm old c k
theorem pay62_apply (hm : Cb + 512 ≤ Rb) (old : Vec Ideal S512x256 .f32) (c : Fin 512) (k : Fin 256) :
    k0_pay62 (F := Ideal) (k0_pay59 (k0_pay54 q) d kn kr l v o) old (ix2 c k)
      = old (ix2 c k) + ∑ r ∈ Finset.range 256, dkT g H (Cb + c.val) k.val (Rb + r) := pay43_apply ck hm old c k
theorem pay2_apply (hm : Cb + 512 ≤ Rb) (old : Vec Ideal S256x256 .f32) (r k : Fin 256) :
    k0_pay2 (F := Ideal) (k0_pay64 kn kr) (k0_pay66 q d kn kr l v o) old (ix2 r k)
      = old (ix2 r k) + ∑ c ∈ Finset.range 512, dqT g H (Rb + r.val) k.val (Cb + c) := pay41_apply ck hm old r k
theorem pay3_apply (hm : Cb + 512 ≤ Rb) (old : Vec Ideal S512x128 .f32) (c : Fin 512) (k : Fin 128) :
    k0_pay3 (F := Ideal) d (k0_pay65 q kn kr l) old (ix2 c k)
      = old (ix2 c k) + ∑ r ∈ Finset.range 256, dvT g H (Cb + c.val) k.val (Rb + r) := pay42_apply ck hm old c k
theorem pay4_apply (hm : Cb + 512 ≤ Rb) (old : Vec Ideal S512x256 .f32) (c : Fin 512) (k : Fin 256) :
    k0_pay4 (F := Ideal) (k0_pay63 q) (k0_pay66 q d kn kr l v o) old (ix2 c k)
      = old (ix2 c k) + ∑ r ∈ Finset.range 256, dkT g H (Cb + c.val) k.val (Rb + r) := pay43_apply ck hm old c k
end Below

/-- The mask of a block on the diagonal: the row's place in the block is at least the key's. -/
theorem mask_sel (a b : ℕ) (ha : a < 2048) (hb : b < 2048) (x y : EReal) :
    Scalar.select (IntOp.cmpi .sle (BitVec.ofNat 32 a) (BitVec.ofNat 32 b)) x y = if a ≤ b then x else y := by
  rw [WordCmp.cmpi_sle_ofNat (by norm_num; omega) (by norm_num; omega), WordCmp.select_ofBool]
  simp only [decide_eq_true_eq]

section Diagonal
variable {kn kr v : Vec Ideal S512x128 .bf16} (ck : Ck g H Rb Cb 512 q kn kr l v o d)
include ck

theorem pay11_apply (hm : Rb = Cb + 256) (r : Fin 256) (c : Fin 512) :
    k0_pay11 (F := Ideal) q kn kr l (ix2 r c) = PR g H (Rb + r.val) (Cb + c.val) := by
  pointwise [k0_pay11, k0_pay9, k0_pay10]
  simp only [ck.hq, ck.hkn, ck.hkr, ck.hl]
  rw [show IntOp.addi 256#32 (BitVec.ofNat 32 r.val) = BitVec.ofNat 32 (256 + r.val) from (BitVec.ofNat_add ..).symm,
    mask_sel _ _ (by omega) (by omega), mask_eq]
  unfold PR SC
  subst hm
  simp only [show (c.val ≤ 256 + r.val) ↔ (Cb + c.val ≤ Cb + 256 + r.val) by omega]

theorem pay12_apply (hm : Rb = Cb + 256) (r : Fin 256) (c : Fin 512) :
    k0_pay12 (F := Ideal) q d kn kr l v o (ix2 r c) = DS g H (Rb + r.val) (Cb + c.val) := by
  pointwise [k0_pay12]
  rw [pay11_apply ck hm r c]
  simp only [ck.hd, ck.ho, ck.hv]
  rfl

theorem pay13_apply (hm : Rb = Cb + 256) (old : Vec Ideal S256x256 .f32) (r k : Fin 256) :
    k0_pay13 (F := Ideal) (k0_pay10 kn kr) (k0_pay12 q d kn kr l v o) old (ix2 r k)
      = old (ix2 r k) + ∑ c ∈ Finset.range 512, dqT g H (Rb + r.val) k.val (Cb + c) := by
  rw [Finset.sum_range (M := EReal)]
  pointwise [k0_pay13]
  refine congrArg (old (ix2 r k) + ·) (Finset.sum_congr (M := EReal) rfl fun c _ => ?_)
  rw [pay12_apply ck hm r c, show k0_pay10 (F := Ideal) kn kr (ix2 c k) = _ from pay38_apply ck c k]
  rfl

theorem pay14_apply (hm : Rb = Cb + 256) (c : Fin 512) (k : Fin 128) :
    k0_pay14 (F := Ideal) d (k0_pay11 q kn kr l) (ix2 c k)
      = ∑ r ∈ Finset.range 256, dvT g H (Cb + c.val) k.val (Rb + r) := by
  rw [Finset.sum_range (M := EReal)]
  pointwise [k0_pay14]
  refine Finset.sum_congr (M := EReal) rfl fun r _ => ?_
  rw [pay11_apply ck hm r c, ck.hd]
  rfl

theorem pay15_apply (hm : Rb = Cb + 256) (c : Fin 512) (k : Fin 256) :
    k0_pay15 (F := Ideal) (k0_pay9 q) (k0_pay12 q d kn kr l v o) (ix2 c k)
      = ∑ r ∈ Finset.range 256, dkT g H (Cb + c.val) k.val (Rb + r) := by
  rw [Finset.sum_range (M := EReal)]
  pointwise [k0_pay15, k0_pay9]
  refine Finset.sum_congr (M := EReal) rfl fun r _ => ?_
  rw [pay12_apply ck hm r c, ck.hq]
  rfl

theorem pay27_apply (hm : Rb = Cb + 256) (old : Vec Ideal S256x256 .f32) (r k : Fin 256) :
    k0_pay27 (F := Ideal) (k0_pay24 kn kr) (k0_pay26 q d kn kr l v o) old (ix2 r k)
      = old (ix2 r k) + ∑ c ∈ Finset.range 512, dqT g H (Rb + r.val) k.val (Cb + c) := pay13_apply ck hm old r k
theorem pay28_apply (hm : Rb = Cb + 256) (c : Fin 512) (k : Fin 128) :
    k0_pay28 (F := Ideal) d (k0_pay25 q kn kr l) (ix2 c k)
      = ∑ r ∈ Finset.range 256, dvT g H (Cb + c.val) k.val (Rb + r) := pay14_apply ck hm c k
theorem pay29_apply (hm : Rb = Cb + 256) (c : Fin 512) (k : Fin 256) :
    k0_pay29 (F := Ideal) (k0_pay23 q) (k0_pay26 q d kn kr l v o) (ix2 c k)
      = ∑ r ∈ Finset.range 256, dkT g H (Cb + c.val) k.val (Rb + r) := pay15_apply ck hm c k
end Diagonal

section Corner
variable {kn kr v : Vec Ideal S256x128 .bf16} (ck : Ck g H Rb Cb 256 q kn kr l v o d)
include ck

theorem pay18_apply (hm : Rb = Cb) (r c : Fin 256) :
    k0_pay18 (F := Ideal) q kn kr l (ix2 r c) = PR g H (Rb + r.val) (Cb + c.val) := by
  pointwise [k0_pay18, k0_pay16, k0_pay17]
  simp only [ck.hq, ck.hkn, ck.hkr, ck.hl]
  rw [show IntOp.addi 0#32 (BitVec.ofNat 32 r.val) = BitVec.ofNat 32 (0 + r.val) from (BitVec.ofNat_add ..).symm,
    mask_sel _ _ (by omega) (by omega), mask_eq]
  unfold PR SC
  subst hm
  simp only [show (c.val ≤ 0 + r.val) ↔ (Rb + c.val ≤ Rb + r.val) by omega]

theorem pay19_apply (hm : Rb = Cb) (r c : Fin 256) :
    k0_pay19 (F := Ideal) d (k0_pay18 q kn kr l) v o (ix2 r c) = DS g H (Rb + r.val) (Cb + c.val) := by
  pointwise [k0_pay19]
  rw [pay18_apply ck hm r c]
  simp only [ck.hd, ck.ho, ck.hv]
  rfl

theorem pay17_apply (c k : Fin 256) :
    k0_pay17 (F := Ideal) kn kr (ix2 c k) = KF g H (Cb + c.val) k.val := by
  pointwise [k0_pay17]
  unfold KF
  simp only [ck.hkn, ck.hkr]
  rfl

theorem pay20_apply (hm : Rb = Cb) (old : Vec Ideal S256x256 .f32) (r k : Fin 256) :
    k0_pay20 (F := Ideal) d (k0_pay17 kn kr) (k0_pay18 q kn kr l) v o old (ix2 r k)
      = old (ix2 r k) + ∑ c ∈ Finset.range 256, dqT g H (Rb + r.val) k.val (Cb + c) := by
  rw [Finset.sum_range (M := EReal)]
  pointwise [k0_pay20]
  refine congrArg (old (ix2 r k) + ·) (Finset.sum_congr (M := EReal) rfl fun c _ => ?_)
  rw [pay19_apply ck hm r c, pay17_apply ck c k]
  rfl

theorem pay21_apply (hm : Rb = Cb) (old : Vec Ideal S256x128 .f32) (c : Fin 256) (k : Fin 128) :
    k0_pay21 (F := Ideal) d (k0_pay18 q kn kr l) old (ix2 c k)
      = old (ix2 c k) + ∑ r ∈ Finset.range 256, dvT g H (Cb + c.val) k.val (Rb + r) := by
  rw [Finset.sum_range (M := EReal)]
  pointwise [k0_pay21]
  refine congrArg (old (ix2 c k) + ·) (Finset.sum_congr (M := EReal) rfl fun r _ => ?_)
  rw [pay18_apply ck hm r c, ck.hd]
  rfl

theorem pay22_apply (hm : Rb = Cb) (old : Vec Ideal S256x256 .f32) (c k : Fin 256) :
    k0_pay22 (F := Ideal) (k0_pay16 q) d (k0_pay18 q kn kr l) v o old (ix2 c k)
      = old (ix2 c k) + ∑ r ∈ Finset.range 256, dkT g H (Cb + c.val) k.val (Rb + r) := by
  rw [Finset.sum_range (M := EReal)]
  pointwise [k0_pay22, k0_pay16]
  refine congrArg (old (ix2 c k) + ·) (Finset.sum_congr (M := EReal) rfl fun r _ => ?_)
  rw [pay19_apply ck hm r c, ck.hq]
  rfl

theorem pay34_apply (hm : Rb = Cb) (old : Vec Ideal S256x256 .f32) (r k : Fin 256) :
    k0_pay34 (F := Ideal) d (k0_pay31 kn kr) (k0_pay32 q kn kr l) v o old (ix2 r k)
      = old (ix2 r k) + ∑ c ∈ Finset.range 256, dqT g H (Rb + r.val) k.val (Cb + c) := pay20_apply ck hm old r k
theorem pay35_apply (hm : Rb = Cb) (old : Vec Ideal S256x128 .f32) (c : Fin 256) (k : Fin 128) :
    k0_pay35 (F := Ideal) d (k0_pay32 q kn kr l) old (ix2 c k)
      = old (ix2 c k) + ∑ r ∈ Finset.range 256, dvT g H (Cb + c.val) k.val (Rb + r) := pay21_apply ck hm old c k
theorem pay36_apply (hm : Rb = Cb) (old : Vec Ideal S256x256 .f32) (c k : Fin 256) :
    k0_pay36 (F := Ideal) (k0_pay30 q) d (k0_pay32 q kn kr l) v o old (ix2 c k)
      = old (ix2 c k) + ∑ r ∈ Finset.range 256, dkT g H (Cb + c.val) k.val (Rb + r) := pay22_apply ck hm old c k
end Corner

theorem pay1_apply (y : S2048x512.Idx) : k0_pay1 (F := Ideal) y = 0 := by
  idx_vars y
  pointwise [k0_pay1]

end Cert.KernelIdeal.Attn

end
-- ==== Proof.AttnIBase.lean ====
/- The branch conditions of the attention gradient's body over the grid points, and its buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first branch: the first key block and the first query block. -/
abbrev first (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The block is on the diagonal. -/
abbrev diag (i : grid0.Coords) : Prop := k0_cond2 i = 1#1
/-- The block is below the diagonal. -/
abbrev below (i : grid0.Coords) : Prop := k0_cond3 i = 1#1
/-- The last query block. -/
abbrev flushes (i : grid0.Coords) : Prop := k0_cond4 i = 1#1
/-- The last key block and the last query block. -/
abbrev ends (i : grid0.Coords) : Prop := k0_cond5 i = 1#1

theorem first_iff : ∀ t : Fin cfg0.N, first (grid0.coords t) ↔ t.val % 16 = 0 :=
  (by decide +kernel : ∀ t : Fin grid0.N, first (grid0.coords t) ↔ t.val % 16 = 0)
theorem diag_iff : ∀ t : Fin cfg0.N, diag (grid0.coords t) ↔ t.val % 4 = t.val / 4 % 4 :=
  (by decide +kernel : ∀ t : Fin grid0.N, diag (grid0.coords t) ↔ t.val % 4 = t.val / 4 % 4)
theorem below_iff : ∀ t : Fin cfg0.N, below (grid0.coords t) ↔ t.val / 4 % 4 < t.val % 4 :=
  (by decide +kernel : ∀ t : Fin grid0.N, below (grid0.coords t) ↔ t.val / 4 % 4 < t.val % 4)
theorem flushes_iff : ∀ t : Fin cfg0.N, flushes (grid0.coords t) ↔ t.val % 4 = 3 :=
  (by decide +kernel : ∀ t : Fin grid0.N, flushes (grid0.coords t) ↔ t.val % 4 = 3)
theorem ends_iff : ∀ t : Fin cfg0.N, ends (grid0.coords t) ↔ t.val % 16 = 15 :=
  (by decide +kernel : ∀ t : Fin grid0.N, ends (grid0.coords t) ↔ t.val % 16 = 15)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem idle_8 : ∀ t : Fin cfg0.N, t.val % 16 ≠ 15 → cfg0.idle 8 (grid0.coords t) = true := by decide +kernel
theorem live_8 : ∀ t : Fin cfg0.N, t.val % 16 = 15 → cfg0.idle 8 (grid0.coords t) = false := by decide +kernel
theorem noFlush_8 (t : Fin cfg0.N) (h : t.val % 16 ≠ 15) : (cfg0.win 8).flush t = false :=
  Bool.eq_false_iff.mpr fun e => h ((flush0_8 t).mp e)
theorem idle_9 : ∀ t : Fin cfg0.N, t.val % 4 ≠ 3 → cfg0.idle 9 (grid0.coords t) = true := by decide +kernel
theorem live_9 : ∀ t : Fin cfg0.N, t.val % 4 = 3 → cfg0.idle 9 (grid0.coords t) = false := by decide +kernel
theorem noFlush_9 (t : Fin cfg0.N) (h : t.val % 4 ≠ 3) : (cfg0.win 9).flush t = false :=
  Bool.eq_false_iff.mpr fun e => h ((flush0_9 t).mp e)
theorem idle_10 : ∀ t : Fin cfg0.N, t.val % 4 ≠ 3 → cfg0.idle 10 (grid0.coords t) = true := by decide +kernel
theorem live_10 : ∀ t : Fin cfg0.N, t.val % 4 = 3 → cfg0.idle 10 (grid0.coords t) = false := by decide +kernel
theorem noFlush_10 (t : Fin cfg0.N) (h : t.val % 4 ≠ 3) : (cfg0.win 10).flush t = false :=
  Bool.eq_false_iff.mpr fun e => h ((flush0_10 t).mp e)
abbrev ms_0 (t : Fin cfg0.N) : Memref sig .tc .vmem S512x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x256 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x256 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x256 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S2x512x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2048x256 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S2048x512 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x512 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S512x256 .bf16 := win0_10.stage (cfg0.slots t 10)
abbrev hs_10 (t : Fin cfg0.N) : (ms_10 t).IsWhole := hstage0_10 ((cfg0.slots t 10).cast nbuf0_10)
abbrev sc_0 : Memref sig .tc .vmem S512x512 .f32 := Memref.whole cc0_scratch0
abbrev sc_1 : Memref sig .tc .vmem S512x256 .f32 := Memref.whole cc0_scratch1
abbrev sc_2 : Memref sig .tc .vmem S2048x512 .f32 := Memref.whole cc0_scratch2

/-- The invariant the launch hands over: the three scratch buffers at anything, and the generator register. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

end Cert.KernelIdeal.Attn

end
-- ==== Proof.AttnIRunA.lean ====
/- The run of the attention gradient's body: first block of a head pair: the query gradient is cleared, then the diagonal update. -/
module

public import proofs.«01_k».proof.Proof.AttnIBase

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves in each buffer it stores into, as pieces, the last first, in this case: first block of a head pair: the query gradient is cleared, then the diagonal update;
    with the proof that the body runs from the buffers at their contents to the buffers with these pieces written. -/
noncomputable def runA (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : first i) (hc1 : diag i) (hc2 : ¬below i) (hc3 : ¬flushes i) (hc4 : ¬ends i)
    (x3 : Vec F S512x512 .bf16) (x4 : Vec F S512x256 .bf16) (x5 : Vec F S512x128 .bf16) (x6 : Vec F S512x256 .bf16) (x7 : Vec F S512x256 .bf16) (x8 : Vec F S512x256 .bf16) (x9 : Vec F S2x512x128 .f32) (x10 : Vec F S2048x256 .f32) :
    Σ' (L14 : List (View.Piece (Elt F) S512x512 .f32)), Σ' (L15 : List (View.Piece (Elt F) S512x256 .f32)), { L16 : List (View.Piece (Elt F) S2048x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]; unfold k0_part1_skel k0_part2_skel k0_part3_skel k0_part4_skel k0_part5_skel k0_part6_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H14]; · iexists _; iexact H14
    isplitl [H15]; · iexists _; iexact H15
    iexists _; iexact H16

end Cert.KernelIdeal.Attn

end
-- ==== Proof.AttnIRunD.lean ====
/- The run of the attention gradient's body: a diagonal block before the last. -/
module

public import proofs.«01_k».proof.Proof.AttnIRunA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves in each buffer it stores into, as pieces, the last first, in this case: a diagonal block before the last;
    with the proof that the body runs from the buffers at their contents to the buffers with these pieces written. -/
noncomputable def runD (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : ¬first i) (hc1 : diag i) (hc2 : ¬below i) (hc3 : ¬flushes i) (hc4 : ¬ends i)
    (x3 : Vec F S512x512 .bf16) (x4 : Vec F S512x256 .bf16) (x5 : Vec F S512x128 .bf16) (x6 : Vec F S512x256 .bf16) (x7 : Vec F S512x256 .bf16) (x8 : Vec F S512x256 .bf16) (x9 : Vec F S2x512x128 .f32) (x10 : Vec F S2048x256 .f32) (s14 : Vec F S512x512 .f32) (s15 : Vec F S512x256 .f32) (s16 : Vec F S2048x512 .f32) :
    Σ' (L14 : List (View.Piece (Elt F) S512x512 .f32)), Σ' (L15 : List (View.Piece (Elt F) S512x256 .f32)), { L16 : List (View.Piece (Elt F) S2048x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare s14 ∗ owns (c : Thread nD τ) arg15 fullShare s15 ∗ owns (c : Thread nD τ) arg16 fullShare s16
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]; unfold k0_part1_skel k0_part2_skel k0_part3_skel k0_part4_skel k0_part5_skel k0_part6_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H14]; · iexact H14
    isplitl [H15]; · iexact H15
    iexact H16

end Cert.KernelIdeal.Attn

end
-- ==== Proof.AttnIRunE.lean ====
/- The run of the attention gradient's body: the last diagonal block, with both write-outs. -/
module

public import proofs.«01_k».proof.Proof.AttnIRunD

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves in each buffer it stores into, as pieces, the last first, in this case: the last diagonal block, with both write-outs;
    with the proof that the body runs from the buffers at their contents to the buffers with these pieces written. -/
noncomputable def runE (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : ¬first i) (hc1 : diag i) (hc2 : ¬below i) (hc3 : flushes i) (hc4 : ends i)
    (x3 : Vec F S512x512 .bf16) (x4 : Vec F S512x256 .bf16) (x5 : Vec F S512x128 .bf16) (x6 : Vec F S512x256 .bf16) (x7 : Vec F S512x256 .bf16) (x8 : Vec F S512x256 .bf16) (x9 : Vec F S2x512x128 .f32) (x10 : Vec F S2048x256 .f32) (s14 : Vec F S512x512 .f32) (s15 : Vec F S512x256 .f32) (s16 : Vec F S2048x512 .f32) :
    Σ' (L11 : List (View.Piece (Elt F) S2048x512 .bf16)), Σ' (L12 : List (View.Piece (Elt F) S512x512 .bf16)), Σ' (L13 : List (View.Piece (Elt F) S512x256 .bf16)), Σ' (L14 : List (View.Piece (Elt F) S512x512 .f32)), Σ' (L15 : List (View.Piece (Elt F) S512x256 .f32)), { L16 : List (View.Piece (Elt F) S2048x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s14 ∗ owns (c : Thread nD τ) arg15 fullShare s15 ∗ owns (c : Thread nD τ) arg16 fullShare s16
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]; unfold k0_part1_skel k0_part2_skel k0_part3_skel k0_part4_skel k0_part5_skel k0_part6_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexact H14
    isplitl [H15]; · iexact H15
    iexact H16

end Cert.KernelIdeal.Attn

end
-- ==== Proof.AttnIRunB.lean ====
/- The run of the attention gradient's body: a block below the diagonal, not in the last row. -/
module

public import proofs.«01_k».proof.Proof.AttnIRunE

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves in each buffer it stores into, as pieces, the last first, in this case: a block below the diagonal, not in the last row;
    with the proof that the body runs from the buffers at their contents to the buffers with these pieces written. -/
noncomputable def runB (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : ¬first i) (hc1 : ¬diag i) (hc2 : below i) (hc3 : ¬flushes i) (hc4 : ¬ends i)
    (x3 : Vec F S512x512 .bf16) (x4 : Vec F S512x256 .bf16) (x5 : Vec F S512x128 .bf16) (x6 : Vec F S512x256 .bf16) (x7 : Vec F S512x256 .bf16) (x8 : Vec F S512x256 .bf16) (x9 : Vec F S2x512x128 .f32) (x10 : Vec F S2048x256 .f32) (s14 : Vec F S512x512 .f32) (s15 : Vec F S512x256 .f32) (s16 : Vec F S2048x512 .f32) :
    Σ' (L14 : List (View.Piece (Elt F) S512x512 .f32)), Σ' (L15 : List (View.Piece (Elt F) S512x256 .f32)), { L16 : List (View.Piece (Elt F) S2048x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare s14 ∗ owns (c : Thread nD τ) arg15 fullShare s15 ∗ owns (c : Thread nD τ) arg16 fullShare s16
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton]; unfold k0_part7_skel k0_part8_skel k0_part9_skel k0_part10_skel k0_part11_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H14]; · iexact H14
    isplitl [H15]; · iexact H15
    iexact H16

end Cert.KernelIdeal.Attn

end
-- ==== Proof.AttnIRunG.lean ====
/- The run of the attention gradient's body: a block below the diagonal in the last row, with the write-out of the key and value gradients. -/
module

public import proofs.«01_k».proof.Proof.AttnIRunB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves in each buffer it stores into, as pieces, the last first, in this case: a block below the diagonal in the last row, with the write-out of the key and value gradients;
    with the proof that the body runs from the buffers at their contents to the buffers with these pieces written. -/
noncomputable def runG (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : ¬first i) (hc1 : ¬diag i) (hc2 : below i) (hc3 : flushes i) (hc4 : ¬ends i)
    (x3 : Vec F S512x512 .bf16) (x4 : Vec F S512x256 .bf16) (x5 : Vec F S512x128 .bf16) (x6 : Vec F S512x256 .bf16) (x7 : Vec F S512x256 .bf16) (x8 : Vec F S512x256 .bf16) (x9 : Vec F S2x512x128 .f32) (x10 : Vec F S2048x256 .f32) (s14 : Vec F S512x512 .f32) (s15 : Vec F S512x256 .f32) (s16 : Vec F S2048x512 .f32) :
    Σ' (L12 : List (View.Piece (Elt F) S512x512 .bf16)), Σ' (L13 : List (View.Piece (Elt F) S512x256 .bf16)), Σ' (L14 : List (View.Piece (Elt F) S512x512 .f32)), Σ' (L15 : List (View.Piece (Elt F) S512x256 .f32)), { L16 : List (View.Piece (Elt F) S2048x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ owns (c : Thread nD τ) arg14 fullShare s14 ∗ owns (c : Thread nD τ) arg15 fullShare s15 ∗ owns (c : Thread nD τ) arg16 fullShare s16
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread s14) L14) ∗ (arg15.view.loc (c : Thread nD τ) ↦[arg15.view.set]{fullShare} arg15.view.writes (Elt F) (harg15.unread s15) L15) ∗ (arg16.view.loc (c : Thread nD τ) ↦[arg16.view.set]{fullShare} arg16.view.writes (Elt F) (harg16.unread s16) L16)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton]; unfold k0_part7_skel k0_part8_skel k0_part9_skel k0_part10_skel k0_part11_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]; · iexists _; iexact H12
    isplitl [H13]; · iexists _; iexact H13
    isplitl [H14]; · iexact H14
    isplitl [H15]; · iexact H15
    iexact H16

end Cert.KernelIdeal.Attn

end
-- ==== Proof.AttnIData.lean ====
/- The state of the attention gradient between grid points, and the proof data of its pipeline. -/
module

public import proofs.«01_k».proof.Proof.AttnIRunG

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Above the diagonal the body does nothing. -/
theorem runN (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S512x128 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x128 .f32) (harg9 : arg9.IsWhole) (arg10 : Memref sig .tc .vmem S2048x256 .f32) (harg10 : arg10.IsWhole) (arg11 : Memref sig .tc .vmem S2048x512 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S512x512 .f32) (harg14 : arg14.IsWhole) (arg15 : Memref sig .tc .vmem S512x256 .f32) (harg15 : arg15.IsWhole) (arg16 : Memref sig .tc .vmem S2048x512 .f32) (harg16 : arg16.IsWhole) (hc0 : ¬first i) (hc1 : ¬diag i) (hc2 : ¬below i) (hc3 : ¬flushes i) (hc4 : ¬ends i)
    (E : Set ℕ) (K : PUnit → sProp 𝕄) :
    K ⟨⟩ ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  iintro Hk
  sl_exec (disch := first | sl_exact hc0 | sl_exact hc1 | sl_exact hc2 | sl_exact hc3 | sl_exact hc4)
  sl_step
  iexact Hk

/-- What the three scratch buffers hold between points: the key, value and query gradients so far. -/
abbrev State (F : FTy → Type) := Vec F S512x512 .f32 × Vec F S512x256 .f32 × Vec F S2048x512 .f32

abbrev VO_8 : View sig .tc .vmem S2048x512 .bf16 := (Memref.whole cc0_stg8_0 : Memref sig .tc .vmem S2048x512 .bf16).view
abbrev VO_9 : View sig .tc .vmem S512x512 .bf16 := (Memref.whole cc0_stg9_0 : Memref sig .tc .vmem S512x512 .bf16).view
abbrev VO_10 : View sig .tc .vmem S512x256 .bf16 := (Memref.whole cc0_stg10_0 : Memref sig .tc .vmem S512x256 .bf16).view

theorem whole_0 : sc_0.IsWhole := Memref.isWhole_whole _
theorem whole_1 : sc_1.IsWhole := Memref.isWhole_whole _
theorem whole_2 : sc_2.IsWhole := Memref.isWhole_whole _

theorem cA0 {t : Fin cfg0.N} (h : t.val % 16 = 0) : first (grid0.coords t) := (first_iff t).mpr (by omega)
theorem cA1 {t : Fin cfg0.N} (h : t.val % 16 = 0) : diag (grid0.coords t) := (diag_iff t).mpr (by omega)
theorem cA2 {t : Fin cfg0.N} (h : t.val % 16 = 0) : ¬below (grid0.coords t) := fun e => absurd ((below_iff t).mp e) (by omega)
theorem cA3 {t : Fin cfg0.N} (h : t.val % 16 = 0) : ¬flushes (grid0.coords t) := fun e => absurd ((flushes_iff t).mp e) (by omega)
theorem cA4 {t : Fin cfg0.N} (h : t.val % 16 = 0) : ¬ends (grid0.coords t) := fun e => absurd ((ends_iff t).mp e) (by omega)
theorem cD0 {t : Fin cfg0.N} (h : t.val % 4 = t.val / 4 % 4 ∧ t.val % 16 ≠ 0 ∧ t.val % 16 ≠ 15) : ¬first (grid0.coords t) := fun e => absurd ((first_iff t).mp e) (by omega)
theorem cD1 {t : Fin cfg0.N} (h : t.val % 4 = t.val / 4 % 4 ∧ t.val % 16 ≠ 0 ∧ t.val % 16 ≠ 15) : diag (grid0.coords t) := (diag_iff t).mpr (by omega)
theorem cD2 {t : Fin cfg0.N} (h : t.val % 4 = t.val / 4 % 4 ∧ t.val % 16 ≠ 0 ∧ t.val % 16 ≠ 15) : ¬below (grid0.coords t) := fun e => absurd ((below_iff t).mp e) (by omega)
theorem cD3 {t : Fin cfg0.N} (h : t.val % 4 = t.val / 4 % 4 ∧ t.val % 16 ≠ 0 ∧ t.val % 16 ≠ 15) : ¬flushes (grid0.coords t) := fun e => absurd ((flushes_iff t).mp e) (by omega)
theorem cD4 {t : Fin cfg0.N} (h : t.val % 4 = t.val / 4 % 4 ∧ t.val % 16 ≠ 0 ∧ t.val % 16 ≠ 15) : ¬ends (grid0.coords t) := fun e => absurd ((ends_iff t).mp e) (by omega)
theorem cE0 {t : Fin cfg0.N} (h : t.val % 16 = 15) : ¬first (grid0.coords t) := fun e => absurd ((first_iff t).mp e) (by omega)
theorem cE1 {t : Fin cfg0.N} (h : t.val % 16 = 15) : diag (grid0.coords t) := (diag_iff t).mpr (by omega)
theorem cE2 {t : Fin cfg0.N} (h : t.val % 16 = 15) : ¬below (grid0.coords t) := fun e => absurd ((below_iff t).mp e) (by omega)
theorem cE3 {t : Fin cfg0.N} (h : t.val % 16 = 15) : flushes (grid0.coords t) := (flushes_iff t).mpr (by omega)
theorem cE4 {t : Fin cfg0.N} (h : t.val % 16 = 15) : ends (grid0.coords t) := (ends_iff t).mpr (by omega)
theorem cB0 {t : Fin cfg0.N} (h : t.val / 4 % 4 < t.val % 4 ∧ t.val % 4 ≠ 3) : ¬first (grid0.coords t) := fun e => absurd ((first_iff t).mp e) (by omega)
theorem cB1 {t : Fin cfg0.N} (h : t.val / 4 % 4 < t.val % 4 ∧ t.val % 4 ≠ 3) : ¬diag (grid0.coords t) := fun e => absurd ((diag_iff t).mp e) (by omega)
theorem cB2 {t : Fin cfg0.N} (h : t.val / 4 % 4 < t.val % 4 ∧ t.val % 4 ≠ 3) : below (grid0.coords t) := (below_iff t).mpr (by omega)
theorem cB3 {t : Fin cfg0.N} (h : t.val / 4 % 4 < t.val % 4 ∧ t.val % 4 ≠ 3) : ¬flushes (grid0.coords t) := fun e => absurd ((flushes_iff t).mp e) (by omega)
theorem cB4 {t : Fin cfg0.N} (h : t.val / 4 % 4 < t.val % 4 ∧ t.val % 4 ≠ 3) : ¬ends (grid0.coords t) := fun e => absurd ((ends_iff t).mp e) (by omega)
theorem cG0 {t : Fin cfg0.N} (h : t.val / 4 % 4 < t.val % 4 ∧ t.val % 4 = 3) : ¬first (grid0.coords t) := fun e => absurd ((first_iff t).mp e) (by omega)
theorem cG1 {t : Fin cfg0.N} (h : t.val / 4 % 4 < t.val % 4 ∧ t.val % 4 = 3) : ¬diag (grid0.coords t) := fun e => absurd ((diag_iff t).mp e) (by omega)
theorem cG2 {t : Fin cfg0.N} (h : t.val / 4 % 4 < t.val % 4 ∧ t.val % 4 = 3) : below (grid0.coords t) := (below_iff t).mpr (by omega)
theorem cG3 {t : Fin cfg0.N} (h : t.val / 4 % 4 < t.val % 4 ∧ t.val % 4 = 3) : flushes (grid0.coords t) := (flushes_iff t).mpr (by omega)
theorem cG4 {t : Fin cfg0.N} (h : t.val / 4 % 4 < t.val % 4 ∧ t.val % 4 = 3) : ¬ends (grid0.coords t) := fun e => absurd ((ends_iff t).mp e) (by omega)
theorem cN0 {t : Fin cfg0.N} (h : t.val % 4 < t.val / 4 % 4) : ¬first (grid0.coords t) := fun e => absurd ((first_iff t).mp e) (by omega)
theorem cN1 {t : Fin cfg0.N} (h : t.val % 4 < t.val / 4 % 4) : ¬diag (grid0.coords t) := fun e => absurd ((diag_iff t).mp e) (by omega)
theorem cN2 {t : Fin cfg0.N} (h : t.val % 4 < t.val / 4 % 4) : ¬below (grid0.coords t) := fun e => absurd ((below_iff t).mp e) (by omega)
theorem cN3 {t : Fin cfg0.N} (h : t.val % 4 < t.val / 4 % 4) : ¬flushes (grid0.coords t) := fun e => absurd ((flushes_iff t).mp e) (by omega)
theorem cN4 {t : Fin cfg0.N} (h : t.val % 4 < t.val / 4 % 4) : ¬ends (grid0.coords t) := fun e => absurd ((ends_iff t).mp e) (by omega)

/-- The run at point `t`: first block of a head pair: the query gradient is cleared, then the diagonal update. -/
abbrev atA (c : Dev nD) (t : Fin cfg0.N) (h : t.val % 16 = 0) :=
  runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 whole_0 sc_1 whole_1 sc_2 whole_2 (cA0 h) (cA1 h) (cA2 h) (cA3 h) (cA4 h) (iblk m c 0 t) (iblk m c 1 t) (iblk m c 2 t) (iblk m c 3 t) (iblk m c 4 t) (iblk m c 5 t) (iblk m c 6 t) (iblk m c 7 t)
/-- The scratch after that point. -/
def afterA (c : Dev nD) (t : Fin cfg0.N) (h : t.val % 16 = 0) (s : State F) : State F :=
  (sc_0.view.read (Elt F) (sc_0.view.writes (Elt F) (whole_0.unread s.1) (atA m c t h).1),
   sc_1.view.read (Elt F) (sc_1.view.writes (Elt F) (whole_1.unread s.2.1) (atA m c t h).2.1),
   sc_2.view.read (Elt F) (sc_2.view.writes (Elt F) (whole_2.unread s.2.2) (atA m c t h).2.2.1))

/-- The run at point `t`: a diagonal block before the last. -/
abbrev atD (c : Dev nD) (t : Fin cfg0.N) (h : t.val % 4 = t.val / 4 % 4 ∧ t.val % 16 ≠ 0 ∧ t.val % 16 ≠ 15) (s : State F) :=
  runD c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 whole_0 sc_1 whole_1 sc_2 whole_2 (cD0 h) (cD1 h) (cD2 h) (cD3 h) (cD4 h) (iblk m c 0 t) (iblk m c 1 t) (iblk m c 2 t) (iblk m c 3 t) (iblk m c 4 t) (iblk m c 5 t) (iblk m c 6 t) (iblk m c 7 t) s.1 s.2.1 s.2.2
/-- The scratch after that point. -/
def afterD (c : Dev nD) (t : Fin cfg0.N) (h : t.val % 4 = t.val / 4 % 4 ∧ t.val % 16 ≠ 0 ∧ t.val % 16 ≠ 15) (s : State F) : State F :=
  (sc_0.view.read (Elt F) (sc_0.view.writes (Elt F) (whole_0.unread s.1) (atD m c t h s).1),
   sc_1.view.read (Elt F) (sc_1.view.writes (Elt F) (whole_1.unread s.2.1) (atD m c t h s).2.1),
   sc_2.view.read (Elt F) (sc_2.view.writes (Elt F) (whole_2.unread s.2.2) (atD m c t h s).2.2.1))

/-- The run at point `t`: the last diagonal block, with both write-outs. -/
abbrev atE (c : Dev nD) (t : Fin cfg0.N) (h : t.val % 16 = 15) (s : State F) :=
  runE c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 whole_0 sc_1 whole_1 sc_2 whole_2 (cE0 h) (cE1 h) (cE2 h) (cE3 h) (cE4 h) (iblk m c 0 t) (iblk m c 1 t) (iblk m c 2 t) (iblk m c 3 t) (iblk m c 4 t) (iblk m c 5 t) (iblk m c 6 t) (iblk m c 7 t) s.1 s.2.1 s.2.2
/-- The scratch after that point. -/
def afterE (c : Dev nD) (t : Fin cfg0.N) (h : t.val % 16 = 15) (s : State F) : State F :=
  (sc_0.view.read (Elt F) (sc_0.view.writes (Elt F) (whole_0.unread s.1) (atE m c t h s).2.2.2.1),
   sc_1.view.read (Elt F) (sc_1.view.writes (Elt F) (whole_1.unread s.2.1) (atE m c t h s).2.2.2.2.1),
   sc_2.view.read (Elt F) (sc_2.view.writes (Elt F) (whole_2.unread s.2.2) (atE m c t h s).2.2.2.2.2.1))
/-- What that point leaves in output window 8. -/
def outE_8 (c : Dev nD) (t : Fin cfg0.N) (h : t.val % 16 = 15) (s : State F) : Vec F S2048x512 .bf16 :=
  VO_8.read (Elt F) (VO_8.writes (Elt F) VO_8.junk (atE m c t h s).1)
theorem coverE_8 (c : Dev nD) (t : Fin cfg0.N) (h : t.val % 16 = 15) (s : State F) (y : S2048x512.Idx) :
    ∃ pc ∈ (atE m c t h s).1, y ∈ pc.1.set :=
  View.cover_of_tiledBy (atE m c t h s).1 ![512, 256] (by sl_kernel_rfl) y
/-- What that point leaves in output window 9. -/
def outE_9 (c : Dev nD) (t : Fin cfg0.N) (h : t.val % 16 = 15) (s : State F) : Vec F S512x512 .bf16 :=
  VO_9.read (Elt F) (VO_9.writes (Elt F) VO_9.junk (atE m c t h s).2.1)
theorem coverE_9 (c : Dev nD) (t : Fin cfg0.N) (h : t.val % 16 = 15) (s : State F) (y : S512x512.Idx) :
    ∃ pc ∈ (atE m c t h s).2.1, y ∈ pc.1.set :=
  View.cover_of_tiledBy (atE m c t h s).2.1 ![512, 256] (by sl_kernel_rfl) y
/-- What that point leaves in output window 10. -/
def outE_10 (c : Dev nD) (t : Fin cfg0.N) (h : t.val % 16 = 15) (s : State F) : Vec F S512x256 .bf16 :=
  VO_10.read (Elt F) (VO_10.writes (Elt F) VO_10.junk (atE m c t h s).2.2.1)
theorem coverE_10 (c : Dev nD) (t : Fin cfg0.N) (h : t.val % 16 = 15) (s : State F) (y : S512x256.Idx) :
    ∃ pc ∈ (atE m c t h s).2.2.1, y ∈ pc.1.set :=
  View.cover_of_tiledBy (atE m c t h s).2.2.1 ![512, 256] (by sl_kernel_rfl) y

/-- The run at point `t`: a block below the diagonal, not in the last row. -/
abbrev atB (c : Dev nD) (t : Fin cfg0.N) (h : t.val / 4 % 4 < t.val % 4 ∧ t.val % 4 ≠ 3) (s : State F) :=
  runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 whole_0 sc_1 whole_1 sc_2 whole_2 (cB0 h) (cB1 h) (cB2 h) (cB3 h) (cB4 h) (iblk m c 0 t) (iblk m c 1 t) (iblk m c 2 t) (iblk m c 3 t) (iblk m c 4 t) (iblk m c 5 t) (iblk m c 6 t) (iblk m c 7 t) s.1 s.2.1 s.2.2
/-- The scratch after that point. -/
def afterB (c : Dev nD) (t : Fin cfg0.N) (h : t.val / 4 % 4 < t.val % 4 ∧ t.val % 4 ≠ 3) (s : State F) : State F :=
  (sc_0.view.read (Elt F) (sc_0.view.writes (Elt F) (whole_0.unread s.1) (atB m c t h s).1),
   sc_1.view.read (Elt F) (sc_1.view.writes (Elt F) (whole_1.unread s.2.1) (atB m c t h s).2.1),
   sc_2.view.read (Elt F) (sc_2.view.writes (Elt F) (whole_2.unread s.2.2) (atB m c t h s).2.2.1))

/-- The run at point `t`: a block below the diagonal in the last row, with the write-out of the key and value gradients. -/
abbrev atG (c : Dev nD) (t : Fin cfg0.N) (h : t.val / 4 % 4 < t.val % 4 ∧ t.val % 4 = 3) (s : State F) :=
  runG c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 whole_0 sc_1 whole_1 sc_2 whole_2 (cG0 h) (cG1 h) (cG2 h) (cG3 h) (cG4 h) (iblk m c 0 t) (iblk m c 1 t) (iblk m c 2 t) (iblk m c 3 t) (iblk m c 4 t) (iblk m c 5 t) (iblk m c 6 t) (iblk m c 7 t) s.1 s.2.1 s.2.2
/-- The scratch after that point. -/
def afterG (c : Dev nD) (t : Fin cfg0.N) (h : t.val / 4 % 4 < t.val % 4 ∧ t.val % 4 = 3) (s : State F) : State F :=
  (sc_0.view.read (Elt F) (sc_0.view.writes (Elt F) (whole_0.unread s.1) (atG m c t h s).2.2.1),
   sc_1.view.read (Elt F) (sc_1.view.writes (Elt F) (whole_1.unread s.2.1) (atG m c t h s).2.2.2.1),
   sc_2.view.read (Elt F) (sc_2.view.writes (Elt F) (whole_2.unread s.2.2) (atG m c t h s).2.2.2.2.1))
/-- What that point leaves in output window 9. -/
def outG_9 (c : Dev nD) (t : Fin cfg0.N) (h : t.val / 4 % 4 < t.val % 4 ∧ t.val % 4 = 3) (s : State F) : Vec F S512x512 .bf16 :=
  VO_9.read (Elt F) (VO_9.writes (Elt F) VO_9.junk (atG m c t h s).1)
theorem coverG_9 (c : Dev nD) (t : Fin cfg0.N) (h : t.val / 4 % 4 < t.val % 4 ∧ t.val % 4 = 3) (s : State F) (y : S512x512.Idx) :
    ∃ pc ∈ (atG m c t h s).1, y ∈ pc.1.set :=
  View.cover_of_tiledBy (atG m c t h s).1 ![512, 256] (by sl_kernel_rfl) y
/-- What that point leaves in output window 10. -/
def outG_10 (c : Dev nD) (t : Fin cfg0.N) (h : t.val / 4 % 4 < t.val % 4 ∧ t.val % 4 = 3) (s : State F) : Vec F S512x256 .bf16 :=
  VO_10.read (Elt F) (VO_10.writes (Elt F) VO_10.junk (atG m c t h s).2.1)
theorem coverG_10 (c : Dev nD) (t : Fin cfg0.N) (h : t.val / 4 % 4 < t.val % 4 ∧ t.val % 4 = 3) (s : State F) (y : S512x256.Idx) :
    ∃ pc ∈ (atG m c t h s).2.1, y ∈ pc.1.set :=
  View.cover_of_tiledBy (atG m c t h s).2.1 ![512, 256] (by sl_kernel_rfl) y

theorem coverA_0 (c : Dev nD) (t : Fin cfg0.N) (h : t.val % 16 = 0) (y : S512x512.Idx) : ∃ pc ∈ (atA m c t h).1, y ∈ pc.1.set :=
  View.cover_of_tiledBy (atA m c t h).1 ![256, 256] (by sl_kernel_rfl) y
theorem coverA_1 (c : Dev nD) (t : Fin cfg0.N) (h : t.val % 16 = 0) (y : S512x256.Idx) : ∃ pc ∈ (atA m c t h).2.1, y ∈ pc.1.set :=
  View.cover_of_tiledBy (atA m c t h).2.1 ![256, 128] (by sl_kernel_rfl) y
theorem coverA_2 (c : Dev nD) (t : Fin cfg0.N) (h : t.val % 16 = 0) (y : S2048x512.Idx) : ∃ pc ∈ (atA m c t h).2.2.1, y ∈ pc.1.set :=
  View.cover_of_wholeMem _ (by unfold atA runA; dsimp only; sl_whole_mem) y

/-- The scratch after a point, from the scratch before it. -/
def step (c : Dev nD) (t : Fin cfg0.N) (s : State F) : State F :=
  if hA : t.val % 16 = 0 then afterA m c t hA s
  else if hN : t.val % 4 < t.val / 4 % 4 then s
  else if hE : t.val % 16 = 15 then afterE m c t hE s
  else if hD : t.val % 4 = t.val / 4 % 4 then afterD m c t ⟨hD, hA, hE⟩ s
  else if hG : t.val % 4 = 3 then afterG m c t ⟨by omega, hG⟩ s
  else afterB m c t ⟨by omega, hG⟩ s

/-- The scratch before point `n` (before the first: anything). -/
def st (c : Dev nD) : ℕ → State F
  | 0 => (sc_0.view.read (Elt F) sc_0.view.junk, sc_1.view.read (Elt F) sc_1.view.junk, sc_2.view.read (Elt F) sc_2.view.junk)
  | n + 1 => if h : n < cfg0.N then step m c ⟨n, h⟩ (st c n) else st c n

theorem st_succ (c : Dev nD) (t : Fin cfg0.N) : st m c (t.val + 1) = step m c t (st m c t.val) := by
  show (if h : t.val < cfg0.N then step m c ⟨t.val, h⟩ (st m c t.val) else st m c t.val) = _
  rw [dif_pos t.isLt]

theorem st_A (c : Dev nD) (t : Fin cfg0.N) (h : t.val % 16 = 0) : st m c (t.val + 1) = afterA m c t h (st m c t.val) := by
  rw [st_succ]; unfold step; rw [dif_pos h]
theorem st_N (c : Dev nD) (t : Fin cfg0.N) (h : t.val % 4 < t.val / 4 % 4) : st m c (t.val + 1) = st m c t.val := by
  rw [st_succ]; unfold step; rw [dif_neg (by omega), dif_pos h]
theorem st_E (c : Dev nD) (t : Fin cfg0.N) (h : t.val % 16 = 15) : st m c (t.val + 1) = afterE m c t h (st m c t.val) := by
  rw [st_succ]; unfold step; rw [dif_neg (by omega), dif_neg (by omega), dif_pos h]
theorem st_D (c : Dev nD) (t : Fin cfg0.N) (h : t.val % 4 = t.val / 4 % 4 ∧ t.val % 16 ≠ 0 ∧ t.val % 16 ≠ 15) : st m c (t.val + 1) = afterD m c t h (st m c t.val) := by
  rw [st_succ]; unfold step; rw [dif_neg h.2.1, dif_neg (by omega), dif_neg h.2.2, dif_pos h.1]
theorem st_G (c : Dev nD) (t : Fin cfg0.N) (h : t.val / 4 % 4 < t.val % 4 ∧ t.val % 4 = 3) : st m c (t.val + 1) = afterG m c t h (st m c t.val) := by
  rw [st_succ]; unfold step; rw [dif_neg (by omega), dif_neg (by omega), dif_neg (by omega), dif_neg (by omega), dif_pos h.2]
theorem st_B (c : Dev nD) (t : Fin cfg0.N) (h : t.val / 4 % 4 < t.val % 4 ∧ t.val % 4 ≠ 3) : st m c (t.val + 1) = afterB m c t h (st m c t.val) := by
  rw [st_succ]; unfold step; rw [dif_neg (by omega), dif_neg (by omega), dif_neg (by omega), dif_neg (by omega), dif_neg h.2]

/-- What the output windows hold after point `t`: their blocks where they are stored, anything elsewhere. -/
def o_8 (c : Dev nD) (t : Fin cfg0.N) : Vec F S2048x512 .bf16 :=
  if h : t.val % 16 = 15 then outE_8 m c t h (st m c t.val) else VO_8.read (Elt F) VO_8.junk
def o_9 (c : Dev nD) (t : Fin cfg0.N) : Vec F S512x512 .bf16 :=
  if h : t.val % 16 = 15 then outE_9 m c t h (st m c t.val)
  else if h' : t.val / 4 % 4 < t.val % 4 ∧ t.val % 4 = 3 then outG_9 m c t h' (st m c t.val) else VO_9.read (Elt F) VO_9.junk
theorem o_9_E (c : Dev nD) (t : Fin cfg0.N) (h : t.val % 16 = 15) : o_9 m c t = outE_9 m c t h (st m c t.val) := dif_pos h
theorem o_9_G (c : Dev nD) (t : Fin cfg0.N) (h : t.val / 4 % 4 < t.val % 4 ∧ t.val % 4 = 3) : o_9 m c t = outG_9 m c t h (st m c t.val) :=
  (dif_neg (by omega)).trans (dif_pos h)
def o_10 (c : Dev nD) (t : Fin cfg0.N) : Vec F S512x256 .bf16 :=
  if h : t.val % 16 = 15 then outE_10 m c t h (st m c t.val)
  else if h' : t.val / 4 % 4 < t.val % 4 ∧ t.val % 4 = 3 then outG_10 m c t h' (st m c t.val) else VO_10.read (Elt F) VO_10.junk
theorem o_10_E (c : Dev nD) (t : Fin cfg0.N) (h : t.val % 16 = 15) : o_10 m c t = outE_10 m c t h (st m c t.val) := dif_pos h
theorem o_10_G (c : Dev nD) (t : Fin cfg0.N) (h : t.val / 4 % 4 < t.val % 4 ∧ t.val % 4 = 3) : o_10 m c t = outG_10 m c t h (st m c t.val) :=
  (dif_neg (by omega)).trans (dif_pos h)
theorem o_8_E (c : Dev nD) (t : Fin cfg0.N) (h : t.val % 16 = 15) : o_8 m c t = outE_8 m c t h (st m c t.val) := dif_pos h

/-- The invariant before position `n`: before the first point the scratch at anything, afterwards at `st`. -/
def PhiS (c : Dev nD) : (n : ℕ) → sProp 𝕄
  | 0 => Pipeline.ΦA spec0 c
  | n + 1 => iprop(iprop(owns (c : Thread nD τ) sc_0 fullShare (st m c (n + 1)).1 ∗ owns (c : Thread nD τ) sc_1 fullShare (st m c (n + 1)).2.1 ∗ owns (c : Thread nD τ) sc_2 fullShare (st m c (n + 1)).2.2) ∗ (∃ r, prngReg c r))

theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) sc_0 fullShare (st m c n).1 ∗ owns (c : Thread nD τ) sc_1 fullShare (st m c n).2.1 ∗ owns (c : Thread nD τ) sc_2 fullShare (st m c n).2.2) ∗ (∃ r, prngReg c r)) := by
  cases n with
  | zero => exact absurd rfl hz
  | succ n => rfl

/-- At any position the invariant gives the scratch at something. -/
theorem PhiS_any (c : Dev nD) (n : ℕ) : PhiS m c n ⊢ Pipeline.ΦA spec0 c := by
  cases n with
  | zero => exact Idealize.SL.BI.Entails.refl _
  | succ n =>
    rw [PhiS_pos m c _ (Nat.succ_ne_zero n), PhiA_eq]
    iintro ⟨⟨H0, H1, H2⟩, Hg⟩
    isplitr [Hg]
    · isplitl [H0]; · iexists _; iexact H0
      isplitl [H1]; · iexists _; iexact H1
      iexists _; iexact H2
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o_8 m c t
    | ⟨9, _⟩ => o_9 m c t
    | ⟨10, _⟩ => o_10 m c t
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem Phi_eq (c : Dev nD) (t : Fin (cfg0.N + 1)) : (dats m 0 c).Φ t = PhiS m c t.val := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = o_8 m c t := by dsimp only [dats]
theorem after_9 (c : Dev nD) (t : Fin cfg0.N) : (dats m 0 c).after 9 t = o_9 m c t := by dsimp only [dats]
theorem after_10 (c : Dev nD) (t : Fin cfg0.N) : (dats m 0 c).after 10 t = o_10 m c t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (ms_0 t) fullShare (iblk m c 0 t) := by
  unfold Dat.leavesExact; rw [live_0 t, after_0]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (ms_1 t) fullShare (iblk m c 1 t) := by
  unfold Dat.leavesExact; rw [live_1 t, after_1]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (ms_2 t) fullShare (iblk m c 2 t) := by
  unfold Dat.leavesExact; rw [live_2 t, after_2]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (ms_3 t) fullShare (iblk m c 3 t) := by
  unfold Dat.leavesExact; rw [live_3 t, after_3]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (ms_4 t) fullShare (iblk m c 4 t) := by
  unfold Dat.leavesExact; rw [live_4 t, after_4]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (ms_5 t) fullShare (iblk m c 5 t) := by
  unfold Dat.leavesExact; rw [live_5 t, after_5]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (ms_6 t) fullShare (iblk m c 6 t) := by
  unfold Dat.leavesExact; rw [live_6 t, after_6]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (ms_7 t) fullShare (iblk m c 7 t) := by
  unfold Dat.leavesExact; rw [live_7 t, after_7]
theorem leaves_8 (c : Dev nD) (t : Fin cfg0.N) (h : t.val % 16 = 15) : (dats m 0 c).leavesExact 8 t = owns (c : Thread nD τ) (ms_8 t) fullShare (o_8 m c t) := by
  unfold Dat.leavesExact; rw [live_8 t h, after_8]
theorem idles_8 (c : Dev nD) (t : Fin cfg0.N) (h : t.val % 16 ≠ 15) : (dats m 0 c).leavesExact 8 t = iprop(∃ d, owns (c : Thread nD τ) (ms_8 t) fullShare ((dats m 0 c).before 8 t d)) :=
  Dat.leavesExact_idle (dats m 0 c) 8 t (idle_8 t h) (noFlush_8 t h)
theorem leaves_9 (c : Dev nD) (t : Fin cfg0.N) (h : t.val % 4 = 3) : (dats m 0 c).leavesExact 9 t = owns (c : Thread nD τ) (ms_9 t) fullShare (o_9 m c t) := by
  unfold Dat.leavesExact; rw [live_9 t h, after_9]
theorem idles_9 (c : Dev nD) (t : Fin cfg0.N) (h : t.val % 4 ≠ 3) : (dats m 0 c).leavesExact 9 t = iprop(∃ d, owns (c : Thread nD τ) (ms_9 t) fullShare ((dats m 0 c).before 9 t d)) :=
  Dat.leavesExact_idle (dats m 0 c) 9 t (idle_9 t h) (noFlush_9 t h)
theorem leaves_10 (c : Dev nD) (t : Fin cfg0.N) (h : t.val % 4 = 3) : (dats m 0 c).leavesExact 10 t = owns (c : Thread nD τ) (ms_10 t) fullShare (o_10 m c t) := by
  unfold Dat.leavesExact; rw [live_10 t h, after_10]
theorem idles_10 (c : Dev nD) (t : Fin cfg0.N) (h : t.val % 4 ≠ 3) : (dats m 0 c).leavesExact 10 t = iprop(∃ d, owns (c : Thread nD τ) (ms_10 t) fullShare ((dats m 0 c).before 10 t d)) :=
  Dat.leavesExact_idle (dats m 0 c) 10 t (idle_10 t h) (noFlush_10 t h)

end Cert.KernelIdeal.Attn

end
-- ==== Proof.AttnIVal.lean ====
/- The blocks of the attention gradient's windows as parts of their arrays, and the pieces its body loads from them. -/
module

public import proofs.«01_k».proof.Proof.AttnIPay
public import proofs.«01_k».proof.Proof.AttnIData
public import Idealize.ShloMosaic.Lib.WritesUnit
public import Idealize.ShloMosaic.Lib.Pipeline.ValueKit

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

/-! ## Reads in two coordinates -/

section Reads
variable {sig : RefSig} {κ : Kind} {sp : Space} {e : EltTy} {Val : EltTy → Type} {N M n k : ℕ}

theorem peel_in (v : View sig κ sp (⟨2, ![N, M]⟩ : Shape) e) (f : v.ty.Contents Val) (a b : ℕ) {off : Fin 2 → ℕ}
    (inb : ∀ x, off x + ![n, k] x ≤ (⟨2, ![N, M]⟩ : Shape).size x)
    (w : (Rect.unit (s := ⟨2, ![N, M]⟩) off ![n, k] inb).shape.Idx → Val e) (L : List (View.Piece Val (⟨2, ![N, M]⟩ : Shape) e))
    (R : Fin N) (C : Fin M) (heq : off = ![a, b]) (hR : a ≤ R.val) (hR' : R.val < a + n) (hC : b ≤ C.val) (hC' : C.val < b + k) :
    v.read Val (v.writes Val f ((⟨Rect.unit (s := ⟨2, ![N, M]⟩) off ![n, k] inb, w⟩ : View.Piece Val _ e) :: L)) (ix2 R C)
      = w (ix2 (⟨R.val - a, by omega⟩ : Fin n) (⟨C.val - b, by omega⟩ : Fin k)) := by
  refine View.read_writes_cons_unit_of_mem v f inb w L (ix2 R C) (ix2 (⟨R.val - a, by omega⟩ : Fin n) (⟨C.val - b, by omega⟩ : Fin k)) heq fun x => ?_
  fin_cases x
  · show R.val = a + (R.val - a); omega
  · show C.val = b + (C.val - b); omega

theorem peel_out (v : View sig κ sp (⟨2, ![N, M]⟩ : Shape) e) (f : v.ty.Contents Val) (a b : ℕ) {off : Fin 2 → ℕ}
    (inb : ∀ x, off x + ![n, k] x ≤ (⟨2, ![N, M]⟩ : Shape).size x)
    (w : (Rect.unit (s := ⟨2, ![N, M]⟩) off ![n, k] inb).shape.Idx → Val e) (L : List (View.Piece Val (⟨2, ![N, M]⟩ : Shape) e))
    (R : Fin N) (C : Fin M) (heq : off = ![a, b]) (h : R.val < a ∨ a + n ≤ R.val ∨ C.val < b ∨ b + k ≤ C.val) :
    v.read Val (v.writes Val f ((⟨Rect.unit (s := ⟨2, ![N, M]⟩) off ![n, k] inb, w⟩ : View.Piece Val _ e) :: L)) (ix2 R C)
      = v.read Val (v.writes Val f L) (ix2 R C) := by
  rcases h with h | h | h | h
  · exact View.read_writes_cons_unit_of_not_mem v f inb w L _ heq 0 (Or.inl h)
  · exact View.read_writes_cons_unit_of_not_mem v f inb w L _ heq 0 (Or.inr h)
  · exact View.read_writes_cons_unit_of_not_mem v f inb w L _ heq 1 (Or.inl h)
  · exact View.read_writes_cons_unit_of_not_mem v f inb w L _ heq 1 (Or.inr h)

theorem idx_unit (a b : ℕ) {off : Fin 2 → ℕ} (inb : ∀ x, off x + ![n, k] x ≤ (⟨2, ![N, M]⟩ : Shape).size x) (heq : off = ![a, b])
    (r : Fin n) (c : Fin k) (hr : a + r.val < N) (hc : b + c.val < M) :
    (Rect.unit (s := ⟨2, ![N, M]⟩) off ![n, k] inb).idx (ix2 r c) = ix2 (⟨a + r.val, hr⟩ : Fin N) (⟨b + c.val, hc⟩ : Fin M) := by
  subst heq
  funext x
  fin_cases x
  · exact Fin.ext (show a + 1 * r.val = a + r.val by omega)
  · exact Fin.ext (show b + 1 * c.val = b + c.val by omega)

theorem cov_apply [∀ e, Nonempty (Val e)] (v : View sig κ sp (⟨2, ![N, M]⟩ : Shape) e) (L : List (View.Piece Val (⟨2, ![N, M]⟩ : Shape) e))
    (a b : ℕ) {off : Fin 2 → ℕ} (inb : ∀ x, off x + ![n, k] x ≤ (⟨2, ![N, M]⟩ : Shape).size x) (heq : off = ![a, b])
    (r : Fin n) (c : Fin k) (hr : a + r.val < N) (hc : b + c.val < M) :
    v.readCov L (Rect.unit (s := ⟨2, ![N, M]⟩) off ![n, k] inb).toLoadRect (ix2 r c)
      = v.read Val (v.writes Val v.junk L) (ix2 (⟨a + r.val, hr⟩ : Fin N) (⟨b + c.val, hc⟩ : Fin M)) := by
  rw [← idx_unit a b inb heq r c hr hc, View.readCov, View.readAt_apply]

theorem ld_apply2 (X : (⟨2, ![N, M]⟩ : Shape).Idx → Val e) (a b : ℕ) {off : Fin 2 → ℕ}
    (inb : ∀ x, off x + ![n, k] x ≤ (⟨2, ![N, M]⟩ : Shape).size x) (heq : off = ![a, b])
    (r : Fin n) (c : Fin k) (hr : a + r.val < N) (hc : b + c.val < M) :
    View.ld X (Rect.unit (s := ⟨2, ![N, M]⟩) off ![n, k] inb) (ix2 r c) = X (ix2 (⟨a + r.val, hr⟩ : Fin N) (⟨b + c.val, hc⟩ : Fin M)) := by
  rw [← idx_unit a b inb heq r c hr hc, View.ld_apply]

/-- A load of a rectangle, at the place of an index of the whole in it. -/
theorem ld_back (X : (⟨2, ![N, M]⟩ : Shape).Idx → Val e) (a b : ℕ) {off : Fin 2 → ℕ}
    (inb : ∀ x, off x + ![n, k] x ≤ (⟨2, ![N, M]⟩ : Shape).size x) (heq : off = ![a, b])
    (R : Fin N) (C : Fin M) (hR : a ≤ R.val) (hR' : R.val - a < n) (hC : b ≤ C.val) (hC' : C.val - b < k) :
    View.ld X (Rect.unit (s := ⟨2, ![N, M]⟩) off ![n, k] inb) (ix2 (⟨R.val - a, hR'⟩ : Fin n) (⟨C.val - b, hC'⟩ : Fin k)) = X (ix2 R C) := by
  rw [ld_apply2 X a b inb heq _ _ (by show a + (R.val - a) < N; omega) (by show b + (C.val - b) < M; omega)]
  congr 2
  · exact Fin.ext (by show a + (R.val - a) = R.val; omega)
  · exact Fin.ext (by show b + (C.val - b) = C.val; omega)

theorem cov_back [∀ e, Nonempty (Val e)] (v : View sig κ sp (⟨2, ![N, M]⟩ : Shape) e) (L : List (View.Piece Val (⟨2, ![N, M]⟩ : Shape) e))
    (a b : ℕ) {off : Fin 2 → ℕ} (inb : ∀ x, off x + ![n, k] x ≤ (⟨2, ![N, M]⟩ : Shape).size x) (heq : off = ![a, b])
    (R : Fin N) (C : Fin M) (hR : a ≤ R.val) (hR' : R.val - a < n) (hC : b ≤ C.val) (hC' : C.val - b < k) :
    v.readCov L (Rect.unit (s := ⟨2, ![N, M]⟩) off ![n, k] inb).toLoadRect (ix2 (⟨R.val - a, hR'⟩ : Fin n) (⟨C.val - b, hC'⟩ : Fin k))
      = v.read Val (v.writes Val v.junk L) (ix2 R C) := by
  rw [cov_apply v L a b inb heq _ _ (by show a + (R.val - a) < N; omega) (by show b + (C.val - b) < M; omega)]
  congr 2
  · exact Fin.ext (by show a + (R.val - a) = R.val; omega)
  · exact Fin.ext (by show b + (C.val - b) = C.val; omega)
end Reads

/-! ## The blocks -/

variable (m : (ℓ : Loc nD τ sig) → Buf (Elt Ideal) ℓ)

/-- One device's arrays. -/
def G (c : Dev nD) : Data where
  Q := at2 (n := 2048) (m := 4096) (V m c main_v40)
  KV := at2 (n := 2048) (m := 4096) (V m c main_arg1)
  KR := at2 (n := 2048) (m := 128) (V m c main_arg2)
  O := at2 (n := 2048) (m := 2048) (V m c main_v41)
  DO := at2 (n := 2048) (m := 2048) (V m c main_arg3)
  LS := at3 (n := 16) (m := 2048) (k := 128) (V m c main_v38)
  T := at2 (n := 2048) (m := 256) (V m c main_arg4)

theorem idx : ∀ t : Fin cfg0.N, t.val / 4 % 4 ≤ t.val % 4 →
    win0_0.index t 0 = t.val % 4 ∧ win0_0.index t 1 = t.val / 16
    ∧ win0_1.index t 0 = t.val / 4 % 4 ∧ win0_1.index t 1 = t.val / 16
    ∧ win0_2.index t 0 = t.val / 4 % 4 ∧ win0_2.index t 1 = 0
    ∧ win0_3.index t 0 = t.val / 4 % 4 ∧ win0_3.index t 1 = 8 + t.val / 16
    ∧ win0_4.index t 0 = t.val % 4 ∧ win0_4.index t 1 = t.val / 16
    ∧ win0_5.index t 0 = t.val % 4 ∧ win0_5.index t 1 = t.val / 16
    ∧ win0_6.index t 0 = t.val / 16 ∧ win0_6.index t 1 = t.val % 4 ∧ win0_6.index t 2 = 0
    ∧ win0_7.index t 0 = 0 ∧ win0_7.index t 1 = 0 := by decide +kernel

theorem blk_0 (c : Dev nD) (t : Fin cfg0.N) (ht : t.val / 4 % 4 ≤ t.val % 4) (r : Fin 512) (k : Fin 512) (R C : ℕ)
    (hR : R = 512 * (t.val % 4) + r.val) (hC : C = 512 * (t.val / 16) + k.val) :
    iblk m c 0 t (ix2 r k) = (G m c).Q R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 4096) (V m c main_v40) ⟨R, by omega⟩ ⟨C, by omega⟩ R C rfl rfl).symm
  subst hR hC
  blk_ext [iblk, e0, e1]

theorem blk_1 (c : Dev nD) (t : Fin cfg0.N) (ht : t.val / 4 % 4 ≤ t.val % 4) (r : Fin 512) (k : Fin 256) (R C : ℕ)
    (hR : R = 512 * (t.val / 4 % 4) + r.val) (hC : C = 256 * (t.val / 16) + k.val) :
    iblk m c 1 t (ix2 r k) = (G m c).KV R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 4096) (V m c main_arg1) ⟨R, by omega⟩ ⟨C, by omega⟩ R C rfl rfl).symm
  subst hR hC
  blk_ext [iblk, e2, e3]

theorem blk_2 (c : Dev nD) (t : Fin cfg0.N) (ht : t.val / 4 % 4 ≤ t.val % 4) (r : Fin 512) (k : Fin 128) (R C : ℕ)
    (hR : R = 512 * (t.val / 4 % 4) + r.val) (hC : C = k.val) :
    iblk m c 2 t (ix2 r k) = (G m c).KR R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 128) (V m c main_arg2) ⟨R, by omega⟩ ⟨C, by omega⟩ R C rfl rfl).symm
  subst hR hC
  blk_ext [iblk, e4, e5]

theorem blk_3 (c : Dev nD) (t : Fin cfg0.N) (ht : t.val / 4 % 4 ≤ t.val % 4) (r : Fin 512) (k : Fin 256) (R C : ℕ)
    (hR : R = 512 * (t.val / 4 % 4) + r.val) (hC : C = 256 * (8 + t.val / 16) + k.val) :
    iblk m c 3 t (ix2 r k) = (G m c).KV R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 4096) (V m c main_arg1) ⟨R, by omega⟩ ⟨C, by omega⟩ R C rfl rfl).symm
  subst hR hC
  blk_ext [iblk, e6, e7]

theorem blk_4 (c : Dev nD) (t : Fin cfg0.N) (ht : t.val / 4 % 4 ≤ t.val % 4) (r : Fin 512) (k : Fin 256) (R C : ℕ)
    (hR : R = 512 * (t.val % 4) + r.val) (hC : C = 256 * (t.val / 16) + k.val) :
    iblk m c 4 t (ix2 r k) = (G m c).O R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 2048) (V m c main_v41) ⟨R, by omega⟩ ⟨C, by omega⟩ R C rfl rfl).symm
  subst hR hC
  blk_ext [iblk, e8, e9]

theorem blk_5 (c : Dev nD) (t : Fin cfg0.N) (ht : t.val / 4 % 4 ≤ t.val % 4) (r : Fin 512) (k : Fin 256) (R C : ℕ)
    (hR : R = 512 * (t.val % 4) + r.val) (hC : C = 256 * (t.val / 16) + k.val) :
    iblk m c 5 t (ix2 r k) = (G m c).DO R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 2048) (V m c main_arg3) ⟨R, by omega⟩ ⟨C, by omega⟩ R C rfl rfl).symm
  subst hR hC
  blk_ext [iblk, e10, e11]

theorem blk_7 (c : Dev nD) (t : Fin cfg0.N) (ht : t.val / 4 % 4 ≤ t.val % 4) (r : Fin 2048) (k : Fin 256) (R C : ℕ)
    (hR : R = r.val) (hC : C = k.val) :
    iblk m c 7 t (ix2 r k) = (G m c).T R C := by
  obtain ⟨e0, e1, e2, e3, e4, e5, e6, e7, e8, e9, e10, e11, e12, e13, e14, e15, e16⟩ := idx t ht
  have hN : t.val < 128 := lt_of_lt_of_eq t.isLt N_0
  refine Eq.trans ?_ (at2_eq (n := 2048) (m := 256) (V m c main_arg4) ⟨R, by omega⟩ ⟨C, by omega⟩ R C rfl rfl).symm
  subst hR hC
  blk_ext [iblk, e15, e16]

theorem read_6 (c : Dev nD) (t : Fin cfg0.N) (A : Buf (Elt Ideal) ((c : Thread nD τ).loc (Pipeline.arrRef spec0 6))) (x : S2x512x128.Idx) :
    ((cfg0.win 6).blk t).view.read (Elt Ideal) A x = A ((win0_6.blk t).view.emb x) := rfl

theorem emb_6 (t : Fin cfg0.N) (ht : t.val / 4 % 4 ≤ t.val % 4) (h : Fin 2) (r : Fin 512) (z : Fin 128) (hN : t.val < 128) :
    (win0_6.blk t).view.emb (ix3 h r z)
      = (ix3 (⟨2 * (t.val / 16) + h.val, by omega⟩ : Fin 16) (⟨512 * (t.val % 4) + r.val, by omega⟩ : Fin 2048) z : S16x2048x128.Idx) := by
  obtain ⟨e0, e1, e2, e3, e4, e5, e6, e7, e8, e9, e10, e11, e12, e13, e14, e15, e16⟩ := idx t ht
  blk_ext [e12, e13, e14]

theorem blk_6 (c : Dev nD) (t : Fin cfg0.N) (ht : t.val / 4 % 4 ≤ t.val % 4) (h : Fin 2) (r : Fin 512) (z : Fin 128) (hz : z.val = 0) (H R : ℕ)
    (hH : H = 2 * (t.val / 16) + h.val) (hR : R = 512 * (t.val % 4) + r.val) :
    iblk m c 6 t (ix3 h r z) = (G m c).LS H R := by
  have hN : t.val < 128 := lt_of_lt_of_eq t.isLt N_0
  refine Eq.trans ?_ (at3_eq (n := 16) (m := 2048) (k := 128) (V m c main_v38) ⟨H, by omega⟩ ⟨R, by omega⟩ z H R rfl rfl hz).symm
  subst hH hR
  unfold iblk
  rw [read_6 c t _ (ix3 h r z), emb_6 t ht h r z hN]

/-! ## The pieces -/

theorem idx_lse (hh a : ℕ) (inb : ∀ x, (![hh, a, 0] : Fin 3 → ℕ) x + ![1, 256, 1] x ≤ (⟨3, ![2, 512, 128]⟩ : Shape).size x)
    (r : Fin 256) (h1 : hh < 2) (h2 : a + r.val < 512) :
    (Rect.unit (s := ⟨3, ![2, 512, 128]⟩) ![hh, a, 0] ![1, 256, 1] inb).idx (ix3 (0 : Fin 1) r (0 : Fin 1))
      = ix3 (⟨hh, h1⟩ : Fin 2) (⟨a + r.val, h2⟩ : Fin 512) (0 : Fin 128) := by
  funext x
  fin_cases x
  · exact Fin.ext (show hh + 1 * 0 = hh by omega)
  · exact Fin.ext (show a + 1 * r.val = a + r.val by omega)
  · exact Fin.ext (show 0 + 1 * 0 = 0 by omega)

/-- The pieces the body loads for head `hh` of the pair, the queries from row `a` of the block and the first `n` keys of the
    block, are those of the whole arrays. -/
theorem ck_of (c : Dev nD) (t : Fin cfg0.N) (ht : t.val / 4 % 4 ≤ t.val % 4) (hh a n b256 b128 : ℕ) (hhh : hh < 2) (ha : a + 256 ≤ 512)
    (hn : n ≤ 512) (h256 : b256 = 256 * hh) (h128 : b128 = 128 * hh) {i0 i1 i2 i3 i4 i5 i6} :
    Ck (G m c) (2 * (t.val / 16) + hh) (512 * (t.val % 4) + a) (512 * (t.val / 4 % 4)) n
      (View.ld (Val := Elt Ideal) (e' := .bf16) (iblk m c 0 t) (Rect.unit (s := S512x512) ![a, b256] ![256, 256] i0))
      (View.ld (Val := Elt Ideal) (e' := .bf16) (iblk m c 1 t) (Rect.unit (s := S512x256) ![0, b128] ![n, 128] i1))
      (View.ld (Val := Elt Ideal) (e' := .bf16) (iblk m c 2 t) (Rect.unit (s := S512x128) ![0, 0] ![n, 128] i2))
      (View.ld (Val := Elt Ideal) (e' := .f32) (iblk m c 6 t) (Rect.unit (s := S2x512x128) ![hh, a, 0] ![1, 256, 1] i6))
      (View.ld (Val := Elt Ideal) (e' := .bf16) (iblk m c 3 t) (Rect.unit (s := S512x256) ![0, b128] ![n, 128] i3))
      (View.ld (Val := Elt Ideal) (e' := .bf16) (iblk m c 4 t) (Rect.unit (s := S512x256) ![a, b128] ![256, 128] i4))
      (View.ld (Val := Elt Ideal) (e' := .bf16) (iblk m c 5 t) (Rect.unit (s := S512x256) ![a, b128] ![256, 128] i5)) := by
  subst h256 h128
  constructor
  · intro r k
    rw [ld_apply2 (Val := Elt Ideal) (e := .bf16) (N := 512) (M := 512) (n := 256) (k := 256) (iblk m c 0 t) a (256 * hh) _ rfl r k (by omega) (by omega)]
    exact blk_0 m c t ht _ _ _ _ (by show _ = _ + (a + r.val); omega) (by show _ = _ + (256 * hh + k.val); omega)
  · intro r k
    rw [ld_apply2 (Val := Elt Ideal) (e := .bf16) (N := 512) (M := 256) (n := n) (k := 128) (iblk m c 1 t) 0 (128 * hh) _ rfl r k (by omega) (by omega)]
    exact blk_1 m c t ht _ _ _ _ (by show _ = _ + (0 + r.val); omega) (by show _ = _ + (128 * hh + k.val); omega)
  · intro r k
    rw [ld_apply2 (Val := Elt Ideal) (e := .bf16) (N := 512) (M := 128) (n := n) (k := 128) (iblk m c 2 t) 0 0 _ rfl r k (by omega) (by omega)]
    exact blk_2 m c t ht _ _ _ _ (by show _ = _ + (0 + r.val); omega) (by show _ = 0 + k.val; omega)
  · intro r
    rw [View.ld_apply, idx_lse hh a _ r hhh (by omega)]
    exact blk_6 m c t ht _ _ _ rfl _ _ rfl (by show _ = _ + (a + r.val); omega)
  · intro r k
    rw [ld_apply2 (Val := Elt Ideal) (e := .bf16) (N := 512) (M := 256) (n := n) (k := 128) (iblk m c 3 t) 0 (128 * hh) _ rfl r k (by omega) (by omega)]
    exact blk_3 m c t ht _ _ _ _ (by show _ = _ + (0 + r.val); omega) (by show _ = _ + (128 * hh + k.val); omega)
  · intro r k
    rw [ld_apply2 (Val := Elt Ideal) (e := .bf16) (N := 512) (M := 256) (n := 256) (k := 128) (iblk m c 4 t) a (128 * hh) _ rfl r k (by omega) (by omega)]
    exact blk_4 m c t ht _ _ _ _ (by show _ = _ + (a + r.val); omega) (by show _ = _ + (128 * hh + k.val); omega)
  · intro r k
    rw [ld_apply2 (Val := Elt Ideal) (e := .bf16) (N := 512) (M := 256) (n := 256) (k := 128) (iblk m c 5 t) a (128 * hh) _ rfl r k (by omega) (by omega)]
    exact blk_5 m c t ht _ _ _ _ (by show _ = _ + (a + r.val); omega) (by show _ = _ + (128 * hh + k.val); omega)

theorem off_hi (t : Fin cfg0.N) (b : ℕ) :
    (![BitVec.toNat (Scalar.indexCast (Scalar.addi (Scalar.muli (BitVec.ofNat 32 (grid0.coords t 2).val) 512#32) 256#32)), b] : Fin 2 → ℕ)
      = ![512 * (t.val % 4) + 256, b] := by
  rw [(by decide +kernel : ∀ t : Fin grid0.N, BitVec.toNat (Scalar.indexCast (Scalar.addi (Scalar.muli (BitVec.ofNat 32 (grid0.coords t 2).val) 512#32) 256#32)) = 512 * (t.val % 4) + 256) t]

theorem off_lo (t : Fin cfg0.N) (b : ℕ) :
    (![BitVec.toNat (Scalar.indexCast (Scalar.addi (Scalar.muli (BitVec.ofNat 32 (grid0.coords t 2).val) 512#32) 0#32)), b] : Fin 2 → ℕ)
      = ![512 * (t.val % 4), b] := by
  rw [(by decide +kernel : ∀ t : Fin grid0.N, BitVec.toNat (Scalar.indexCast (Scalar.addi (Scalar.muli (BitVec.ofNat 32 (grid0.coords t 2).val) 512#32) 0#32)) = 512 * (t.val % 4)) t]

end Cert.KernelIdeal.Attn

end
-- ==== Proof.AttnIStepD.lean ====
/- What a block on the diagonal adds to the key and value gradients. -/
module

public import proofs.«01_k».proof.Proof.AttnIVal
public import Idealize.ShloMosaic.Lib.Pipeline.ReadBack

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

variable (m : (ℓ : Loc nD τ sig) → Buf (Elt Ideal) ℓ)

set_option maxHeartbeats 1600000 in
theorem dk_A (c : Dev nD) (t : Fin cfg0.N) (h) (s : State Ideal) (R : Fin 512) (C : Fin 512) :
    (afterA m c t h s).1 (ix2 R C)
      = ∑ x ∈ Finset.range 512, dkT (G m c) (2 * (t.val / 16) + C.val / 256) (512 * (t.val / 4 % 4) + R.val) (C.val % 256) (512 * (t.val % 4) + x) := by
  have e1 : t.val % 4 = t.val / 4 % 4 := by omega
  have ht : t.val / 4 % 4 ≤ t.val % 4 := by omega
  unfold afterA atA
  dsimp only
  unfold runA
  dsimp only
  sl_unfold_words
  simp only [View.readAt_eq_ld, Memref.IsWhole.read_unread, read_unread_whole]
  by_cases hC : C.val < 256 <;> by_cases hR : R.val < 256
  · rw [peel_out _ _ 0 256 _ _ _ R C rfl (by omega), peel_out _ _ 0 256 _ _ _ R C rfl (by omega), peel_in _ _ 0 0 _ _ _ R C rfl (by omega) (by omega) (by omega) (by omega)]
    refine (pay22_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay15_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_out _ _ 0 256 _ _ _ R C rfl (by omega), peel_out _ _ 0 0 _ _ _ R C rfl (by omega), peel_in _ _ 0 0 _ _ _ R C rfl (by omega) (by omega) (by omega) (by omega)]
    refine (pay15_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))
  · rw [peel_in _ _ 0 256 _ _ _ R C rfl (by omega) (by omega) (by omega) (by omega)]
    refine (pay36_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 256 _ rfl R C (by omega) (by omega) (by omega) (by omega))).trans ?_
    try dsimp only
    rw [peel_in _ _ 0 256 _ _ _ R C rfl (by omega) (by omega) (by omega) (by omega)]
    refine (congrArg (· + _) (pay29_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_in _ _ 0 256 _ _ _ R C rfl (by omega) (by omega) (by omega) (by omega)]
    refine (pay29_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))

set_option maxHeartbeats 1600000 in
theorem dv_A (c : Dev nD) (t : Fin cfg0.N) (h) (s : State Ideal) (R : Fin 512) (C : Fin 256) :
    (afterA m c t h s).2.1 (ix2 R C)
      = ∑ x ∈ Finset.range 512, dvT (G m c) (2 * (t.val / 16) + C.val / 128) (512 * (t.val / 4 % 4) + R.val) (C.val % 128) (512 * (t.val % 4) + x) := by
  have e1 : t.val % 4 = t.val / 4 % 4 := by omega
  have ht : t.val / 4 % 4 ≤ t.val % 4 := by omega
  unfold afterA atA
  dsimp only
  unfold runA
  dsimp only
  sl_unfold_words
  simp only [View.readAt_eq_ld, Memref.IsWhole.read_unread, read_unread_whole]
  by_cases hC : C.val < 128 <;> by_cases hR : R.val < 256
  · rw [peel_out _ _ 0 128 _ _ _ R C rfl (by omega), peel_out _ _ 0 128 _ _ _ R C rfl (by omega), peel_in _ _ 0 0 _ _ _ R C rfl (by omega) (by omega) (by omega) (by omega)]
    refine (pay21_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay14_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_out _ _ 0 128 _ _ _ R C rfl (by omega), peel_out _ _ 0 0 _ _ _ R C rfl (by omega), peel_in _ _ 0 0 _ _ _ R C rfl (by omega) (by omega) (by omega) (by omega)]
    refine (pay14_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))
  · rw [peel_in _ _ 0 128 _ _ _ R C rfl (by omega) (by omega) (by omega) (by omega)]
    refine (pay35_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 128 _ rfl R C (by omega) (by omega) (by omega) (by omega))).trans ?_
    try dsimp only
    rw [peel_in _ _ 0 128 _ _ _ R C rfl (by omega) (by omega) (by omega) (by omega)]
    refine (congrArg (· + _) (pay28_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_in _ _ 0 128 _ _ _ R C rfl (by omega) (by omega) (by omega) (by omega)]
    refine (pay28_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))

set_option maxHeartbeats 1600000 in
theorem dk_D (c : Dev nD) (t : Fin cfg0.N) (h) (s : State Ideal) (R : Fin 512) (C : Fin 512) :
    (afterD m c t h s).1 (ix2 R C)
      = ∑ x ∈ Finset.range 512, dkT (G m c) (2 * (t.val / 16) + C.val / 256) (512 * (t.val / 4 % 4) + R.val) (C.val % 256) (512 * (t.val % 4) + x) := by
  have e1 : t.val % 4 = t.val / 4 % 4 := h.1
  have ht : t.val / 4 % 4 ≤ t.val % 4 := by omega
  unfold afterD atD
  dsimp only
  unfold runD
  dsimp only
  sl_unfold_words
  simp only [View.readAt_eq_ld, Memref.IsWhole.read_unread, read_unread_whole]
  by_cases hC : C.val < 256 <;> by_cases hR : R.val < 256
  · rw [peel_out _ _ 0 256 _ _ _ R C rfl (by omega), peel_out _ _ 0 256 _ _ _ R C rfl (by omega), peel_in _ _ 0 0 _ _ _ R C rfl (by omega) (by omega) (by omega) (by omega)]
    refine (pay22_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay15_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_out _ _ 0 256 _ _ _ R C rfl (by omega), peel_out _ _ 0 0 _ _ _ R C rfl (by omega), peel_in _ _ 0 0 _ _ _ R C rfl (by omega) (by omega) (by omega) (by omega)]
    refine (pay15_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))
  · rw [peel_in _ _ 0 256 _ _ _ R C rfl (by omega) (by omega) (by omega) (by omega)]
    refine (pay36_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 256 _ rfl R C (by omega) (by omega) (by omega) (by omega))).trans ?_
    try dsimp only
    rw [peel_in _ _ 0 256 _ _ _ R C rfl (by omega) (by omega) (by omega) (by omega)]
    refine (congrArg (· + _) (pay29_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_in _ _ 0 256 _ _ _ R C rfl (by omega) (by omega) (by omega) (by omega)]
    refine (pay29_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))

set_option maxHeartbeats 1600000 in
theorem dv_D (c : Dev nD) (t : Fin cfg0.N) (h) (s : State Ideal) (R : Fin 512) (C : Fin 256) :
    (afterD m c t h s).2.1 (ix2 R C)
      = ∑ x ∈ Finset.range 512, dvT (G m c) (2 * (t.val / 16) + C.val / 128) (512 * (t.val / 4 % 4) + R.val) (C.val % 128) (512 * (t.val % 4) + x) := by
  have e1 : t.val % 4 = t.val / 4 % 4 := h.1
  have ht : t.val / 4 % 4 ≤ t.val % 4 := by omega
  unfold afterD atD
  dsimp only
  unfold runD
  dsimp only
  sl_unfold_words
  simp only [View.readAt_eq_ld, Memref.IsWhole.read_unread, read_unread_whole]
  by_cases hC : C.val < 128 <;> by_cases hR : R.val < 256
  · rw [peel_out _ _ 0 128 _ _ _ R C rfl (by omega), peel_out _ _ 0 128 _ _ _ R C rfl (by omega), peel_in _ _ 0 0 _ _ _ R C rfl (by omega) (by omega) (by omega) (by omega)]
    refine (pay21_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay14_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_out _ _ 0 128 _ _ _ R C rfl (by omega), peel_out _ _ 0 0 _ _ _ R C rfl (by omega), peel_in _ _ 0 0 _ _ _ R C rfl (by omega) (by omega) (by omega) (by omega)]
    refine (pay14_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))
  · rw [peel_in _ _ 0 128 _ _ _ R C rfl (by omega) (by omega) (by omega) (by omega)]
    refine (pay35_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 128 _ rfl R C (by omega) (by omega) (by omega) (by omega))).trans ?_
    try dsimp only
    rw [peel_in _ _ 0 128 _ _ _ R C rfl (by omega) (by omega) (by omega) (by omega)]
    refine (congrArg (· + _) (pay28_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_in _ _ 0 128 _ _ _ R C rfl (by omega) (by omega) (by omega) (by omega)]
    refine (pay28_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))

set_option maxHeartbeats 1600000 in
theorem dk_E (c : Dev nD) (t : Fin cfg0.N) (h) (s : State Ideal) (R : Fin 512) (C : Fin 512) :
    (afterE m c t h s).1 (ix2 R C)
      = ∑ x ∈ Finset.range 512, dkT (G m c) (2 * (t.val / 16) + C.val / 256) (512 * (t.val / 4 % 4) + R.val) (C.val % 256) (512 * (t.val % 4) + x) := by
  have e1 : t.val % 4 = t.val / 4 % 4 := by omega
  have ht : t.val / 4 % 4 ≤ t.val % 4 := by omega
  unfold afterE atE
  dsimp only
  unfold runE
  dsimp only
  sl_unfold_words
  simp only [View.readAt_eq_ld, Memref.IsWhole.read_unread, read_unread_whole]
  by_cases hC : C.val < 256 <;> by_cases hR : R.val < 256
  · rw [peel_out _ _ 0 256 _ _ _ R C rfl (by omega), peel_out _ _ 0 256 _ _ _ R C rfl (by omega), peel_in _ _ 0 0 _ _ _ R C rfl (by omega) (by omega) (by omega) (by omega)]
    refine (pay22_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay15_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_out _ _ 0 256 _ _ _ R C rfl (by omega), peel_out _ _ 0 0 _ _ _ R C rfl (by omega), peel_in _ _ 0 0 _ _ _ R C rfl (by omega) (by omega) (by omega) (by omega)]
    refine (pay15_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))
  · rw [peel_in _ _ 0 256 _ _ _ R C rfl (by omega) (by omega) (by omega) (by omega)]
    refine (pay36_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 256 _ rfl R C (by omega) (by omega) (by omega) (by omega))).trans ?_
    try dsimp only
    rw [peel_in _ _ 0 256 _ _ _ R C rfl (by omega) (by omega) (by omega) (by omega)]
    refine (congrArg (· + _) (pay29_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_out _ _ 0 256 _ _ _ R C rfl (by omega), peel_in _ _ 0 256 _ _ _ R C rfl (by omega) (by omega) (by omega) (by omega)]
    refine (pay29_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dkT (G m c) (2 * (t.val / 16) + C.val / 256) (512 * (t.val / 4 % 4) + R.val) (C.val % 256) (512 * (t.val % 4) + x)) (fun x hx => dkT_masked _ _ (by omega))]
    exact Finset.sum_congr (M := EReal) rfl fun x _ => dkT_congr _ (by first | omega | (dsimp only; omega)) (by first | omega | (dsimp only; omega)) (by first | omega | (dsimp only; omega)) (by first | omega | (dsimp only; omega))

set_option maxHeartbeats 1600000 in
theorem dv_E (c : Dev nD) (t : Fin cfg0.N) (h) (s : State Ideal) (R : Fin 512) (C : Fin 256) :
    (afterE m c t h s).2.1 (ix2 R C)
      = ∑ x ∈ Finset.range 512, dvT (G m c) (2 * (t.val / 16) + C.val / 128) (512 * (t.val / 4 % 4) + R.val) (C.val % 128) (512 * (t.val % 4) + x) := by
  have e1 : t.val % 4 = t.val / 4 % 4 := by omega
  have ht : t.val / 4 % 4 ≤ t.val % 4 := by omega
  unfold afterE atE
  dsimp only
  unfold runE
  dsimp only
  sl_unfold_words
  simp only [View.readAt_eq_ld, Memref.IsWhole.read_unread, read_unread_whole]
  by_cases hC : C.val < 128 <;> by_cases hR : R.val < 256
  · rw [peel_out _ _ 0 128 _ _ _ R C rfl (by omega), peel_out _ _ 0 128 _ _ _ R C rfl (by omega), peel_in _ _ 0 0 _ _ _ R C rfl (by omega) (by omega) (by omega) (by omega)]
    refine (pay21_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay14_apply (ck_of m c t ht 0 256 512 0 0 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_out _ _ 0 128 _ _ _ R C rfl (by omega), peel_out _ _ 0 0 _ _ _ R C rfl (by omega), peel_in _ _ 0 0 _ _ _ R C rfl (by omega) (by omega) (by omega) (by omega)]
    refine (pay14_apply (ck_of m c t ht 0 256 512 0 0 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))
  · rw [peel_in _ _ 0 128 _ _ _ R C rfl (by omega) (by omega) (by omega) (by omega)]
    refine (pay35_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 128 _ rfl R C (by omega) (by omega) (by omega) (by omega))).trans ?_
    try dsimp only
    rw [peel_in _ _ 0 128 _ _ _ R C rfl (by omega) (by omega) (by omega) (by omega)]
    refine (congrArg (· + _) (pay28_apply (ck_of m c t ht 1 256 512 256 128 (by omega) (by omega) (by omega) rfl rfl (i0 := by decide) (i1 := by decide) (i2 := by decide) (i3 := by decide) (i4 := by decide) (i5 := by decide) (i6 := by decide)) (by omega) _ _)).trans ?_
    try dsimp only
    rw [sum512]
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_out _ _ 0 128 _ _ _ R C rfl (by omega), peel_in _ _ 0 128 _ _ _ R C rfl (by omega) (by omega) (by omega) (by omega)]
    refine (pay28_apply (ck_of m c t ht 1 256 512 256 128 (by omega) (by omega) (by omega) rfl rfl (i0 := by decide) (i1 := by decide) (i2 := by decide) (i3 := by decide) (i4 := by decide) (i5 := by decide) (i6 := by decide)) (by omega) _ _).trans ?_
    rw [sum512_hi (fun x => dvT (G m c) (2 * (t.val / 16) + C.val / 128) (512 * (t.val / 4 % 4) + R.val) (C.val % 128) (512 * (t.val % 4) + x)) (fun x hx => dvT_masked _ _ (by omega))]
    exact Finset.sum_congr (M := EReal) rfl fun x _ => dvT_congr _ (by first | omega | (dsimp only; omega)) (by first | omega | (dsimp only; omega)) (by first | omega | (dsimp only; omega)) (by first | omega | (dsimp only; omega))

end Cert.KernelIdeal.Attn

end
-- ==== Proof.AttnIStepB.lean ====
/- What a block below the diagonal adds to the key and value gradients. -/
module

public import proofs.«01_k».proof.Proof.AttnIVal
public import Idealize.ShloMosaic.Lib.Pipeline.ReadBack

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

variable (m : (ℓ : Loc nD τ sig) → Buf (Elt Ideal) ℓ)

set_option maxHeartbeats 1600000 in
theorem dk_B (c : Dev nD) (t : Fin cfg0.N) (h) (s : State Ideal) (R : Fin 512) (C : Fin 512) :
    (afterB m c t h s).1 (ix2 R C)
      = s.1 (ix2 R C) + ∑ x ∈ Finset.range 512, dkT (G m c) (2 * (t.val / 16) + C.val / 256) (512 * (t.val / 4 % 4) + R.val) (C.val % 256) (512 * (t.val % 4) + x) := by
  have e1 : t.val / 4 % 4 < t.val % 4 := h.1
  have ht : t.val / 4 % 4 ≤ t.val % 4 := by omega
  unfold afterB atB
  dsimp only
  unfold runB
  dsimp only
  sl_unfold_words
  simp only [View.readAt_eq_ld, Memref.IsWhole.read_unread, read_unread_whole]
  by_cases hC : C.val < 256
  · rw [peel_out _ _ 0 256 _ _ _ R C rfl (by omega), peel_out _ _ 0 256 _ _ _ R C rfl (by omega), peel_in _ _ 0 0 _ _ _ R C rfl (by omega) (by omega) (by omega) (by omega)]
    refine (pay53_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay43_apply (ck_of m c t ht 0 0 512 0 0 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 0 _ rfl R C (by omega) (by omega) (by omega) (by omega)))).trans ?_
    try dsimp only
    rw [sum512, add_assoc]
    rw [add_comm (∑ r ∈ Finset.range 256, dkT _ _ _ _ _) (∑ r ∈ Finset.range 256, dkT _ _ _ _ _)]
    refine congrArg (s.1 (ix2 R C) + ·) ?_
    try dsimp only
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_in _ _ 0 256 _ _ _ R C rfl (by omega) (by omega) (by omega) (by omega)]
    refine (pay4_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 256 _ rfl R C (by omega) (by omega) (by omega) (by omega))).trans ?_
    try dsimp only
    rw [peel_in _ _ 0 256 _ _ _ R C rfl (by omega) (by omega) (by omega) (by omega)]
    refine (congrArg (· + _) (pay62_apply (ck_of m c t ht 1 0 512 256 128 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 256 _ rfl R C (by omega) (by omega) (by omega) (by omega)))).trans ?_
    try dsimp only
    rw [sum512, add_assoc]
    rw [add_comm (∑ r ∈ Finset.range 256, dkT _ _ _ _ _) (∑ r ∈ Finset.range 256, dkT _ _ _ _ _)]
    refine congrArg (s.1 (ix2 R C) + ·) ?_
    try dsimp only
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))

set_option maxHeartbeats 1600000 in
theorem dv_B (c : Dev nD) (t : Fin cfg0.N) (h) (s : State Ideal) (R : Fin 512) (C : Fin 256) :
    (afterB m c t h s).2.1 (ix2 R C)
      = s.2.1 (ix2 R C) + ∑ x ∈ Finset.range 512, dvT (G m c) (2 * (t.val / 16) + C.val / 128) (512 * (t.val / 4 % 4) + R.val) (C.val % 128) (512 * (t.val % 4) + x) := by
  have e1 : t.val / 4 % 4 < t.val % 4 := h.1
  have ht : t.val / 4 % 4 ≤ t.val % 4 := by omega
  unfold afterB atB
  dsimp only
  unfold runB
  dsimp only
  sl_unfold_words
  simp only [View.readAt_eq_ld, Memref.IsWhole.read_unread, read_unread_whole]
  by_cases hC : C.val < 128
  · rw [peel_out _ _ 0 128 _ _ _ R C rfl (by omega), peel_out _ _ 0 128 _ _ _ R C rfl (by omega), peel_in _ _ 0 0 _ _ _ R C rfl (by omega) (by omega) (by omega) (by omega)]
    refine (pay52_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay42_apply (ck_of m c t ht 0 0 512 0 0 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 0 _ rfl R C (by omega) (by omega) (by omega) (by omega)))).trans ?_
    try dsimp only
    rw [sum512, add_assoc]
    rw [add_comm (∑ r ∈ Finset.range 256, dvT _ _ _ _ _) (∑ r ∈ Finset.range 256, dvT _ _ _ _ _)]
    refine congrArg (s.2.1 (ix2 R C) + ·) ?_
    try dsimp only
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_in _ _ 0 128 _ _ _ R C rfl (by omega) (by omega) (by omega) (by omega)]
    refine (pay3_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 128 _ rfl R C (by omega) (by omega) (by omega) (by omega))).trans ?_
    try dsimp only
    rw [peel_in _ _ 0 128 _ _ _ R C rfl (by omega) (by omega) (by omega) (by omega)]
    refine (congrArg (· + _) (pay61_apply (ck_of m c t ht 1 0 512 256 128 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 128 _ rfl R C (by omega) (by omega) (by omega) (by omega)))).trans ?_
    try dsimp only
    rw [sum512, add_assoc]
    rw [add_comm (∑ r ∈ Finset.range 256, dvT _ _ _ _ _) (∑ r ∈ Finset.range 256, dvT _ _ _ _ _)]
    refine congrArg (s.2.1 (ix2 R C) + ·) ?_
    try dsimp only
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))

set_option maxHeartbeats 1600000 in
theorem dk_G (c : Dev nD) (t : Fin cfg0.N) (h) (s : State Ideal) (R : Fin 512) (C : Fin 512) :
    (afterG m c t h s).1 (ix2 R C)
      = s.1 (ix2 R C) + ∑ x ∈ Finset.range 512, dkT (G m c) (2 * (t.val / 16) + C.val / 256) (512 * (t.val / 4 % 4) + R.val) (C.val % 256) (512 * (t.val % 4) + x) := by
  have e1 : t.val / 4 % 4 < t.val % 4 := h.1
  have ht : t.val / 4 % 4 ≤ t.val % 4 := by omega
  unfold afterG atG
  dsimp only
  unfold runG
  dsimp only
  sl_unfold_words
  simp only [View.readAt_eq_ld, Memref.IsWhole.read_unread, read_unread_whole]
  by_cases hC : C.val < 256
  · rw [peel_out _ _ 0 256 _ _ _ R C rfl (by omega), peel_out _ _ 0 256 _ _ _ R C rfl (by omega), peel_in _ _ 0 0 _ _ _ R C rfl (by omega) (by omega) (by omega) (by omega)]
    refine (pay53_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay43_apply (ck_of m c t ht 0 0 512 0 0 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 0 _ rfl R C (by omega) (by omega) (by omega) (by omega)))).trans ?_
    try dsimp only
    rw [sum512, add_assoc]
    rw [add_comm (∑ r ∈ Finset.range 256, dkT _ _ _ _ _) (∑ r ∈ Finset.range 256, dkT _ _ _ _ _)]
    refine congrArg (s.1 (ix2 R C) + ·) ?_
    try dsimp only
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))
  · rw [peel_in _ _ 0 256 _ _ _ R C rfl (by omega) (by omega) (by omega) (by omega)]
    refine (pay4_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 256 _ rfl R C (by omega) (by omega) (by omega) (by omega))).trans ?_
    try dsimp only
    rw [peel_in _ _ 0 256 _ _ _ R C rfl (by omega) (by omega) (by omega) (by omega)]
    refine (congrArg (· + _) (pay62_apply (ck_of m c t ht 1 0 512 256 128 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 256 _ rfl R C (by omega) (by omega) (by omega) (by omega)))).trans ?_
    try dsimp only
    rw [sum512, add_assoc]
    rw [add_comm (∑ r ∈ Finset.range 256, dkT _ _ _ _ _) (∑ r ∈ Finset.range 256, dkT _ _ _ _ _)]
    refine congrArg (s.1 (ix2 R C) + ·) ?_
    try dsimp only
    refine congrArg₂ (· + ·) ?_ ?_
    · exact Finset.sum_congr (M := EReal) rfl fun x _ => dkT_congr _ (by first | omega | (dsimp only; omega)) (by first | omega | (dsimp only; omega)) (by first | omega | (dsimp only; omega)) (by first | omega | (dsimp only; omega))
    · exact Finset.sum_congr (M := EReal) rfl fun x _ => dkT_congr _ (by first | omega | (dsimp only; omega)) (by first | omega | (dsimp only; omega)) (by first | omega | (dsimp only; omega)) (by first | omega | (dsimp only; omega))

set_option maxHeartbeats 1600000 in
theorem dv_G (c : Dev nD) (t : Fin cfg0.N) (h) (s : State Ideal) (R : Fin 512) (C : Fin 256) :
    (afterG m c t h s).2.1 (ix2 R C)
      = s.2.1 (ix2 R C) + ∑ x ∈ Finset.range 512, dvT (G m c) (2 * (t.val / 16) + C.val / 128) (512 * (t.val / 4 % 4) + R.val) (C.val % 128) (512 * (t.val % 4) + x) := by
  have e1 : t.val / 4 % 4 < t.val % 4 := h.1
  have ht : t.val / 4 % 4 ≤ t.val % 4 := by omega
  unfold afterG atG
  dsimp only
  unfold runG
  dsimp only
  sl_unfold_words
  simp only [View.readAt_eq_ld, Memref.IsWhole.read_unread, read_unread_whole]
  by_cases hC : C.val < 128
  · rw [peel_out _ _ 0 128 _ _ _ R C rfl (by omega), peel_out _ _ 0 128 _ _ _ R C rfl (by omega), peel_in _ _ 0 0 _ _ _ R C rfl (by omega) (by omega) (by omega) (by omega)]
    refine (pay52_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 0 _ rfl R C (by omega) (by omega) (by omega) (by omega))).trans ?_
    try dsimp only
    rw [peel_in _ _ 0 0 _ _ _ R C rfl (by omega) (by omega) (by omega) (by omega)]
    refine (congrArg (· + _) (pay42_apply (ck_of m c t ht 0 0 512 0 0 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 0 _ rfl R C (by omega) (by omega) (by omega) (by omega)))).trans ?_
    try dsimp only
    rw [sum512, add_assoc]
    rw [add_comm (∑ r ∈ Finset.range 256, dvT _ _ _ _ _) (∑ r ∈ Finset.range 256, dvT _ _ _ _ _)]
    refine congrArg (s.2.1 (ix2 R C) + ·) ?_
    try dsimp only
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))
  · rw [peel_in _ _ 0 128 _ _ _ R C rfl (by omega) (by omega) (by omega) (by omega)]
    refine (pay3_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
    refine (congrArg (· + _) (cov_back _ _ 0 128 _ rfl R C (by omega) (by omega) (by omega) (by omega))).trans ?_
    try dsimp only
    rw [peel_in _ _ 0 128 _ _ _ R C rfl (by omega) (by omega) (by omega) (by omega)]
    refine (congrArg (· + _) (pay61_apply (ck_of m c t ht 1 0 512 256 128 (by omega) (by omega) (by omega) rfl rfl (i0 := by decide) (i1 := by decide) (i2 := by decide) (i3 := by decide) (i4 := by decide) (i5 := by decide) (i6 := by decide)) (by omega) _ _ _)).trans ?_
    try dsimp only
    refine (congrArg (· + _) (congrArg (· + _) (ld_back _ 0 128 _ rfl R C (by omega) (by omega) (by omega) (by omega)))).trans ?_
    try dsimp only
    rw [sum512, add_assoc]
    rw [add_comm (∑ r ∈ Finset.range 256, dvT _ _ _ _ _) (∑ r ∈ Finset.range 256, dvT _ _ _ _ _)]
    refine congrArg (s.2.1 (ix2 R C) + ·) ?_
    try dsimp only
    refine congrArg₂ (· + ·) ?_ ?_
    · exact Finset.sum_congr (M := EReal) rfl fun x _ => dvT_congr _ (by first | omega | (dsimp only; omega)) (by first | omega | (dsimp only; omega)) (by first | omega | (dsimp only; omega)) (by first | omega | (dsimp only; omega))
    · exact Finset.sum_congr (M := EReal) rfl fun x _ => dvT_congr _ (by first | omega | (dsimp only; omega)) (by first | omega | (dsimp only; omega)) (by first | omega | (dsimp only; omega)) (by first | omega | (dsimp only; omega))

end Cert.KernelIdeal.Attn

end
-- ==== Proof.AttnIStepQ.lean ====
/- What a block adds to the query gradient. -/
module

public import proofs.«01_k».proof.Proof.AttnIVal
public import Idealize.ShloMosaic.Lib.Pipeline.ReadBack

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

variable (m : (ℓ : Loc nD τ sig) → Buf (Elt Ideal) ℓ)

set_option maxHeartbeats 1600000 in
theorem dq_A (c : Dev nD) (t : Fin cfg0.N) (h) (s : State Ideal) (R : Fin 2048) (C : Fin 512) :
    (afterA m c t h s).2.2 (ix2 R C)
      = (if R.val / 512 = t.val % 4 then ∑ x ∈ Finset.range 512, dqT (G m c) (2 * (t.val / 16) + C.val / 256) R.val (C.val % 256) (512 * (t.val / 4 % 4) + x) else 0) := by
  have e1 : t.val % 4 = t.val / 4 % 4 := by omega
  have ht : t.val / 4 % 4 ≤ t.val % 4 := by omega
  unfold afterA atA
  dsimp only
  unfold runA
  dsimp only
  sl_unfold_words
  simp only [View.readAt_eq_ld, Memref.IsWhole.read_unread, read_unread_whole]
  by_cases hR : R.val / 512 = t.val % 4
  · rw [if_pos hR]
    by_cases hC : C.val < 256 <;> by_cases hr : R.val < (512 * (t.val % 4) + 256)
    · refine (peel_out _ _ (512 * (t.val % 4)) 256 _ _ _ R C (off_lo t _) (by omega)).trans ?_
      refine (peel_out _ _ (512 * (t.val % 4) + 256) 256 _ _ _ R C (off_hi t _) (by omega)).trans ?_
      refine (peel_in _ _ (512 * (t.val % 4)) 0 _ _ _ R C (off_lo t _) (by omega) (by omega) (by omega) (by omega)).trans ?_
      refine (pay20_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 0 _ (off_lo t _) R C (by omega) (by omega) (by omega) (by omega))).trans ?_
      try dsimp only
      refine (congrArg (· + _) (peel_out _ _ (512 * (t.val % 4) + 256) 0 _ _ _ R C (off_hi t _) (by omega))).trans ?_
      try dsimp only
      refine (congrArg (· + _) (peel_in _ _ 0 0 _ _ _ R C rfl (by omega) (by omega) (by omega) (by omega))).trans ?_
      try dsimp only
      refine (congrArg (· + _) (pay1_apply _)).trans ?_
      try dsimp only
      rw [zero_add]
      rw [sum512_lo (fun x => dqT (G m c) (2 * (t.val / 16) + C.val / 256) R.val (C.val % 256) (512 * (t.val / 4 % 4) + x)) (fun x hx => dqT_masked _ _ (by omega))]
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_out _ _ (512 * (t.val % 4) + 256) 256 _ _ _ R C (off_hi t _) (by omega)).trans ?_
      refine (peel_out _ _ (512 * (t.val % 4)) 0 _ _ _ R C (off_lo t _) (by omega)).trans ?_
      refine (peel_in _ _ (512 * (t.val % 4) + 256) 0 _ _ _ R C (off_hi t _) (by omega) (by omega) (by omega) (by omega)).trans ?_
      refine (pay13_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 0 _ (off_hi t _) R C (by omega) (by omega) (by omega) (by omega))).trans ?_
      try dsimp only
      refine (congrArg (· + _) (peel_in _ _ 0 0 _ _ _ R C rfl (by omega) (by omega) (by omega) (by omega))).trans ?_
      try dsimp only
      refine (congrArg (· + _) (pay1_apply _)).trans ?_
      try dsimp only
      rw [zero_add]
      exact Finset.sum_congr (M := EReal) rfl fun x _ => dqT_congr _ (by first | omega | (dsimp only; omega)) (by first | omega | (dsimp only; omega)) (by first | omega | (dsimp only; omega)) (by first | omega | (dsimp only; omega))
    · refine (peel_in _ _ (512 * (t.val % 4)) 256 _ _ _ R C (off_lo t _) (by omega) (by omega) (by omega) (by omega)).trans ?_
      refine (pay34_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 256 _ (off_lo t _) R C (by omega) (by omega) (by omega) (by omega))).trans ?_
      try dsimp only
      refine (congrArg (· + _) (peel_out _ _ (512 * (t.val % 4) + 256) 256 _ _ _ R C (off_hi t _) (by omega))).trans ?_
      try dsimp only
      refine (congrArg (· + _) (peel_out _ _ (512 * (t.val % 4)) 0 _ _ _ R C (off_lo t _) (by omega))).trans ?_
      try dsimp only
      refine (congrArg (· + _) (peel_out _ _ (512 * (t.val % 4) + 256) 0 _ _ _ R C (off_hi t _) (by omega))).trans ?_
      try dsimp only
      refine (congrArg (· + _) (peel_in _ _ 0 0 _ _ _ R C rfl (by omega) (by omega) (by omega) (by omega))).trans ?_
      try dsimp only
      refine (congrArg (· + _) (pay1_apply _)).trans ?_
      try dsimp only
      rw [zero_add]
      rw [sum512_lo (fun x => dqT (G m c) (2 * (t.val / 16) + C.val / 256) R.val (C.val % 256) (512 * (t.val / 4 % 4) + x)) (fun x hx => dqT_masked _ _ (by omega))]
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_in _ _ (512 * (t.val % 4) + 256) 256 _ _ _ R C (off_hi t _) (by omega) (by omega) (by omega) (by omega)).trans ?_
      refine (pay27_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 256 _ (off_hi t _) R C (by omega) (by omega) (by omega) (by omega))).trans ?_
      try dsimp only
      refine (congrArg (· + _) (peel_out _ _ (512 * (t.val % 4)) 0 _ _ _ R C (off_lo t _) (by omega))).trans ?_
      try dsimp only
      refine (congrArg (· + _) (peel_out _ _ (512 * (t.val % 4) + 256) 0 _ _ _ R C (off_hi t _) (by omega))).trans ?_
      try dsimp only
      refine (congrArg (· + _) (peel_in _ _ 0 0 _ _ _ R C rfl (by omega) (by omega) (by omega) (by omega))).trans ?_
      try dsimp only
      refine (congrArg (· + _) (pay1_apply _)).trans ?_
      try dsimp only
      rw [zero_add]
      exact Finset.sum_congr (M := EReal) rfl fun x _ => dqT_congr _ (by first | omega | (dsimp only; omega)) (by first | omega | (dsimp only; omega)) (by first | omega | (dsimp only; omega)) (by first | omega | (dsimp only; omega))
  · rw [if_neg hR]
    refine (peel_out _ _ (512 * (t.val % 4)) 256 _ _ _ R C (off_lo t _) (by omega)).trans ?_
    refine (peel_out _ _ (512 * (t.val % 4) + 256) 256 _ _ _ R C (off_hi t _) (by omega)).trans ?_
    refine (peel_out _ _ (512 * (t.val % 4)) 0 _ _ _ R C (off_lo t _) (by omega)).trans ?_
    refine (peel_out _ _ (512 * (t.val % 4) + 256) 0 _ _ _ R C (off_hi t _) (by omega)).trans ?_
    exact (peel_in _ _ 0 0 _ _ _ R C rfl (by omega) (by omega) (by omega) (by omega)).trans (pay1_apply _)

set_option maxHeartbeats 1600000 in
theorem dq_D (c : Dev nD) (t : Fin cfg0.N) (h) (s : State Ideal) (R : Fin 2048) (C : Fin 512) :
    (afterD m c t h s).2.2 (ix2 R C)
      = s.2.2 (ix2 R C) + (if R.val / 512 = t.val % 4 then ∑ x ∈ Finset.range 512, dqT (G m c) (2 * (t.val / 16) + C.val / 256) R.val (C.val % 256) (512 * (t.val / 4 % 4) + x) else 0) := by
  have e1 : t.val % 4 = t.val / 4 % 4 := h.1
  have ht : t.val / 4 % 4 ≤ t.val % 4 := by omega
  unfold afterD atD
  dsimp only
  unfold runD
  dsimp only
  sl_unfold_words
  simp only [View.readAt_eq_ld, Memref.IsWhole.read_unread, read_unread_whole]
  by_cases hR : R.val / 512 = t.val % 4
  · rw [if_pos hR]
    by_cases hC : C.val < 256 <;> by_cases hr : R.val < (512 * (t.val % 4) + 256)
    · refine (peel_out _ _ (512 * (t.val % 4)) 256 _ _ _ R C (off_lo t _) (by omega)).trans ?_
      refine (peel_out _ _ (512 * (t.val % 4) + 256) 256 _ _ _ R C (off_hi t _) (by omega)).trans ?_
      refine (peel_in _ _ (512 * (t.val % 4)) 0 _ _ _ R C (off_lo t _) (by omega) (by omega) (by omega) (by omega)).trans ?_
      refine (pay20_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 0 _ (off_lo t _) R C (by omega) (by omega) (by omega) (by omega))).trans ?_
      try dsimp only
      rw [sum512_lo (fun x => dqT (G m c) (2 * (t.val / 16) + C.val / 256) R.val (C.val % 256) (512 * (t.val / 4 % 4) + x)) (fun x hx => dqT_masked _ _ (by omega))]
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_out _ _ (512 * (t.val % 4) + 256) 256 _ _ _ R C (off_hi t _) (by omega)).trans ?_
      refine (peel_out _ _ (512 * (t.val % 4)) 0 _ _ _ R C (off_lo t _) (by omega)).trans ?_
      refine (peel_in _ _ (512 * (t.val % 4) + 256) 0 _ _ _ R C (off_hi t _) (by omega) (by omega) (by omega) (by omega)).trans ?_
      refine (pay13_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 0 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_in _ _ (512 * (t.val % 4)) 256 _ _ _ R C (off_lo t _) (by omega) (by omega) (by omega) (by omega)).trans ?_
      refine (pay34_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 256 _ (off_lo t _) R C (by omega) (by omega) (by omega) (by omega))).trans ?_
      try dsimp only
      rw [sum512_lo (fun x => dqT (G m c) (2 * (t.val / 16) + C.val / 256) R.val (C.val % 256) (512 * (t.val / 4 % 4) + x)) (fun x hx => dqT_masked _ _ (by omega))]
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_in _ _ (512 * (t.val % 4) + 256) 256 _ _ _ R C (off_hi t _) (by omega) (by omega) (by omega) (by omega)).trans ?_
      refine (pay27_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 256 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
  · rw [if_neg hR]
    refine (peel_out _ _ (512 * (t.val % 4)) 256 _ _ _ R C (off_lo t _) (by omega)).trans ?_
    refine (peel_out _ _ (512 * (t.val % 4) + 256) 256 _ _ _ R C (off_hi t _) (by omega)).trans ?_
    refine (peel_out _ _ (512 * (t.val % 4)) 0 _ _ _ R C (off_lo t _) (by omega)).trans ?_
    refine (peel_out _ _ (512 * (t.val % 4) + 256) 0 _ _ _ R C (off_hi t _) (by omega)).trans ?_
    rw [add_zero]
    exact congrFun (Memref.IsWhole.read_unread _ _) _

set_option maxHeartbeats 1600000 in
theorem dq_E (c : Dev nD) (t : Fin cfg0.N) (h) (s : State Ideal) (R : Fin 2048) (C : Fin 512) :
    (afterE m c t h s).2.2 (ix2 R C)
      = s.2.2 (ix2 R C) + (if R.val / 512 = t.val % 4 then ∑ x ∈ Finset.range 512, dqT (G m c) (2 * (t.val / 16) + C.val / 256) R.val (C.val % 256) (512 * (t.val / 4 % 4) + x) else 0) := by
  have e1 : t.val % 4 = t.val / 4 % 4 := by omega
  have ht : t.val / 4 % 4 ≤ t.val % 4 := by omega
  unfold afterE atE
  dsimp only
  unfold runE
  dsimp only
  sl_unfold_words
  simp only [View.readAt_eq_ld, Memref.IsWhole.read_unread, read_unread_whole]
  by_cases hR : R.val / 512 = t.val % 4
  · rw [if_pos hR]
    by_cases hC : C.val < 256 <;> by_cases hr : R.val < (512 * (t.val % 4) + 256)
    · refine (peel_out _ _ (512 * (t.val % 4)) 256 _ _ _ R C (off_lo t _) (by omega)).trans ?_
      refine (peel_out _ _ (512 * (t.val % 4) + 256) 256 _ _ _ R C (off_hi t _) (by omega)).trans ?_
      refine (peel_in _ _ (512 * (t.val % 4)) 0 _ _ _ R C (off_lo t _) (by omega) (by omega) (by omega) (by omega)).trans ?_
      refine (pay20_apply (ck_of m c t ht 0 0 256 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 0 _ (off_lo t _) R C (by omega) (by omega) (by omega) (by omega))).trans ?_
      try dsimp only
      rw [sum512_lo (fun x => dqT (G m c) (2 * (t.val / 16) + C.val / 256) R.val (C.val % 256) (512 * (t.val / 4 % 4) + x)) (fun x hx => dqT_masked _ _ (by omega))]
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_out _ _ (512 * (t.val % 4) + 256) 256 _ _ _ R C (off_hi t _) (by omega)).trans ?_
      refine (peel_out _ _ (512 * (t.val % 4)) 0 _ _ _ R C (off_lo t _) (by omega)).trans ?_
      refine (peel_in _ _ (512 * (t.val % 4) + 256) 0 _ _ _ R C (off_hi t _) (by omega) (by omega) (by omega) (by omega)).trans ?_
      refine (pay13_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 0 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_in _ _ (512 * (t.val % 4)) 256 _ _ _ R C (off_lo t _) (by omega) (by omega) (by omega) (by omega)).trans ?_
      refine (pay34_apply (ck_of m c t ht 1 0 256 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 256 _ (off_lo t _) R C (by omega) (by omega) (by omega) (by omega))).trans ?_
      try dsimp only
      rw [sum512_lo (fun x => dqT (G m c) (2 * (t.val / 16) + C.val / 256) R.val (C.val % 256) (512 * (t.val / 4 % 4) + x)) (fun x hx => dqT_masked _ _ (by omega))]
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4)) 256 _ _ _ R C (off_lo t _) (by omega)).trans ?_
      refine (peel_in _ _ (512 * (t.val % 4) + 256) 256 _ _ _ R C (off_hi t _) (by omega) (by omega) (by omega) (by omega)).trans ?_
      refine (pay27_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 256 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
  · rw [if_neg hR]
    refine (peel_out _ _ (512 * (t.val % 4)) 256 _ _ _ R C (off_lo t _) (by omega)).trans ?_
    refine (peel_out _ _ (512 * (t.val % 4) + 256) 256 _ _ _ R C (off_hi t _) (by omega)).trans ?_
    refine (peel_out _ _ (512 * (t.val % 4)) 0 _ _ _ R C (off_lo t _) (by omega)).trans ?_
    refine (peel_out _ _ (512 * (t.val % 4) + 256) 0 _ _ _ R C (off_hi t _) (by omega)).trans ?_
    rw [add_zero]
    exact congrFun (Memref.IsWhole.read_unread _ _) _

set_option maxHeartbeats 1600000 in
theorem dq_B (c : Dev nD) (t : Fin cfg0.N) (h) (s : State Ideal) (R : Fin 2048) (C : Fin 512) :
    (afterB m c t h s).2.2 (ix2 R C)
      = s.2.2 (ix2 R C) + (if R.val / 512 = t.val % 4 then ∑ x ∈ Finset.range 512, dqT (G m c) (2 * (t.val / 16) + C.val / 256) R.val (C.val % 256) (512 * (t.val / 4 % 4) + x) else 0) := by
  have e1 : t.val / 4 % 4 < t.val % 4 := h.1
  have ht : t.val / 4 % 4 ≤ t.val % 4 := by omega
  unfold afterB atB
  dsimp only
  unfold runB
  dsimp only
  sl_unfold_words
  simp only [View.readAt_eq_ld, Memref.IsWhole.read_unread, read_unread_whole]
  by_cases hR : R.val / 512 = t.val % 4
  · rw [if_pos hR]
    by_cases hC : C.val < 256 <;> by_cases hr : R.val < (512 * (t.val % 4) + 256)
    · refine (peel_out _ _ (512 * (t.val % 4) + 256) 256 _ _ _ R C (off_hi t _) (by omega)).trans ?_
      refine (peel_out _ _ (512 * (t.val % 4)) 256 _ _ _ R C (off_lo t _) (by omega)).trans ?_
      refine (peel_out _ _ (512 * (t.val % 4) + 256) 0 _ _ _ R C (off_hi t _) (by omega)).trans ?_
      refine (peel_in _ _ (512 * (t.val % 4)) 0 _ _ _ R C (off_lo t _) (by omega) (by omega) (by omega) (by omega)).trans ?_
      refine (pay41_apply (ck_of m c t ht 0 0 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 0 _ (off_lo t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4) + 256) 256 _ _ _ R C (off_hi t _) (by omega)).trans ?_
      refine (peel_out _ _ (512 * (t.val % 4)) 256 _ _ _ R C (off_lo t _) (by omega)).trans ?_
      refine (peel_in _ _ (512 * (t.val % 4) + 256) 0 _ _ _ R C (off_hi t _) (by omega) (by omega) (by omega) (by omega)).trans ?_
      refine (pay51_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 0 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4) + 256) 256 _ _ _ R C (off_hi t _) (by omega)).trans ?_
      refine (peel_in _ _ (512 * (t.val % 4)) 256 _ _ _ R C (off_lo t _) (by omega) (by omega) (by omega) (by omega)).trans ?_
      refine (pay58_apply (ck_of m c t ht 1 0 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 256 _ (off_lo t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_in _ _ (512 * (t.val % 4) + 256) 256 _ _ _ R C (off_hi t _) (by omega) (by omega) (by omega) (by omega)).trans ?_
      refine (pay2_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 256 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
  · rw [if_neg hR]
    refine (peel_out _ _ (512 * (t.val % 4) + 256) 256 _ _ _ R C (off_hi t _) (by omega)).trans ?_
    refine (peel_out _ _ (512 * (t.val % 4)) 256 _ _ _ R C (off_lo t _) (by omega)).trans ?_
    refine (peel_out _ _ (512 * (t.val % 4) + 256) 0 _ _ _ R C (off_hi t _) (by omega)).trans ?_
    refine (peel_out _ _ (512 * (t.val % 4)) 0 _ _ _ R C (off_lo t _) (by omega)).trans ?_
    rw [add_zero]
    exact congrFun (Memref.IsWhole.read_unread _ _) _

set_option maxHeartbeats 1600000 in
theorem dq_G (c : Dev nD) (t : Fin cfg0.N) (h) (s : State Ideal) (R : Fin 2048) (C : Fin 512) :
    (afterG m c t h s).2.2 (ix2 R C)
      = s.2.2 (ix2 R C) + (if R.val / 512 = t.val % 4 then ∑ x ∈ Finset.range 512, dqT (G m c) (2 * (t.val / 16) + C.val / 256) R.val (C.val % 256) (512 * (t.val / 4 % 4) + x) else 0) := by
  have e1 : t.val / 4 % 4 < t.val % 4 := h.1
  have ht : t.val / 4 % 4 ≤ t.val % 4 := by omega
  unfold afterG atG
  dsimp only
  unfold runG
  dsimp only
  sl_unfold_words
  simp only [View.readAt_eq_ld, Memref.IsWhole.read_unread, read_unread_whole]
  by_cases hR : R.val / 512 = t.val % 4
  · rw [if_pos hR]
    by_cases hC : C.val < 256 <;> by_cases hr : R.val < (512 * (t.val % 4) + 256)
    · refine (peel_out _ _ (512 * (t.val % 4) + 256) 256 _ _ _ R C (off_hi t _) (by omega)).trans ?_
      refine (peel_out _ _ (512 * (t.val % 4)) 256 _ _ _ R C (off_lo t _) (by omega)).trans ?_
      refine (peel_out _ _ (512 * (t.val % 4) + 256) 0 _ _ _ R C (off_hi t _) (by omega)).trans ?_
      refine (peel_in _ _ (512 * (t.val % 4)) 0 _ _ _ R C (off_lo t _) (by omega) (by omega) (by omega) (by omega)).trans ?_
      refine (pay41_apply (ck_of m c t ht 0 0 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 0 _ (off_lo t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4) + 256) 256 _ _ _ R C (off_hi t _) (by omega)).trans ?_
      refine (peel_out _ _ (512 * (t.val % 4)) 256 _ _ _ R C (off_lo t _) (by omega)).trans ?_
      refine (peel_in _ _ (512 * (t.val % 4) + 256) 0 _ _ _ R C (off_hi t _) (by omega) (by omega) (by omega) (by omega)).trans ?_
      refine (pay51_apply (ck_of m c t ht 0 256 512 0 0 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 0 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_out _ _ (512 * (t.val % 4) + 256) 256 _ _ _ R C (off_hi t _) (by omega)).trans ?_
      refine (peel_in _ _ (512 * (t.val % 4)) 256 _ _ _ R C (off_lo t _) (by omega) (by omega) (by omega) (by omega)).trans ?_
      refine (pay58_apply (ck_of m c t ht 1 0 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4)) 256 _ (off_lo t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
    · refine (peel_in _ _ (512 * (t.val % 4) + 256) 256 _ _ _ R C (off_hi t _) (by omega) (by omega) (by omega) (by omega)).trans ?_
      refine (pay2_apply (ck_of m c t ht 1 256 512 256 128 (by omega) (by omega) (by omega) rfl rfl (i0 := by decide) (i1 := by decide) (i2 := by decide) (i3 := by decide) (i4 := by decide) (i5 := by decide) (i6 := by decide)) (by omega) _ _ _).trans ?_
      refine (congrArg (· + _) (ld_back _ (512 * (t.val % 4) + 256) 256 _ (off_hi t _) R C (by omega) (by omega) (by omega) (by omega))).trans ?_
      try dsimp only
      refine congrArg (s.2.2 (ix2 R C) + ·) ?_
      exact Finset.sum_congr (M := EReal) rfl fun x _ => dqT_congr _ (by first | omega | (dsimp only; omega)) (by first | omega | (dsimp only; omega)) (by first | omega | (dsimp only; omega)) (by first | omega | (dsimp only; omega))
  · rw [if_neg hR]
    refine (peel_out _ _ (512 * (t.val % 4) + 256) 256 _ _ _ R C (off_hi t _) (by omega)).trans ?_
    refine (peel_out _ _ (512 * (t.val % 4)) 256 _ _ _ R C (off_lo t _) (by omega)).trans ?_
    refine (peel_out _ _ (512 * (t.val % 4) + 256) 0 _ _ _ R C (off_hi t _) (by omega)).trans ?_
    refine (peel_out _ _ (512 * (t.val % 4)) 0 _ _ _ R C (off_lo t _) (by omega)).trans ?_
    rw [add_zero]
    exact congrFun (Memref.IsWhole.read_unread _ _) _

end Cert.KernelIdeal.Attn

end
-- ==== Proof.AttnISum.lean ====
/- The accumulators after each point: sums over the rows, or the keys, met so far. -/
module

public import proofs.«01_k».proof.Proof.AttnIStepD
public import proofs.«01_k».proof.Proof.AttnIStepB
public import proofs.«01_k».proof.Proof.AttnIStepQ
public import Idealize.ShloMosaic.Lib.Pipeline.ReadBack

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

variable (m : (ℓ : Loc nD τ sig) → Buf (Elt Ideal) ℓ)

/-- A sum over a range of whole blocks and one more. -/
theorem sum_more (f : ℕ → EReal) (a : ℕ) : ∑ x ∈ Finset.range (512 * (a + 1)), f x = ∑ x ∈ Finset.range (512 * a), f x + ∑ x ∈ Finset.range 512, f (512 * a + x) := by
  rw [Nat.mul_succ, Finset.sum_range_add (M := EReal)]

theorem sum_none (f : ℕ → EReal) (a : ℕ) (h : ∀ x, x < 512 * a → f x = 0) : ∑ x ∈ Finset.range (512 * a), f x = 0 :=
  Finset.sum_eq_zero (M := EReal) fun x hx => h x (Finset.mem_range.mp hx)

theorem sum_zero512 (f : ℕ → EReal) (h : ∀ x, x < 512 → f x = 0) : ∑ x ∈ Finset.range 512, f x = 0 :=
  Finset.sum_eq_zero (M := EReal) fun x hx => h x (Finset.mem_range.mp hx)

/-- The dk accumulator after a point on or below the diagonal. -/
theorem dk_sum (c : Dev nD) (n : ℕ) (hn : n < cfg0.N) (ht : n / 4 % 4 ≤ n % 4) (R : Fin 512) (C : Fin 512) :
    (st m c (n + 1)).1 (ix2 R C)
      = ∑ x ∈ Finset.range (512 * (n % 4 + 1)), dkT (G m c) (2 * (n / 16) + C.val / 256) (512 * (n / 4 % 4) + R.val) (C.val % 256) x := by
  induction n with
  | zero =>
    refine (congrArg (fun s : State Ideal => s.1 (ix2 R C)) (st_A m c ⟨0, hn⟩ rfl)).trans ?_
    refine (dk_A m c ⟨0, hn⟩ rfl _ R C).trans ?_
    rw [sum_more, sum_none _ _ (fun x hx => absurd hx (by omega)), zero_add]
  | succ n ih =>
    rw [sum_more]
    by_cases hd : (n + 1) % 4 = (n + 1) / 4 % 4
    · rw [sum_none _ _ (fun x hx => dkT_masked _ _ (by omega)), zero_add]
      by_cases hA : (n + 1) % 16 = 0
      · exact (congrArg (fun s : State Ideal => s.1 (ix2 R C)) (st_A m c ⟨n + 1, hn⟩ hA)).trans (dk_A m c ⟨n + 1, hn⟩ hA _ R C)
      by_cases hE : (n + 1) % 16 = 15
      · exact (congrArg (fun s : State Ideal => s.1 (ix2 R C)) (st_E m c ⟨n + 1, hn⟩ hE)).trans (dk_E m c ⟨n + 1, hn⟩ hE _ R C)
      · exact (congrArg (fun s : State Ideal => s.1 (ix2 R C)) (st_D m c ⟨n + 1, hn⟩ ⟨hd, hA, hE⟩)).trans (dk_D m c ⟨n + 1, hn⟩ ⟨hd, hA, hE⟩ _ R C)
    · have hi := ih (by omega) (by omega)
      rw [show n % 4 + 1 = (n + 1) % 4 by omega, show n / 16 = (n + 1) / 16 by omega, show n / 4 = (n + 1) / 4 by omega] at hi
      rw [← hi]
      by_cases hG : (n + 1) % 4 = 3
      · exact (congrArg (fun s : State Ideal => s.1 (ix2 R C)) (st_G m c ⟨n + 1, hn⟩ ⟨by show (n + 1) / 4 % 4 < (n + 1) % 4; omega, hG⟩)).trans (dk_G m c ⟨n + 1, hn⟩ ⟨by show (n + 1) / 4 % 4 < (n + 1) % 4; omega, hG⟩ _ R C)
      · exact (congrArg (fun s : State Ideal => s.1 (ix2 R C)) (st_B m c ⟨n + 1, hn⟩ ⟨by show (n + 1) / 4 % 4 < (n + 1) % 4; omega, hG⟩)).trans (dk_B m c ⟨n + 1, hn⟩ ⟨by show (n + 1) / 4 % 4 < (n + 1) % 4; omega, hG⟩ _ R C)

/-- The dv accumulator after a point on or below the diagonal. -/
theorem dv_sum (c : Dev nD) (n : ℕ) (hn : n < cfg0.N) (ht : n / 4 % 4 ≤ n % 4) (R : Fin 512) (C : Fin 256) :
    (st m c (n + 1)).2.1 (ix2 R C)
      = ∑ x ∈ Finset.range (512 * (n % 4 + 1)), dvT (G m c) (2 * (n / 16) + C.val / 128) (512 * (n / 4 % 4) + R.val) (C.val % 128) x := by
  induction n with
  | zero =>
    refine (congrArg (fun s : State Ideal => s.2.1 (ix2 R C)) (st_A m c ⟨0, hn⟩ rfl)).trans ?_
    refine (dv_A m c ⟨0, hn⟩ rfl _ R C).trans ?_
    rw [sum_more, sum_none _ _ (fun x hx => absurd hx (by omega)), zero_add]
  | succ n ih =>
    rw [sum_more]
    by_cases hd : (n + 1) % 4 = (n + 1) / 4 % 4
    · rw [sum_none _ _ (fun x hx => dvT_masked _ _ (by omega)), zero_add]
      by_cases hA : (n + 1) % 16 = 0
      · exact (congrArg (fun s : State Ideal => s.2.1 (ix2 R C)) (st_A m c ⟨n + 1, hn⟩ hA)).trans (dv_A m c ⟨n + 1, hn⟩ hA _ R C)
      by_cases hE : (n + 1) % 16 = 15
      · exact (congrArg (fun s : State Ideal => s.2.1 (ix2 R C)) (st_E m c ⟨n + 1, hn⟩ hE)).trans (dv_E m c ⟨n + 1, hn⟩ hE _ R C)
      · exact (congrArg (fun s : State Ideal => s.2.1 (ix2 R C)) (st_D m c ⟨n + 1, hn⟩ ⟨hd, hA, hE⟩)).trans (dv_D m c ⟨n + 1, hn⟩ ⟨hd, hA, hE⟩ _ R C)
    · have hi := ih (by omega) (by omega)
      rw [show n % 4 + 1 = (n + 1) % 4 by omega, show n / 16 = (n + 1) / 16 by omega, show n / 4 = (n + 1) / 4 by omega] at hi
      rw [← hi]
      by_cases hG : (n + 1) % 4 = 3
      · exact (congrArg (fun s : State Ideal => s.2.1 (ix2 R C)) (st_G m c ⟨n + 1, hn⟩ ⟨by show (n + 1) / 4 % 4 < (n + 1) % 4; omega, hG⟩)).trans (dv_G m c ⟨n + 1, hn⟩ ⟨by show (n + 1) / 4 % 4 < (n + 1) % 4; omega, hG⟩ _ R C)
      · exact (congrArg (fun s : State Ideal => s.2.1 (ix2 R C)) (st_B m c ⟨n + 1, hn⟩ ⟨by show (n + 1) / 4 % 4 < (n + 1) % 4; omega, hG⟩)).trans (dv_B m c ⟨n + 1, hn⟩ ⟨by show (n + 1) / 4 % 4 < (n + 1) % 4; omega, hG⟩ _ R C)

/-- The query gradient's accumulator before a point, as the point before left it: the same key block, or the last rows of the key block before. -/
theorem dq_sum (c : Dev nD) (n : ℕ) (hn : n < cfg0.N) (R : Fin 2048) (C : Fin 512) :
    (st m c (n + 1)).2.2 (ix2 R C)
      = ∑ x ∈ Finset.range (512 * (n / 4 % 4 + if R.val / 512 ≤ n % 4 then 1 else 0)), dqT (G m c) (2 * (n / 16) + C.val / 256) R.val (C.val % 256) x := by
  induction n with
  | zero =>
    refine (congrArg (fun s : State Ideal => s.2.2 (ix2 R C)) (st_A m c ⟨0, hn⟩ rfl)).trans ?_
    refine (dq_A m c ⟨0, hn⟩ rfl _ R C).trans ?_
    dsimp only
    by_cases h : R.val / 512 = 0
    · rw [if_pos (by omega), if_pos (by omega), sum_more, sum_none _ _ (fun x hx => absurd hx (by omega)), zero_add]
    · rw [if_neg (by omega), if_neg (by omega), sum_none _ _ (fun x hx => absurd hx (by omega))]
  | succ n ih =>
    have hR : R.val / 512 ≤ 3 := by omega
    by_cases hA : (n + 1) % 16 = 0
    · refine (congrArg (fun s : State Ideal => s.2.2 (ix2 R C)) (st_A m c ⟨n + 1, hn⟩ hA)).trans ?_
      refine (dq_A m c ⟨n + 1, hn⟩ hA _ R C).trans ?_
      dsimp only
      by_cases h : R.val / 512 = (n + 1) % 4
      · rw [if_pos h, if_pos (by omega), sum_more, sum_none _ _ (fun x hx => absurd hx (by omega)), zero_add]
      · rw [if_neg h, if_neg (by omega), sum_none _ _ (fun x hx => absurd hx (by omega))]
    have hi : (st m c (n + 1)).2.2 (ix2 R C) = ∑ x ∈ Finset.range (512 * ((n + 1) / 4 % 4 + if R.val / 512 < (n + 1) % 4 then 1 else 0)), dqT (G m c) (2 * ((n + 1) / 16) + C.val / 256) R.val (C.val % 256) x := by
      rw [ih (by omega), show n / 16 = (n + 1) / 16 by omega, show (n / 4 % 4 + if R.val / 512 ≤ n % 4 then 1 else 0) = ((n + 1) / 4 % 4 + if R.val / 512 < (n + 1) % 4 then 1 else 0) by
        split <;> split <;> omega]
    have close : (st m c (n + 1)).2.2 (ix2 R C) + (if R.val / 512 = (n + 1) % 4 then ∑ x ∈ Finset.range 512, dqT (G m c) (2 * ((n + 1) / 16) + C.val / 256) R.val (C.val % 256) (512 * ((n + 1) / 4 % 4) + x) else 0)
        = ∑ x ∈ Finset.range (512 * ((n + 1) / 4 % 4 + if R.val / 512 ≤ (n + 1) % 4 then 1 else 0)), dqT (G m c) (2 * ((n + 1) / 16) + C.val / 256) R.val (C.val % 256) x := by
      rw [hi]
      by_cases h : R.val / 512 = (n + 1) % 4
      · rw [if_pos h, show (if R.val / 512 < (n + 1) % 4 then 1 else 0) = 0 from if_neg (by omega), show (if R.val / 512 ≤ (n + 1) % 4 then 1 else 0) = 1 from if_pos (by omega), sum_more, add_zero]
      · rw [if_neg h, add_zero, show (if R.val / 512 < (n + 1) % 4 then 1 else 0) = (if R.val / 512 ≤ (n + 1) % 4 then 1 else 0) by split <;> split <;> omega]
    by_cases hN : (n + 1) % 4 < (n + 1) / 4 % 4
    · refine (congrArg (fun s : State Ideal => s.2.2 (ix2 R C)) (st_N m c ⟨n + 1, hn⟩ hN)).trans ?_
      rw [← close]
      by_cases h : R.val / 512 = (n + 1) % 4
      · rw [if_pos h, sum_zero512 _ (fun x hx => dqT_masked _ _ (by omega)), add_zero]
      · rw [if_neg h, add_zero]
    rw [← close]
    by_cases hE : (n + 1) % 16 = 15
    · exact (congrArg (fun s : State Ideal => s.2.2 (ix2 R C)) (st_E m c ⟨n + 1, hn⟩ hE)).trans (dq_E m c ⟨n + 1, hn⟩ hE _ R C)
    by_cases hD : (n + 1) % 4 = (n + 1) / 4 % 4
    · exact (congrArg (fun s : State Ideal => s.2.2 (ix2 R C)) (st_D m c ⟨n + 1, hn⟩ ⟨hD, hA, hE⟩)).trans (dq_D m c ⟨n + 1, hn⟩ ⟨hD, hA, hE⟩ _ R C)
    by_cases hG : (n + 1) % 4 = 3
    · exact (congrArg (fun s : State Ideal => s.2.2 (ix2 R C)) (st_G m c ⟨n + 1, hn⟩ ⟨by show (n + 1) / 4 % 4 < (n + 1) % 4; omega, hG⟩)).trans (dq_G m c ⟨n + 1, hn⟩ ⟨by show (n + 1) / 4 % 4 < (n + 1) % 4; omega, hG⟩ _ R C)
    · exact (congrArg (fun s : State Ideal => s.2.2 (ix2 R C)) (st_B m c ⟨n + 1, hn⟩ ⟨by show (n + 1) / 4 % 4 < (n + 1) % 4; omega, hG⟩)).trans (dq_B m c ⟨n + 1, hn⟩ ⟨by show (n + 1) / 4 % 4 < (n + 1) % 4; omega, hG⟩ _ R C)

end Cert.KernelIdeal.Attn

end
-- ==== Proof.AttnIOut.lean ====
/- What the write-outs put into the output windows, from the accumulators. -/
module

public import proofs.«01_k».proof.Proof.AttnIVal
public import Idealize.ShloMosaic.Lib.Pipeline.ReadBack

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem

variable (m : (ℓ : Loc nD τ sig) → Buf (Elt Ideal) ℓ)

theorem pay5_apply (v : Vec Ideal S512x512 .f32) (y : S512x512.Idx) : k0_pay5 (F := Ideal) v y = v y := rfl
theorem pay6_apply (v : Vec Ideal S512x256 .f32) (y : S512x256.Idx) : k0_pay6 (F := Ideal) v y = v y := rfl
theorem pay7_apply (v w : Vec Ideal S2048x256 .f32) (y : S2048x256.Idx) : k0_pay7 (F := Ideal) v w y = v y * w y := rfl
theorem pay8_apply (v w : Vec Ideal S2048x256 .f32) (y : S2048x256.Idx) : k0_pay8 (F := Ideal) v w y = v y * w y := rfl

theorem outE_9_apply (c : Dev nD) (t : Fin cfg0.N) (h) (s : State Ideal) (R : Fin 512) (C : Fin 512) :
    outE_9 m c t h s (ix2 R C) = (afterE m c t h s).1 (ix2 R C) := by
  unfold outE_9 afterE atE
  dsimp only
  unfold runE
  dsimp only
  sl_unfold_words
  simp only [View.readAt_eq_ld, Memref.IsWhole.read_unread, read_unread_whole]
  refine (peel_in _ _ 0 0 _ _ _ R C rfl (by omega) (by omega) (by omega) (by omega)).trans ?_
  refine (pay5_apply _ _).trans ?_
  refine (cov_back _ _ 0 0 _ rfl R C (by omega) (by omega) (by omega) (by omega)).trans ?_
  by_cases hC : C.val < 256 <;> by_cases hR : R.val < 256
  · refine (peel_out _ _ 0 256 _ _ _ R C rfl (by omega)).trans ?_
    refine (peel_out _ _ 0 256 _ _ _ R C rfl (by omega)).trans ?_
    refine (peel_in _ _ 0 0 _ _ _ R C rfl (by omega) (by omega) (by omega) (by omega)).trans ?_
    symm
    refine (peel_out _ _ 0 256 _ _ _ R C rfl (by omega)).trans ?_
    refine (peel_out _ _ 0 256 _ _ _ R C rfl (by omega)).trans ?_
    refine (peel_in _ _ 0 0 _ _ _ R C rfl (by omega) (by omega) (by omega) (by omega)).trans ?_
    rfl
  · refine (peel_out _ _ 0 256 _ _ _ R C rfl (by omega)).trans ?_
    refine (peel_out _ _ 0 256 _ _ _ R C rfl (by omega)).trans ?_
    refine (peel_out _ _ 0 0 _ _ _ R C rfl (by omega)).trans ?_
    refine (peel_in _ _ 0 0 _ _ _ R C rfl (by omega) (by omega) (by omega) (by omega)).trans ?_
    symm
    refine (peel_out _ _ 0 256 _ _ _ R C rfl (by omega)).trans ?_
    refine (peel_out _ _ 0 256 _ _ _ R C rfl (by omega)).trans ?_
    refine (peel_out _ _ 0 0 _ _ _ R C rfl (by omega)).trans ?_
    refine (peel_in _ _ 0 0 _ _ _ R C rfl (by omega) (by omega) (by omega) (by omega)).trans ?_
    rfl
  · refine (peel_in _ _ 0 256 _ _ _ R C rfl (by omega) (by omega) (by omega) (by omega)).trans ?_
    symm
    refine (peel_in _ _ 0 256 _ _ _ R C rfl (by omega) (by omega) (by omega) (by omega)).trans ?_
    rfl
  · refine (peel_out _ _ 0 256 _ _ _ R C rfl (by omega)).trans ?_
    refine (peel_in _ _ 0 256 _ _ _ R C rfl (by omega) (by omega) (by omega) (by omega)).trans ?_
    symm
    refine (peel_out _ _ 0 256 _ _ _ R C rfl (by omega)).trans ?_
    refine (peel_in _ _ 0 256 _ _ _ R C rfl (by omega) (by omega) (by omega) (by omega)).trans ?_
    rfl

theorem outE_10_apply (c : Dev nD) (t : Fin cfg0.N) (h) (s : State Ideal) (R : Fin 512) (C : Fin 256) :
    outE_10 m c t h s (ix2 R C) = (afterE m c t h s).2.1 (ix2 R C) := by
  unfold outE_10 afterE atE
  dsimp only
  unfold runE
  dsimp only
  sl_unfold_words
  simp only [View.readAt_eq_ld, Memref.IsWhole.read_unread, read_unread_whole]
  refine (peel_in _ _ 0 0 _ _ _ R C rfl (by omega) (by omega) (by omega) (by omega)).trans ?_
  refine (pay6_apply _ _).trans ?_
  refine (cov_back _ _ 0 0 _ rfl R C (by omega) (by omega) (by omega) (by omega)).trans ?_
  by_cases hC : C.val < 128 <;> by_cases hR : R.val < 256
  · refine (peel_out _ _ 0 128 _ _ _ R C rfl (by omega)).trans ?_
    refine (peel_out _ _ 0 128 _ _ _ R C rfl (by omega)).trans ?_
    refine (peel_in _ _ 0 0 _ _ _ R C rfl (by omega) (by omega) (by omega) (by omega)).trans ?_
    symm
    refine (peel_out _ _ 0 128 _ _ _ R C rfl (by omega)).trans ?_
    refine (peel_out _ _ 0 128 _ _ _ R C rfl (by omega)).trans ?_
    refine (peel_in _ _ 0 0 _ _ _ R C rfl (by omega) (by omega) (by omega) (by omega)).trans ?_
    rfl
  · refine (peel_out _ _ 0 128 _ _ _ R C rfl (by omega)).trans ?_
    refine (peel_out _ _ 0 128 _ _ _ R C rfl (by omega)).trans ?_
    refine (peel_out _ _ 0 0 _ _ _ R C rfl (by omega)).trans ?_
    refine (peel_in _ _ 0 0 _ _ _ R C rfl (by omega) (by omega) (by omega) (by omega)).trans ?_
    symm
    refine (peel_out _ _ 0 128 _ _ _ R C rfl (by omega)).trans ?_
    refine (peel_out _ _ 0 128 _ _ _ R C rfl (by omega)).trans ?_
    refine (peel_out _ _ 0 0 _ _ _ R C rfl (by omega)).trans ?_
    refine (peel_in _ _ 0 0 _ _ _ R C rfl (by omega) (by omega) (by omega) (by omega)).trans ?_
    rfl
  · refine (peel_in _ _ 0 128 _ _ _ R C rfl (by omega) (by omega) (by omega) (by omega)).trans ?_
    symm
    refine (peel_in _ _ 0 128 _ _ _ R C rfl (by omega) (by omega) (by omega) (by omega)).trans ?_
    rfl
  · refine (peel_out _ _ 0 128 _ _ _ R C rfl (by omega)).trans ?_
    refine (peel_in _ _ 0 128 _ _ _ R C rfl (by omega) (by omega) (by omega) (by omega)).trans ?_
    symm
    refine (peel_out _ _ 0 128 _ _ _ R C rfl (by omega)).trans ?_
    refine (peel_in _ _ 0 128 _ _ _ R C rfl (by omega) (by omega) (by omega) (by omega)).trans ?_
    rfl

theorem outG_9_apply (c : Dev nD) (t : Fin cfg0.N) (h) (s : State Ideal) (R : Fin 512) (C : Fin 512) :
    outG_9 m c t h s (ix2 R C) = (afterG m c t h s).1 (ix2 R C) := by
  unfold outG_9 afterG atG
  dsimp only
  unfold runG
  dsimp only
  sl_unfold_words
  simp only [View.readAt_eq_ld, Memref.IsWhole.read_unread, read_unread_whole]
  refine (peel_in _ _ 0 0 _ _ _ R C rfl (by omega) (by omega) (by omega) (by omega)).trans ?_
  refine (pay5_apply _ _).trans ?_
  refine (cov_back _ _ 0 0 _ rfl R C (by omega) (by omega) (by omega) (by omega)).trans ?_
  by_cases hC : C.val < 256
  · refine (peel_out _ _ 0 256 _ _ _ R C rfl (by omega)).trans ?_
    refine (peel_out _ _ 0 256 _ _ _ R C rfl (by omega)).trans ?_
    refine (peel_in _ _ 0 0 _ _ _ R C rfl (by omega) (by omega) (by omega) (by omega)).trans ?_
    symm
    refine (peel_out _ _ 0 256 _ _ _ R C rfl (by omega)).trans ?_
    refine (peel_out _ _ 0 256 _ _ _ R C rfl (by omega)).trans ?_
    refine (peel_in _ _ 0 0 _ _ _ R C rfl (by omega) (by omega) (by omega) (by omega)).trans ?_
    rfl
  · refine (peel_in _ _ 0 256 _ _ _ R C rfl (by omega) (by omega) (by omega) (by omega)).trans ?_
    symm
    refine (peel_in _ _ 0 256 _ _ _ R C rfl (by omega) (by omega) (by omega) (by omega)).trans ?_
    rfl

theorem outG_10_apply (c : Dev nD) (t : Fin cfg0.N) (h) (s : State Ideal) (R : Fin 512) (C : Fin 256) :
    outG_10 m c t h s (ix2 R C) = (afterG m c t h s).2.1 (ix2 R C) := by
  unfold outG_10 afterG atG
  dsimp only
  unfold runG
  dsimp only
  sl_unfold_words
  simp only [View.readAt_eq_ld, Memref.IsWhole.read_unread, read_unread_whole]
  refine (peel_in _ _ 0 0 _ _ _ R C rfl (by omega) (by omega) (by omega) (by omega)).trans ?_
  refine (pay6_apply _ _).trans ?_
  refine (cov_back _ _ 0 0 _ rfl R C (by omega) (by omega) (by omega) (by omega)).trans ?_
  by_cases hC : C.val < 128
  · refine (peel_out _ _ 0 128 _ _ _ R C rfl (by omega)).trans ?_
    refine (peel_out _ _ 0 128 _ _ _ R C rfl (by omega)).trans ?_
    refine (peel_in _ _ 0 0 _ _ _ R C rfl (by omega) (by omega) (by omega) (by omega)).trans ?_
    symm
    refine (peel_out _ _ 0 128 _ _ _ R C rfl (by omega)).trans ?_
    refine (peel_out _ _ 0 128 _ _ _ R C rfl (by omega)).trans ?_
    refine (peel_in _ _ 0 0 _ _ _ R C rfl (by omega) (by omega) (by omega) (by omega)).trans ?_
    rfl
  · refine (peel_in _ _ 0 128 _ _ _ R C rfl (by omega) (by omega) (by omega) (by omega)).trans ?_
    symm
    refine (peel_in _ _ 0 128 _ _ _ R C rfl (by omega) (by omega) (by omega) (by omega)).trans ?_
    rfl

theorem outE_8_apply (c : Dev nD) (t : Fin cfg0.N) (h) (s : State Ideal) (R : Fin 2048) (C : Fin 512) :
    outE_8 m c t h s (ix2 R C) = (afterE m c t h s).2.2 (ix2 R C) * (G m c).T R.val (C.val % 256) := by
  have hN : t.val < 128 := lt_of_lt_of_eq t.isLt N_0
  rw [← blk_7 m c t (by omega) R ⟨C.val % 256, by omega⟩ R.val (C.val % 256) rfl rfl]
  unfold outE_8 afterE atE
  dsimp only
  unfold runE
  dsimp only
  sl_unfold_words
  simp only [View.readAt_eq_ld, Memref.IsWhole.read_unread, read_unread_whole]
  by_cases hC : C.val < 256
  · refine (peel_out _ _ 0 256 _ _ _ R C rfl (by omega)).trans ?_
    refine (peel_in _ _ 0 0 _ _ _ R C rfl (by omega) (by omega) (by omega) (by omega)).trans ?_
    refine (pay7_apply _ _ _).trans ?_
    refine congrArg₂ (· * ·) (ld_back _ 0 0 _ rfl R C (by omega) (by omega) (by omega) (by omega)) ?_
    refine (ld_apply2 (Val := Elt Ideal) (e := .f32) (N := 2048) (M := 256) (n := 2048) (k := 256) (iblk m c 7 t) 0 0 _ rfl _ _ (by dsimp only; omega) (by dsimp only; omega)).trans ?_
    refine congrArg (iblk m c 7 t) (congrArg₂ ix2 (Fin.ext ?_) (Fin.ext ?_)) <;> dsimp only <;> omega
  · refine (peel_in _ _ 0 256 _ _ _ R C rfl (by omega) (by omega) (by omega) (by omega)).trans ?_
    refine (pay8_apply _ _ _).trans ?_
    refine congrArg₂ (· * ·) (ld_back _ 0 256 _ rfl R C (by omega) (by omega) (by omega) (by omega)) ?_
    refine (ld_apply2 (Val := Elt Ideal) (e := .f32) (N := 2048) (M := 256) (n := 2048) (k := 256) (iblk m c 7 t) 0 0 _ rfl _ _ (by dsimp only; omega) (by dsimp only; omega)).trans ?_
    refine congrArg (iblk m c 7 t) (congrArg₂ ix2 (Fin.ext ?_) (Fin.ext ?_)) <;> dsimp only <;> omega

end Cert.KernelIdeal.Attn

end
-- ==== Proof.AttnIFrame.lean ====
/- The frame of the attention gradient: the body at every point, and the launch. -/
module

public import proofs.«01_k».proof.Proof.AttnIData
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem sep_mono_left_any (c : Dev nD) (t : Fin cfg0.N) {P : sProp 𝕄} : iprop(PhiS m c t.val ∗ P) ⊢ iprop(Pipeline.ΦA spec0 c ∗ P) := by
  iintro ⟨H, HP⟩
  isplitl [H]
  · iapply (PhiS_any m c t.val); iexact H
  iexact HP

set_option maxHeartbeats 4800000 in
/-- The body's obligation at a point of this case: first block of a head pair: the query gradient is cleared, then the diagonal update. -/
theorem soundA (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [idles_8 m c t (by omega), idles_9 m c t (by omega), idles_10 m c t (by omega)]
  refine (sep_mono_left_any m c t).trans ?_
  rw [PhiS_pos m c (t.val + 1) (Nat.succ_ne_zero _), st_A m c t h]
  rw [PhiA_eq]
  unfold afterA; dsimp only
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, ⟨%es0, S0⟩, ⟨%es1, S1⟩, ⟨%es2, S2⟩⟩
  isplitl [S0 S1 S2 Hg]
  · isplitr [Hg]
    · isplitl [S0]
      · unfold owns; iexists _; isplitr
        swap; · iexact S0
        ipureintro; exact View.read_writes_of_cover _ _ _ _ _ (coverA_0 m c t h)
      isplitl [S1]
      · unfold owns; iexists _; isplitr
        swap; · iexact S1
        ipureintro; exact View.read_writes_of_cover _ _ _ _ _ (coverA_1 m c t h)
      unfold owns; iexists _; isplitr
      swap; · iexact S2
      ipureintro; exact View.read_writes_of_cover _ _ _ _ _ (coverA_2 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 4800000 in
/-- The body's obligation at a point of this case: a diagonal block before the last. -/
theorem soundD (c : Dev nD) (t : Fin cfg0.N) (h : t.val % 4 = t.val / 4 % 4 ∧ t.val % 16 ≠ 0 ∧ t.val % 16 ≠ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [idles_8 m c t (by omega), idles_9 m c t (by omega), idles_10 m c t (by omega)]
  rw [PhiS_pos m c t.val (by omega)]
  rw [PhiS_pos m c (t.val + 1) (Nat.succ_ne_zero _), st_D m c t h]
  unfold afterD; dsimp only
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atD m c t h (st m c t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, S0, S1, S2⟩
  isplitl [S0 S1 S2 Hg]
  · isplitr [Hg]
    · isplitl [S0]
      · unfold owns; iexists _; isplitr
        swap; · iexact S0
        ipureintro; exact rfl
      isplitl [S1]
      · unfold owns; iexists _; isplitr
        swap; · iexact S1
        ipureintro; exact rfl
      unfold owns; iexists _; isplitr
      swap; · iexact S2
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 4800000 in
/-- The body's obligation at a point of this case: the last diagonal block, with both write-outs. -/
theorem soundE (c : Dev nD) (t : Fin cfg0.N) (h : t.val % 16 = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [leaves_8 m c t (by omega), leaves_9 m c t (by omega), leaves_10 m c t (by omega)]
  rw [PhiS_pos m c t.val (by omega)]
  rw [PhiS_pos m c (t.val + 1) (Nat.succ_ne_zero _), st_E m c t h]
  rw [o_8_E m c t h]
  rw [o_9_E m c t h]
  rw [o_10_E m c t h]
  unfold afterE outE_8 outE_9 outE_10; dsimp only
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atE m c t h (st m c t.val)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  iintro ⟨H0, H1, H2, H3, H4, H5, H6, H7, ⟨%e8, H8⟩, ⟨%e9, H9⟩, ⟨%e10, H10⟩, S0, S1, S2⟩
  isplitl [S0 S1 S2 Hg]
  · isplitr [Hg]
    · isplitl [S0]
      · unfold owns; iexists _; isplitr
        swap; · iexact S0
        ipureintro; exact rfl
      isplitl [S1]
      · unfold owns; iexists _; isplitr
        swap; · iexact S1
        ipureintro; exact rfl
      unfold owns; iexists _; isplitr
      swap; · iexact S2
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverE_8 m c t h (st m c t.val))
  isplitl [H9]
  · unfold owns; iexists _; isplitr
    swap; · iexact H9
    ipureintro; exact View.read_writes_of_cover _ _ _ _ _ (coverE_9 m c t h (st m c t.val))
  unfold owns; iexists _; isplitr
  swap; · iexact H10
  ipureintro; exact View.read_writes_of_cover _ _ _ _ _ (coverE_10 m c t h (st m c t.val))

set_option maxHeartbeats 4800000 in
/-- The body's obligation at a point of this case: a block below the diagonal, not in the last row. -/
theorem soundB (c : Dev nD) (t : Fin cfg0.N) (h : t.val / 4 % 4 < t.val % 4 ∧ t.val % 4 ≠ 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [idles_8 m c t (by omega), idles_9 m c t (by omega), idles_10 m c t (by omega)]
  rw [PhiS_pos m c t.val (by omega)]
  rw [PhiS_pos m c (t.val + 1) (Nat.succ_ne_zero _), st_B m c t h]
  unfold afterB; dsimp only
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h (st m c t.val)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  iintro ⟨H0, H1, H2, H3, H4, H5, H6, H7, S0, S1, S2⟩
  isplitl [S0 S1 S2 Hg]
  · isplitr [Hg]
    · isplitl [S0]
      · unfold owns; iexists _; isplitr
        swap; · iexact S0
        ipureintro; exact rfl
      isplitl [S1]
      · unfold owns; iexists _; isplitr
        swap; · iexact S1
        ipureintro; exact rfl
      unfold owns; iexists _; isplitr
      swap; · iexact S2
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 4800000 in
/-- The body's obligation at a point of this case: a block below the diagonal in the last row, with the write-out of the key and value gradients. -/
theorem soundG (c : Dev nD) (t : Fin cfg0.N) (h : t.val / 4 % 4 < t.val % 4 ∧ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [idles_8 m c t (by omega), leaves_9 m c t (by omega), leaves_10 m c t (by omega)]
  rw [PhiS_pos m c t.val (by omega)]
  rw [PhiS_pos m c (t.val + 1) (Nat.succ_ne_zero _), st_G m c t h]
  rw [o_9_G m c t h]
  rw [o_10_G m c t h]
  unfold afterG outG_9 outG_10; dsimp only
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atG m c t h (st m c t.val)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [S0]; · iexact S0
  isplitl [S1]; · iexact S1
  isplitl [S2]; · iexact S2
  iintro ⟨H0, H1, H2, H3, H4, H5, H6, H7, ⟨%e9, H9⟩, ⟨%e10, H10⟩, S0, S1, S2⟩
  isplitl [S0 S1 S2 Hg]
  · isplitr [Hg]
    · isplitl [S0]
      · unfold owns; iexists _; isplitr
        swap; · iexact S0
        ipureintro; exact rfl
      isplitl [S1]
      · unfold owns; iexists _; isplitr
        swap; · iexact S1
        ipureintro; exact rfl
      unfold owns; iexists _; isplitr
      swap; · iexact S2
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ (coverG_9 m c t h (st m c t.val))
  unfold owns; iexists _; isplitr
  swap; · iexact H10
  ipureintro; exact View.read_writes_of_cover _ _ _ _ _ (coverG_10 m c t h (st m c t.val))

set_option maxHeartbeats 4800000 in
/-- The body's obligation at a point of this case: above the diagonal: nothing. -/
theorem soundN (c : Dev nD) (t : Fin cfg0.N) (h : t.val % 4 < t.val / 4 % 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_eq m c t.castSucc, Phi_eq m c t.succ, show t.succ.val = t.val + 1 from rfl, show t.castSucc.val = t.val from rfl]
  rw [leaves_0, leaves_1, leaves_2, leaves_3, leaves_4, leaves_5, leaves_6, leaves_7]
  rw [idles_8 m c t (by omega), idles_9 m c t (by omega), idles_10 m c t (by omega)]
  rw [PhiS_pos m c (t.val + 1) (Nat.succ_ne_zero _), st_N m c t h]
  rw [PhiS_pos m c t.val (by omega)]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runN c (grid0.coords t) _ _ _ _ _ _ _ _ _ _ _ _ _ _ _ _ _ _ _ _ _ _ _ _ _ _ _ _ (cN0 h) (cN1 h) (cN2 h) (cN3 h) (cN4 h) Set.univ _)
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

theorem sound_body (c : Dev nD) (t : Fin cfg0.N) :
    bodyPre m c t ⊢ wp frame (wpE (defs₀ (F := F)) Variants.none c none) Set.univ (bodyAt0 t) (fun _ => bodyPost m c t) := by
  by_cases hA : t.val % 16 = 0
  · exact soundA m c t hA
  by_cases hN : t.val % 4 < t.val / 4 % 4
  · exact soundN m c t hN
  by_cases hE : t.val % 16 = 15
  · exact soundE m c t hE
  by_cases hD : t.val % 4 = t.val / 4 % 4
  · exact soundD m c t ⟨hD, hA, hE⟩
  by_cases hG : t.val % 4 = 3
  · exact soundG m c t ⟨by omega, hG⟩
  · exact soundB m c t ⟨by omega, hG⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]; exact Idealize.SL.BI.Entails.refl _
theorem hout (c : Dev nD) : (dats m 0 c).Φ (Fin.last cfg0.N) ⊢ Pipeline.ΦA spec0 c := by
  rw [Phi_eq]; exact PhiS_any m c _

set_option backward.isDefEq.respectTransparency.types false in
/-- The launch: every array as the proof data says, and every counter at zero, at every final state. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_arrays : θ_run defs (onTc (τ := τ) (main (F := F))) (s₀ m ρ) (Pipeline.FramePost cfgs (dats m) 0 (V m)) :=
  (θ_run defs _ _).mono (fun _ h => h.1) (run_quiescent m ρ)

/-- The frame: the argument arrays unchanged and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiescent m ρ))

end Cert.KernelIdeal.Attn

end
-- ==== Proof.AttnIArr.lean ====
/- The three result arrays of the pallas call, entry by entry. -/
module

public import proofs.«01_k».proof.Proof.AttnISum
public import proofs.«01_k».proof.Proof.AttnIOut
public import proofs.«01_k».proof.Proof.AttnIFrame

@[expose] public section

set_option maxRecDepth 16384

noncomputable section

namespace Cert.KernelIdeal.Attn

open Cert.KernelIdeal.Gen Cert.AttnSpec
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-- The query gradient. -/
def dqA (c : Dev nD) : Vec Ideal S2048x4096 .bf16 := fun y =>
  (∑ x ∈ Finset.range 2048, dqT (G m c) ((y 1).val / 256) (y 0).val ((y 1).val % 256) x) * (G m c).T (y 0).val ((y 1).val % 256)
/-- The key gradient, one per head. -/
def dkA (c : Dev nD) : Vec Ideal S2048x4096 .bf16 := fun y =>
  ∑ x ∈ Finset.range 2048, dkT (G m c) ((y 1).val / 256) (y 0).val ((y 1).val % 256) x
/-- The value gradient. -/
def dvA (c : Dev nD) : Vec Ideal S2048x2048 .bf16 := fun y =>
  ∑ x ∈ Finset.range 2048, dvT (G m c) ((y 1).val / 128) (y 0).val ((y 1).val % 128) x

theorem dqA_at (c : Dev nD) (y : S2048x4096.Idx) (R D H k : ℕ) (hR : (y 0).val = R) (hD : (y 1).val = D) (hH : D / 256 = H) (hk : D % 256 = k) :
    dqA m c y = (∑ x ∈ Finset.range 2048, dqT (G m c) H R k x) * (G m c).T R k := by
  subst hR hD hH hk; rfl
theorem dkA_at (c : Dev nD) (y : S2048x4096.Idx) (R D H k : ℕ) (hR : (y 0).val = R) (hD : (y 1).val = D) (hH : D / 256 = H) (hk : D % 256 = k) :
    dkA m c y = ∑ x ∈ Finset.range 2048, dkT (G m c) H R k x := by
  subst hR hD hH hk; rfl
theorem dvA_at (c : Dev nD) (y : S2048x2048.Idx) (R D H k : ℕ) (hR : (y 0).val = R) (hD : (y 1).val = D) (hH : D / 128 = H) (hk : D % 128 = k) :
    dvA m c y = ∑ x ∈ Finset.range 2048, dvT (G m c) H R k x := by
  subst hR hD hH hk; rfl

theorem idx_out : ∀ t : Fin cfg0.N, t.val % 4 = 3 →
    win0_8.index t 0 = 0 ∧ win0_8.index t 1 = t.val / 16
    ∧ win0_9.index t 0 = t.val / 4 % 4 ∧ win0_9.index t 1 = t.val / 16
    ∧ win0_10.index t 0 = t.val / 4 % 4 ∧ win0_10.index t 1 = t.val / 16 := by decide +kernel

theorem arr_8 (c : Dev nD) : (dats m 0 c).arrAt 8 cfg0.N = dqA m c := by
  refine (dats m 0 c).arrAt_eq_of_covers 8 _ (by decide +kernel) fun t hf y => ?_
  have hN : t.val < 128 := lt_of_lt_of_eq t.isLt N_0
  have h : t.val % 16 = 15 := (flush0_8 t).mp hf
  obtain ⟨e0, e1, e2, e3, e4, e5⟩ := idx_out t (by omega)
  blk_simp
  rw [after_8]
  idx_vars y
  have hr : ((((View.whole main_v42_0).slice (win0_8.rect t)).emb (ix2 y0 y1)) 0).val = y0.val := by
    blk_simp [e0]; try omega
  have hc : ((((View.whole main_v42_0).slice (win0_8.rect t)).emb (ix2 y0 y1)) 1).val = 512 * (t.val / 16) + y1.val := by
    blk_simp [e1]; try omega
  refine Eq.trans ?_ (dqA_at m c _ (y0.val) (512 * (t.val / 16) + y1.val) (2 * (t.val / 16) + y1.val / 256) (y1.val % 256) hr hc (by omega) (by omega)).symm
  rw [o_8_E m c t h]
  refine (outE_8_apply m c t h _ y0 y1).trans ?_
  refine congrArg (· * _) ?_
  refine ((congrArg (fun s : State Ideal => s.2.2 (ix2 y0 y1)) (st_E m c t h)).symm.trans (dq_sum m c t.val t.isLt y0 y1)).trans ?_
  rw [if_pos (by omega), show t.val / 4 % 4 = 3 by omega]

theorem arr_9 (c : Dev nD) : (dats m 0 c).arrAt 9 cfg0.N = dkA m c := by
  refine (dats m 0 c).arrAt_eq_of_covers 9 _ (by decide +kernel) fun t hf y => ?_
  have hN : t.val < 128 := lt_of_lt_of_eq t.isLt N_0
  have h : t.val % 4 = 3 := (flush0_9 t).mp hf
  obtain ⟨e0, e1, e2, e3, e4, e5⟩ := idx_out t (by omega)
  blk_simp
  rw [after_9]
  idx_vars y
  have hr : ((((View.whole main_v42_1).slice (win0_9.rect t)).emb (ix2 y0 y1)) 0).val = 512 * (t.val / 4 % 4) + y0.val := by
    blk_simp [e2]; try omega
  have hc : ((((View.whole main_v42_1).slice (win0_9.rect t)).emb (ix2 y0 y1)) 1).val = 512 * (t.val / 16) + y1.val := by
    blk_simp [e3]; try omega
  refine Eq.trans ?_ (dkA_at m c _ (512 * (t.val / 4 % 4) + y0.val) (512 * (t.val / 16) + y1.val) (2 * (t.val / 16) + y1.val / 256) (y1.val % 256) hr hc (by omega) (by omega)).symm
  have hs := dk_sum m c t.val t.isLt (by omega) y0 y1
  rw [show 512 * (t.val % 4 + 1) = 2048 by omega] at hs
  refine Eq.trans ?_ hs
  by_cases hE : t.val % 16 = 15
  · rw [o_9_E m c t hE]
    exact (outE_9_apply m c t hE _ y0 y1).trans (congrArg (fun s : State Ideal => s.1 (ix2 y0 y1)) (st_E m c t hE)).symm
  · have hG : t.val / 4 % 4 < t.val % 4 ∧ t.val % 4 = 3 := by omega
    rw [o_9_G m c t hG]
    exact (outG_9_apply m c t hG _ y0 y1).trans (congrArg (fun s : State Ideal => s.1 (ix2 y0 y1)) (st_G m c t hG)).symm

theorem arr_10 (c : Dev nD) : (dats m 0 c).arrAt 10 cfg0.N = dvA m c := by
  refine (dats m 0 c).arrAt_eq_of_covers 10 _ (by decide +kernel) fun t hf y => ?_
  have hN : t.val < 128 := lt_of_lt_of_eq t.isLt N_0
  have h : t.val % 4 = 3 := (flush0_10 t).mp hf
  obtain ⟨e0, e1, e2, e3, e4, e5⟩ := idx_out t (by omega)
  blk_simp
  rw [after_10]
  idx_vars y
  have hr : ((((View.whole main_v42_2).slice (win0_10.rect t)).emb (ix2 y0 y1)) 0).val = 512 * (t.val / 4 % 4) + y0.val := by
    blk_simp [e4]; try omega
  have hc : ((((View.whole main_v42_2).slice (win0_10.rect t)).emb (ix2 y0 y1)) 1).val = 256 * (t.val / 16) + y1.val := by
    blk_simp [e5]; try omega
  refine Eq.trans ?_ (dvA_at m c _ (512 * (t.val / 4 % 4) + y0.val) (256 * (t.val / 16) + y1.val) (2 * (t.val / 16) + y1.val / 128) (y1.val % 128) hr hc (by omega) (by omega)).symm
  have hs := dv_sum m c t.val t.isLt (by omega) y0 y1
  rw [show 512 * (t.val % 4 + 1) = 2048 by omega] at hs
  refine Eq.trans ?_ hs
  by_cases hE : t.val % 16 = 15
  · rw [o_10_E m c t hE]
    exact (outE_10_apply m c t hE _ y0 y1).trans (congrArg (fun s : State Ideal => s.2.1 (ix2 y0 y1)) (st_E m c t hE)).symm
  · have hG : t.val / 4 % 4 < t.val % 4 ∧ t.val % 4 = 3 := by omega
    rw [o_10_G m c t hG]
    exact (outG_10_apply m c t hG _ y0 y1).trans (congrArg (fun s : State Ideal => s.2.1 (ix2 y0 y1)) (st_G m c t hG)).symm

end Cert.KernelIdeal.Attn

end
-- ==== Proof.AttnRef.lean ====
/- The values of the attention gradient's reference, entry by entry. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.AttnRef

open Cert.ReferenceIdeal Cert.ReferenceIdeal.Gen Cert.ReferenceIdeal.Read
open Idealize.ShloMosaic Idealize.ShloMosaic.TcCoe Idealize.ShloMosaic.Tactic

variable (x0 : Vec Ideal S2048x4096 .f32) (x1 : Vec Ideal S2048x4096 .bf16) (x2 : Vec Ideal S2048x128 .bf16)
  (x3 : Vec Ideal S2048x2048 .bf16) (x4 : Vec Ideal S2048x256 .f32)

/-- The printed pattern of −∞ is the least extended real. -/
theorem neg_inf : Ideal.ofBits FTy.f32 0xFF800000#32 = ⊥ := by
  simp [Ideal.ofBits, Ideal.ieee]

theorem sel_le {α : Type} {a b : ℕ} (ha : a < 2048) (hb : b < 2048) (x y : α) :
    Scalar.select (IntOp.cmpi .sle (BitVec.ofNat 32 a) (BitVec.ofNat 32 b)) x y = if a ≤ b then x else y := by
  rw [WordCmp.cmpi_sle_ofNat (by norm_num; omega) (by norm_num; omega), WordCmp.select_ofBool]
  simp only [decide_eq_true_eq]

theorem max_bot (f : Vec Ideal S16x2048 .f32) :
    maximumf (F := Ideal) (φ := .f32) (broadcastInDim S16x2048 ![] bcast_S_S16x2048 (constant (F := Ideal) S_ .f32 0xFF800000#32)) f = f := by
  funext i
  show max (Ideal.ofBits FTy.f32 0xFF800000#32) (f i) = f i
  rw [neg_inf]
  exact max_eq_right bot_le

/-- The maximum with the least value changes nothing. -/
theorem v31_eq (x0 x1 x2 x4) : val_main_v31 (F := Ideal) x0 x1 x2 x4 = val_main_v24 (F := Ideal) x0 x1 x2 x4 :=
  max_bot (val_main_v24 (F := Ideal) x0 x1 x2 x4)

theorem r13 (R : Fin 2048) (h : Fin 16) (k : Fin 256) :
    val_main_v13 (F := Ideal) x0 x4 (ix3 R h k) = x0 (ix2 R (⟨h.val * 256 + k.val, by omega⟩ : Fin 4096)) * x4 (ix2 R k) := by
  pointwise [val_main_v13, val_main_v10, val_main_v12, val_main_v11]

theorem r6_lo (C : Fin 2048) (h : Fin 16) (k : Fin 128) :
    val_main_v6 (F := Ideal) x1 x2 (ix3 C h (⟨k.val, by omega⟩ : Fin 256)) = x1 (ix2 C (⟨h.val * 128 + k.val, by omega⟩ : Fin 4096)) := by
  pointwise [val_main_v6, val_main_v2, val_main_v1, val_main_v0, val_main_v5, val_main_v4, val_main_v3, Cert.ReferenceIdeal.Value.fn_main_v6]

theorem r6_hi (C : Fin 2048) (h : Fin 16) (k : Fin 128) :
    val_main_v6 (F := Ideal) x1 x2 (ix3 C h (⟨128 + k.val, by omega⟩ : Fin 256)) = x2 (ix2 C k) := by
  pointwise [val_main_v6, val_main_v2, val_main_v1, val_main_v0, val_main_v5, val_main_v4, val_main_v3, Cert.ReferenceIdeal.Value.fn_main_v6]

theorem r9 (C : Fin 2048) (h : Fin 16) (k : Fin 128) :
    val_main_v9 (F := Ideal) x1 (ix3 C h k) = x1 (ix2 C (⟨2048 + (h.val * 128 + k.val), by omega⟩ : Fin 4096)) := by
  pointwise [val_main_v9, val_main_v8, val_main_v7]

theorem r14 (h : Fin 16) (R C : Fin 2048) :
    val_main_v14 (F := Ideal) x0 x1 x2 x4 (ix3 h R C) = ∑ k : Fin 256, val_main_v13 (F := Ideal) x0 x4 (ix3 R h k) * val_main_v6 (F := Ideal) x1 x2 (ix3 C h k) := by
  pointwise [val_main_v14]

theorem r23 (h : Fin 16) (R C : Fin 2048) :
    val_main_v23_0 (F := Ideal) x0 x1 x2 x4 (ix3 h R C) = if C.val ≤ R.val then val_main_v14 (F := Ideal) x0 x1 x2 x4 (ix3 h R C) else ⊥ := by
  pointwise [val_main_v23_0, val_main_v23_1, val_main_v22, val_main_v21, val_main_v20, val_main_v19, val_main_v18, val_main_v17, val_main_v16, val_main_v15, val_main_call0_v2, val_main_call0_v0, val_main_cst]
  rw [sel_le C.isLt R.isLt]
  exact if_congr Iff.rfl rfl neg_inf

theorem r44 (h : Fin 16) (R C : Fin 2048) :
    val_main_v44 (F := Ideal) x0 x1 x2 x4 (ix3 h R C) = Ideal.exp (val_main_v23_0 (F := Ideal) x0 x1 x2 x4 (ix3 h R C) - val_main_v24 (F := Ideal) x0 x1 x2 x4 (ix2 h R)) := by
  pointwise [val_main_v44, val_main_v43, val_main_v42, val_main_v41]
  rw [v31_eq]

theorem r45 (h : Fin 16) (R : Fin 2048) :
    val_main_v45 (F := Ideal) x0 x1 x2 x4 (ix2 h R) = ∑ C : Fin 2048, val_main_v44 (F := Ideal) x0 x1 x2 x4 (ix3 h R C) := by
  pointwise [val_main_v45, val_main_cst_8]

theorem r48 (h : Fin 16) (R C : Fin 2048) :
    val_main_v48 (F := Ideal) x0 x1 x2 x4 (ix3 h R C) = Ideal.div (val_main_v44 (F := Ideal) x0 x1 x2 x4 (ix3 h R C)) (val_main_v45 (F := Ideal) x0 x1 x2 x4 (ix2 h R)) := by
  pointwise [val_main_v48, val_main_v47, val_main_v46]

theorem r53 (R : Fin 2048) (h : Fin 16) (d : Fin 128) :
    val_main_v53 (F := Ideal) x0 x1 x2 x4 (ix3 R h d) = ∑ C : Fin 2048, val_main_v9 (F := Ideal) x1 (ix3 C h d) * val_main_v48 (F := Ideal) x0 x1 x2 x4 (ix3 h R C) := by
  pointwise [val_main_v53, val_main_v52]

theorem r56 (R : Fin 2048) (h : Fin 16) (d : Fin 128) :
    val_main_v56 (F := Ideal) x3 (ix3 h d R) = x3 (ix2 R (⟨h.val * 128 + d.val, by omega⟩ : Fin 2048)) := by
  pointwise [val_main_v56, val_main_v55, val_main_v54]

theorem r57 (h : Fin 16) (R C : Fin 2048) :
    val_main_v57 (F := Ideal) x1 x3 (ix3 h R C) = ∑ d : Fin 128, val_main_v56 (F := Ideal) x3 (ix3 h d R) * val_main_v9 (F := Ideal) x1 (ix3 C h d) := by
  pointwise [val_main_v57]

theorem r59 (C : Fin 2048) (h : Fin 16) (d : Fin 128) :
    val_main_v59 (F := Ideal) x0 x1 x2 x3 x4 (ix3 C h d) = ∑ R : Fin 2048, val_main_v56 (F := Ideal) x3 (ix3 h d R) * val_main_v48 (F := Ideal) x0 x1 x2 x4 (ix3 h R C) := by
  pointwise [val_main_v59, val_main_v58]

theorem r63 (h : Fin 16) (R : Fin 2048) :
    val_main_v63 (F := Ideal) x0 x1 x2 x3 x4 (ix2 h R) = ∑ C : Fin 2048, val_main_v57 (F := Ideal) x1 x3 (ix3 h R C) * Ideal.div 1 (val_main_v45 (F := Ideal) x0 x1 x2 x4 (ix2 h R) * val_main_v45 (F := Ideal) x0 x1 x2 x4 (ix2 h R)) * val_main_v44 (F := Ideal) x0 x1 x2 x4 (ix3 h R C) := by
  pointwise [val_main_v63, val_main_cst_10, val_main_v62, val_main_v61, val_main_v60, val_main_v51, val_main_v50, val_main_cst_9, val_main_v49, val_main_v46]

theorem r71 (h : Fin 16) (R C : Fin 2048) :
    val_main_v71 (F := Ideal) x0 x1 x2 x3 x4 (ix3 h R C) = (Ideal.div (val_main_v57 (F := Ideal) x1 x3 (ix3 h R C)) (val_main_v45 (F := Ideal) x0 x1 x2 x4 (ix2 h R)) + -val_main_v63 (F := Ideal) x0 x1 x2 x3 x4 (ix2 h R)) * val_main_v44 (F := Ideal) x0 x1 x2 x4 (ix3 h R C) := by
  pointwise [val_main_v71, val_main_v70, val_main_v69, val_main_v68, val_main_cst_11, val_main_v67, val_main_v66, val_main_v65, val_main_v64, val_main_v46]
  rw [Fin.sum_univ_one]

theorem r72 (h : Fin 16) (R C : Fin 2048) :
    val_main_v72 (F := Ideal) x0 x1 x2 x3 x4 (ix3 h R C) = if C.val ≤ R.val then val_main_v71 (F := Ideal) x0 x1 x2 x3 x4 (ix3 h R C) else 0 := by
  pointwise [val_main_v72, val_main_v23_1, val_main_v22, val_main_v21, val_main_v20, val_main_v19, val_main_v18, val_main_v17, val_main_v16, val_main_v15, val_main_call1_v0, val_main_call1_cst]
  exact sel_le C.isLt R.isLt _ _

theorem r74 (C : Fin 2048) (h : Fin 16) (k : Fin 256) :
    val_main_v74 (F := Ideal) x0 x1 x2 x3 x4 (ix3 C h k) = ∑ R : Fin 2048, val_main_v72 (F := Ideal) x0 x1 x2 x3 x4 (ix3 h R C) * val_main_v13 (F := Ideal) x0 x4 (ix3 R h k) := by
  pointwise [val_main_v74, val_main_v73]

theorem r78 (R : Fin 2048) (h : Fin 16) (k : Fin 256) :
    val_main_v78 (F := Ideal) x0 x1 x2 x3 x4 (ix3 R h k) = (∑ C : Fin 2048, val_main_v72 (F := Ideal) x0 x1 x2 x3 x4 (ix3 h R C) * val_main_v6 (F := Ideal) x1 x2 (ix3 C h k)) * x4 (ix2 R k) := by
  pointwise [val_main_v78, val_main_v77, val_main_v76, val_main_v75, val_main_v11]

theorem r80 (R : Fin 2048) (j : Fin 4096) :
    val_main_v80 (F := Ideal) x0 x1 x2 x3 x4 (ix2 R j) = val_main_v78 (F := Ideal) x0 x1 x2 x3 x4 (ix3 R (⟨j.val / 256, by omega⟩ : Fin 16) (⟨j.val % 256, by omega⟩ : Fin 256)) := by
  pointwise [val_main_v80, val_main_v79]

theorem r82 (C : Fin 2048) (j : Fin 4096) :
    val_main_v82 (F := Ideal) x0 x1 x2 x3 x4 (ix2 C j) = val_main_v74 (F := Ideal) x0 x1 x2 x3 x4 (ix3 C (⟨j.val / 256, by omega⟩ : Fin 16) (⟨j.val % 256, by omega⟩ : Fin 256)) := by
  pointwise [val_main_v82, val_main_v81]

theorem r84 (C : Fin 2048) (j : Fin 2048) :
    val_main_v84 (F := Ideal) x0 x1 x2 x3 x4 (ix2 C j) = val_main_v59 (F := Ideal) x0 x1 x2 x3 x4 (ix3 C (⟨j.val / 128, by omega⟩ : Fin 16) (⟨j.val % 128, by omega⟩ : Fin 128)) := by
  pointwise [val_main_v84, val_main_v83]

theorem r24 (h : Fin 16) (R : Fin 2048) :
    val_main_v24 (F := Ideal) x0 x1 x2 x4 (ix2 h R) = Finset.fold max (⊥ : EReal) (fun C => val_main_v23_0 (F := Ideal) x0 x1 x2 x4 (ix3 h R C)) Finset.univ := by
  pointwise [val_main_v24, val_main_cst_0]
  rw [neg_inf]

end Cert.AttnRef
-- ==== Proof.AttnIHost.lean ====
/- The arrays the host prepares for the attention gradient, as the reference's own values of the same arguments. -/
module

public import proofs.«01_k».proof.Proof.AttnIData
public import proofs.«01_k».proof.Proof.AttnRef
public import Idealize.ShloMosaic.Lib.StableHlo.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

theorem host_q : (V m c main_v40 : (⟨S2048x4096, .bf16⟩ : BufTy).Contents (Elt Ideal))
    = truncf (F := Ideal) .bf16 (shapeCast _ (Cert.ReferenceIdeal.Read.val_main_v13 (F := Ideal) (m ((c : Thread nD τ).loc main_arg0)) (m ((c : Thread nD τ).loc main_arg4))) shapeCasts_S2048x16x256_S2048x4096) bitsLt_bf16_f32 := by
  simp only [V, hostOps0, hostOps0_1, hostOps0_2, List.flatten_cons, List.flatten_nil, List.append_nil, List.cons_append, List.nil_append, TRef.nullary, TRef.ternary, TRef.unary, TRef.toBuf, TRef.ofBuf, cast_eq]
  after_results_simp
  rfl

/-- The joining of the two halves of the keys, under the name the reference's run has for it. -/
theorem join_named : ((fun a b => concatenate S2048x16x256 2 [⟨S2048x16x128, a⟩, ⟨S2048x16x128, b⟩] concatenates_S2048x16x128_S2048x16x128_S2048x16x256_d2) : (⟨S2048x16x128, .f32⟩ : BufTy).Contents (Elt Ideal) → (⟨S2048x16x128, .f32⟩ : BufTy).Contents (Elt Ideal) → (⟨S2048x16x256, .f32⟩ : BufTy).Contents (Elt Ideal)) = Cert.ReferenceIdeal.Value.fn_main_v6 (F := Ideal) := rfl

theorem host_o : (V m c main_v41 : (⟨S2048x2048, .bf16⟩ : BufTy).Contents (Elt Ideal))
    = truncf (F := Ideal) .bf16 (shapeCast _ (Cert.ReferenceIdeal.Read.val_main_v53 (F := Ideal) (m ((c : Thread nD τ).loc main_arg0)) (m ((c : Thread nD τ).loc main_arg1)) (m ((c : Thread nD τ).loc main_arg2)) (m ((c : Thread nD τ).loc main_arg4))) shapeCasts_S2048x16x128_S2048x2048) bitsLt_bf16_f32 := by
  simp only [V, hostOps0, hostOps0_1, hostOps0_2, List.flatten_cons, List.flatten_nil, List.append_nil, List.cons_append, List.nil_append, TRef.nullary, TRef.ternary, TRef.unary, TRef.toBuf, TRef.ofBuf, cast_eq]
  rw [join_named]
  after_results_simp
  unfold Cert.ReferenceIdeal.Read.val_main_v53 Cert.ReferenceIdeal.Read.val_main_v52 Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41
  rw [Cert.AttnRef.v31_eq]
  rfl

theorem host_l : (V m c main_v38 : (⟨S16x2048x128, .f32⟩ : BufTy).Contents (Elt Ideal))
    = broadcastInDim S16x2048x128 ![0, 1, 2] bcast_S16x2048x1_S16x2048x128_0_1_2 (addf (F := Ideal) (φ := .f32) (Cert.ReferenceIdeal.Read.val_main_v41 (F := Ideal) (m ((c : Thread nD τ).loc main_arg0)) (m ((c : Thread nD τ).loc main_arg1)) (m ((c : Thread nD τ).loc main_arg2)) (m ((c : Thread nD τ).loc main_arg4))) (Host.log (F := Ideal) (φ := .f32) (Cert.ReferenceIdeal.Read.val_main_v46 (F := Ideal) (m ((c : Thread nD τ).loc main_arg0)) (m ((c : Thread nD τ).loc main_arg1)) (m ((c : Thread nD τ).loc main_arg2)) (m ((c : Thread nD τ).loc main_arg4))))) := by
  simp only [V, hostOps0, hostOps0_1, hostOps0_2, List.flatten_cons, List.flatten_nil, List.append_nil, List.cons_append, List.nil_append, TRef.nullary, TRef.ternary, TRef.unary, TRef.toBuf, TRef.ofBuf, cast_eq]
  rw [join_named]
  after_results_simp
  unfold Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41
  rw [Cert.AttnRef.v31_eq]
  rfl

end Cert.KernelIdeal.Attn
-- ==== Proof.AttnSoft.lean ====
/- A causal softmax's row over the extended reals: its weights by the logarithm of its sum, and its gradient
   by the product of the result with the cotangent. The scores and the arrays are real numbers. -/
module

public import Idealize.ShloMosaic.PureOps.Ideal
public import Mathlib.Analysis.SpecialFunctions.Log.Basic

@[expose] public section

noncomputable section

namespace Cert.AttnSoft

open Idealize.ShloMosaic

theorem csum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- A sum of products of reals is real. -/
theorem real_dot {ι : Type} (s : Finset ι) (f g : ι → EReal) (hf : ∀ i, ∃ r : ℝ, f i = r) (hg : ∀ i, ∃ r : ℝ, g i = r) :
    ∃ r : ℝ, ∑ i ∈ s, f i * g i = r := by
  choose f' hf using hf
  choose g' hg using hg
  refine ⟨∑ i ∈ s, f' i * g' i, ?_⟩
  rw [csum]
  refine Finset.sum_congr rfl fun i _ => ?_
  rw [hf, hg, EReal.coe_mul]

section Row
variable {n : ℕ} (R : ℕ) (s dp : Fin n → ℝ) (mx : ℝ)

/-- The row's exponentials as real numbers. -/
def ex (C : Fin n) : ℝ := if C.val ≤ R then Real.exp (s C - mx) else 0

theorem ex_nonneg (C : Fin n) : 0 ≤ ex R s mx C := by
  unfold ex; split
  · exact (Real.exp_pos _).le
  · exact le_rfl

theorem exp_eq (C : Fin n) : Ideal.exp ((if C.val ≤ R then (s C : EReal) else ⊥) - (mx : EReal)) = (ex R s mx C : EReal) := by
  unfold ex
  split
  · rw [← EReal.coe_sub, Ideal.exp_coe]
  · rw [EReal.bot_sub, Ideal.exp_bot]; rfl

/-- The row's sum. -/
def tot : ℝ := ∑ C, ex R s mx C

theorem tot_pos (hR : R < n) : 0 < tot R s mx := by
  unfold tot
  have h : ex R s mx ⟨R, hR⟩ ≤ ∑ C, ex R s mx C :=
    Finset.single_le_sum (f := ex R s mx) (fun C _ => ex_nonneg R s mx C) (Finset.mem_univ _)
  refine lt_of_lt_of_le ?_ h
  unfold ex
  rw [if_pos le_rfl]
  exact Real.exp_pos _

theorem div_real (a : ℝ) {l : ℝ} (hl : 0 < l) : Ideal.div (a : EReal) (l : EReal) = ((a / l : ℝ) : EReal) := by
  rw [Ideal.div_coe hl.ne', ← EReal.coe_mul, mul_one_div]

theorem one_div_real {l : ℝ} (hl : 0 < l) : Ideal.div 1 (l : EReal) = ((1 / l : ℝ) : EReal) := by
  rw [Ideal.div_coe hl.ne', one_mul]

/-- The weight by the logarithm of the sum is the weight by the quotient. -/
theorem weight (hR : R < n) (C : Fin n) :
    Ideal.exp ((if C.val ≤ R then (s C : EReal) else ⊥) - ((mx : EReal) + Ideal.log (tot R s mx : EReal)))
      = ((ex R s mx C / tot R s mx : ℝ) : EReal) := by
  have hp := tot_pos R s mx hR
  rw [Ideal.log_coe, if_neg (not_le.mpr hp), ← EReal.coe_add, exp_eq]
  congr 1
  unfold ex
  split
  · rw [← sub_sub, Real.exp_sub, Real.exp_log hp]
  · rw [zero_div]

variable {k : ℕ} (d : Fin k → ℝ) (v : Fin n → Fin k → ℝ)

/-- The row's product with the cotangent is the weighted sum of the keys' products. -/
theorem delta (l : ℝ) (e : Fin n → ℝ) :
    (∑ i, d i * ∑ C, v C i * (e C / l)) = ∑ C, (∑ i, d i * v C i) * (e C / l) := by
  simp only [Finset.mul_sum, Finset.sum_mul]
  rw [Finset.sum_comm]
  exact Finset.sum_congr rfl fun C _ => Finset.sum_congr rfl fun i _ => by ring

/-- The gradient of the row's scores, both ways. -/
theorem grad {l : ℝ} (hl : l ≠ 0) (e : Fin n → ℝ) (C : Fin n) :
    e C / l * ((∑ i, d i * v C i) - ∑ i, d i * ∑ C, v C i * (e C / l))
      = ((∑ i, d i * v C i) / l + -(∑ C, (∑ i, d i * v C i) * (1 / (l * l)) * e C)) * e C := by
  rw [delta]
  have h : (∑ C, (∑ i, d i * v C i) * (1 / (l * l)) * e C) = (∑ C, (∑ i, d i * v C i) * (e C / l)) / l := by
    rw [Finset.sum_div]
    refine Finset.sum_congr rfl fun C _ => ?_
    field_simp
  rw [h]
  ring

end Row

end Cert.AttnSoft
-- ==== Proof.AttnAlg.lean ====
/- The gradient as the kernel's blocks sum it is the reference's gradient, where the arguments are real numbers. -/
module

public import proofs.«01_k».proof.Proof.AttnSpec
public import proofs.«01_k».proof.Proof.AttnRef
public import proofs.«01_k».proof.Proof.AttnSoft

@[expose] public section

set_option maxRecDepth 16384

noncomputable section

namespace Cert.AttnAlg

open Cert.ReferenceIdeal Cert.ReferenceIdeal.Gen Cert.ReferenceIdeal.Read Cert.AttnSpec Cert.AttnRef Cert.AttnSoft
open Idealize.ShloMosaic Idealize.ShloMosaic.TcCoe Idealize.ShloMosaic.Tactic

variable (x0 : Vec Ideal S2048x4096 .f32) (x1 : Vec Ideal S2048x4096 .bf16) (x2 : Vec Ideal S2048x128 .bf16)
  (x3 : Vec Ideal S2048x2048 .bf16) (x4 : Vec Ideal S2048x256 .f32)

/-- Every entry is a real number. -/
def AllReal {ι : Type} (f : ι → EReal) : Prop := ∀ i, ∃ r : ℝ, f i = r

/-- The device's arrays are these arguments and what the reference's forward pass computes of them. -/
structure Fits (g : Data) : Prop where
  q : ∀ (R : Fin 2048) (h : Fin 16) (k : Fin 256), g.Q R.val (256 * h.val + k.val) = val_main_v13 (F := Ideal) x0 x4 (ix3 R h k)
  kv : ∀ (C : Fin 2048) (j : Fin 4096), g.KV C.val j.val = x1 (ix2 C j)
  kr : ∀ (C : Fin 2048) (k : Fin 128), g.KR C.val k.val = x2 (ix2 C k)
  o : ∀ (R : Fin 2048) (h : Fin 16) (d : Fin 128), g.O R.val (128 * h.val + d.val) = val_main_v53 (F := Ideal) x0 x1 x2 x4 (ix3 R h d)
  d : ∀ (R : Fin 2048) (j : Fin 2048), g.DO R.val j.val = x3 (ix2 R j)
  ls : ∀ (h : Fin 16) (R : Fin 2048), g.LS h.val R.val = val_main_v24 (F := Ideal) x0 x1 x2 x4 (ix2 h R) + Ideal.log (val_main_v45 (F := Ideal) x0 x1 x2 x4 (ix2 h R))
  t : ∀ (R : Fin 2048) (k : Fin 256), g.T R.val k.val = x4 (ix2 R k)

section Real
variable {x0 x1 x2 x3 x4} (h0 : AllReal x0) (h1 : AllReal x1) (h2 : AllReal x2) (h3 : AllReal x3) (h4 : AllReal x4)
include h0 h4
theorem v13_real (R : Fin 2048) (h : Fin 16) (k : Fin 256) : ∃ r : ℝ, val_main_v13 (F := Ideal) x0 x4 (ix3 R h k) = r := by
  obtain ⟨a, ha⟩ := h0 (ix2 R (⟨h.val * 256 + k.val, by omega⟩ : Fin 4096))
  obtain ⟨b, hb⟩ := h4 (ix2 R k)
  exact ⟨a * b, by rw [r13, ha, hb, EReal.coe_mul]⟩
omit h0 h4
include h1 h2
theorem v6_real (C : Fin 2048) (h : Fin 16) (k : Fin 256) : ∃ r : ℝ, val_main_v6 (F := Ideal) x1 x2 (ix3 C h k) = r := by
  by_cases hk : k.val < 128
  · obtain ⟨a, ha⟩ := h1 (ix2 C (⟨h.val * 128 + k.val, by omega⟩ : Fin 4096))
    exact ⟨a, (r6_lo x1 x2 C h ⟨k.val, hk⟩).trans ha⟩
  · obtain ⟨a, ha⟩ := h2 (ix2 C (⟨k.val - 128, by omega⟩ : Fin 128))
    refine ⟨a, Eq.trans ?_ ((r6_hi x1 x2 C h ⟨k.val - 128, by omega⟩).trans ha)⟩
    congr 2
    exact Fin.ext (show k.val = 128 + (k.val - 128) by omega)
include h0 h4
theorem v14_real (h : Fin 16) (R C : Fin 2048) : ∃ r : ℝ, val_main_v14 (F := Ideal) x0 x1 x2 x4 (ix3 h R C) = r := by
  rw [r14]
  exact real_dot _ _ _ (fun k => v13_real h0 h4 R h k) (fun k => v6_real h1 h2 C h k)
theorem v24_real (h : Fin 16) (R : Fin 2048) : ∃ r : ℝ, val_main_v24 (F := Ideal) x0 x1 x2 x4 (ix2 h R) = r := by
  have lo : (⊥ : EReal) < val_main_v24 (F := Ideal) x0 x1 x2 x4 (ix2 h R) := by
    obtain ⟨r, hr⟩ := v14_real h0 h1 h2 h4 h R R
    rw [r24, Finset.lt_fold_max]
    refine Or.inr ⟨R, Finset.mem_univ _, ?_⟩
    rw [r23, if_pos le_rfl, hr]
    exact EReal.bot_lt_coe r
  have hi : val_main_v24 (F := Ideal) x0 x1 x2 x4 (ix2 h R) < ⊤ := by
    rw [r24, Finset.fold_max_lt]
    refine ⟨bot_lt_top, fun C _ => ?_⟩
    rw [r23]
    split
    · obtain ⟨r, hr⟩ := v14_real h0 h1 h2 h4 h R C
      rw [hr]; exact EReal.coe_lt_top r
    · exact bot_lt_top
  exact ⟨_, (EReal.coe_toReal hi.ne lo.ne').symm⟩

/-- One row of the reference in real numbers: its scores and its maximum, with the exponentials and their sum. -/
theorem row (h : Fin 16) (R : Fin 2048) : ∃ (s : Fin 2048 → ℝ) (mx : ℝ),
    (∀ C, val_main_v14 (F := Ideal) x0 x1 x2 x4 (ix3 h R C) = s C) ∧ val_main_v24 (F := Ideal) x0 x1 x2 x4 (ix2 h R) = mx
    ∧ (∀ C, val_main_v44 (F := Ideal) x0 x1 x2 x4 (ix3 h R C) = (ex R.val s mx C : EReal))
    ∧ val_main_v45 (F := Ideal) x0 x1 x2 x4 (ix2 h R) = (tot R.val s mx : EReal) := by
  choose s hs using v14_real h0 h1 h2 h4 h R
  obtain ⟨mx, hm⟩ := v24_real h0 h1 h2 h4 h R
  have he : ∀ C, val_main_v44 (F := Ideal) x0 x1 x2 x4 (ix3 h R C) = (ex R.val s mx C : EReal) := fun C => by
    rw [r44, r23, hm, hs, exp_eq]
  refine ⟨s, mx, hs, hm, he, ?_⟩
  rw [r45]
  unfold tot
  rw [csum]
  exact Finset.sum_congr rfl fun C _ => he C

variable {g : Data} (hg : Fits x0 x1 x2 x3 x4 g)
omit h0 h1 h2 h4
include hg

theorem SC_eq (h : Fin 16) (R C : Fin 2048) : SC g h.val R.val C.val = val_main_v14 (F := Ideal) x0 x1 x2 x4 (ix3 h R C) := by
  rw [r14]
  unfold SC
  refine Eq.trans ?_ (Fin.sum_univ_add (M := EReal) (a := 128) (b := 128) fun k : Fin (128 + 128) =>
    val_main_v13 (F := Ideal) x0 x4 (ix3 R h k) * val_main_v6 (F := Ideal) x1 x2 (ix3 C h k)).symm
  refine congrArg₂ (· + ·) ?_ ?_
  · refine Finset.sum_congr rfl fun k _ => congrArg₂ (· * ·) (hg.q R h (Fin.castAdd 128 k)) ?_
    refine Eq.trans ?_ (r6_lo x1 x2 C h k).symm
    refine Eq.trans ?_ (hg.kv C _)
    exact congrArg (g.KV C.val) (by show 128 * h.val + k.val = h.val * 128 + k.val; omega)
  · refine Finset.sum_congr rfl fun k _ => congrArg₂ (· * ·) (hg.q R h (Fin.natAdd 128 k)) ?_
    exact (hg.kr C k).trans (r6_hi x1 x2 C h k).symm

theorem KF_eq (h : Fin 16) (C : Fin 2048) (k : Fin 256) : KF g h.val C.val k.val = val_main_v6 (F := Ideal) x1 x2 (ix3 C h k) := by
  unfold KF
  split
  · next hk =>
    refine Eq.trans ?_ (r6_lo x1 x2 C h ⟨k.val, hk⟩).symm
    refine Eq.trans ?_ (hg.kv C _)
    exact congrArg (g.KV C.val) (by show 128 * h.val + k.val = h.val * 128 + k.val; omega)
  · next hk =>
    refine (hg.kr C ⟨k.val - 128, by omega⟩).trans ((r6_hi x1 x2 C h ⟨k.val - 128, by omega⟩).symm.trans ?_)
    congr 2
    exact Fin.ext (show 128 + (k.val - 128) = k.val by omega)

theorem DO_eq (R : Fin 2048) (h : Fin 16) (d : Fin 128) : g.DO R.val (128 * h.val + d.val) = val_main_v56 (F := Ideal) x3 (ix3 h d R) := by
  rw [r56]
  refine Eq.trans ?_ (hg.d R _)
  exact congrArg (g.DO R.val) (by show 128 * h.val + d.val = h.val * 128 + d.val; omega)

theorem DP_eq (h : Fin 16) (R C : Fin 2048) : DP g h.val R.val C.val = val_main_v57 (F := Ideal) x1 x3 (ix3 h R C) := by
  rw [r57]
  unfold DP
  refine Finset.sum_congr rfl fun d _ => congrArg₂ (· * ·) (DO_eq hg R h d) ?_
  rw [r9]
  refine Eq.trans ?_ (hg.kv C _)
  exact congrArg (g.KV C.val) (by show 2048 + (128 * h.val + d.val) = 2048 + (h.val * 128 + d.val); omega)

include h0 h1 h2 h4

theorem PR_eq (h : Fin 16) (R C : Fin 2048) : PR g h.val R.val C.val = val_main_v48 (F := Ideal) x0 x1 x2 x4 (ix3 h R C) := by
  obtain ⟨s, mx, hs, hm, he, hl⟩ := row h0 h1 h2 h4 h R
  unfold PR
  rw [SC_eq hg, hg.ls, r48, he, hl, hm, hs, div_real _ (tot_pos _ _ _ R.isLt), weight _ _ _ R.isLt]

include h3

theorem DS_eq (h : Fin 16) (R C : Fin 2048) : DS g h.val R.val C.val = val_main_v72 (F := Ideal) x0 x1 x2 x3 x4 (ix3 h R C) := by
  by_cases hC : C.val ≤ R.val
  swap
  · rw [r72, if_neg hC, DS_masked g (by omega)]
  rw [r72, if_pos hC]
  unfold DS
  rw [PR_eq h0 h1 h2 h4 hg, DP_eq hg]
  obtain ⟨s, mx, hs, hm, he, hl⟩ := row h0 h1 h2 h4 h R
  have hp := tot_pos R.val s mx R.isLt
  have hw : ∀ C, val_main_v48 (F := Ideal) x0 x1 x2 x4 (ix3 h R C) = ((ex R.val s mx C / tot R.val s mx : ℝ) : EReal) := fun C => by
    rw [r48, he, hl, div_real _ hp]
  choose d hd using fun i : Fin 128 => (⟨_, (r56 x3 R h i).trans (h3 _).choose_spec⟩ : ∃ r : ℝ, val_main_v56 (F := Ideal) x3 (ix3 h i R) = r)
  choose v hv using fun (C : Fin 2048) (i : Fin 128) => (⟨_, (r9 x1 C h i).trans (h1 _).choose_spec⟩ : ∃ r : ℝ, val_main_v9 (F := Ideal) x1 (ix3 C h i) = r)
  have hdp : ∀ C, val_main_v57 (F := Ideal) x1 x3 (ix3 h R C) = ((∑ i, d i * v C i : ℝ) : EReal) := fun C => by
    rw [r57, csum]
    exact Finset.sum_congr rfl fun i _ => by rw [hd, hv, EReal.coe_mul]
  have ho : ∀ i, val_main_v53 (F := Ideal) x0 x1 x2 x4 (ix3 R h i) = ((∑ C, v C i * (ex R.val s mx C / tot R.val s mx) : ℝ) : EReal) := fun i => by
    rw [r53, csum]
    exact Finset.sum_congr rfl fun C _ => by rw [hv, hw, EReal.coe_mul]
  have hDL : DL g h.val R.val = ((∑ i, d i * ∑ C, v C i * (ex R.val s mx C / tot R.val s mx) : ℝ) : EReal) := by
    unfold DL
    rw [csum]
    exact Finset.sum_congr rfl fun i _ => by rw [DO_eq hg, hg.o, hd, ho, EReal.coe_mul]
  have hS : val_main_v63 (F := Ideal) x0 x1 x2 x3 x4 (ix2 h R)
      = ((∑ C, (∑ i, d i * v C i) * (1 / (tot R.val s mx * tot R.val s mx)) * ex R.val s mx C : ℝ) : EReal) := by
    rw [r63, csum]
    refine Finset.sum_congr rfl fun C _ => ?_
    rw [hdp, hl, he, ← EReal.coe_mul, one_div_real (mul_pos hp hp), ← EReal.coe_mul, ← EReal.coe_mul]
  rw [r71, hw, hDL, hS, hdp, hl, he, div_real _ hp, ← EReal.coe_sub, ← EReal.coe_mul, ← EReal.coe_neg, ← EReal.coe_add, ← EReal.coe_mul]
  exact congrArg _ (grad d v hp.ne' (ex R.val s mx) C)

/-- The three results, entry by entry. -/
theorem dq_eq (R : Fin 2048) (j : Fin 4096) :
    (∑ x ∈ Finset.range 2048, dqT g (j.val / 256) R.val (j.val % 256) x) * g.T R.val (j.val % 256) = val_main_v80 (F := Ideal) x0 x1 x2 x3 x4 (ix2 R j) := by
  rw [r80, r78]
  refine congrArg₂ (· * ·) ?_ (hg.t R ⟨j.val % 256, by omega⟩)
  rw [Finset.sum_range (M := EReal)]
  refine Finset.sum_congr rfl fun C _ => ?_
  exact congrArg₂ (· * ·) (DS_eq h0 h1 h2 h3 h4 hg ⟨j.val / 256, by omega⟩ R C) (KF_eq hg ⟨j.val / 256, by omega⟩ C ⟨j.val % 256, by omega⟩)

theorem dk_eq (C : Fin 2048) (j : Fin 4096) :
    ∑ x ∈ Finset.range 2048, dkT g (j.val / 256) C.val (j.val % 256) x = val_main_v82 (F := Ideal) x0 x1 x2 x3 x4 (ix2 C j) := by
  rw [r82, r74, Finset.sum_range (M := EReal)]
  refine Finset.sum_congr rfl fun R _ => ?_
  exact congrArg₂ (· * ·) (DS_eq h0 h1 h2 h3 h4 hg ⟨j.val / 256, by omega⟩ R C) (hg.q R ⟨j.val / 256, by omega⟩ ⟨j.val % 256, by omega⟩)

omit h3
theorem dv_eq (C : Fin 2048) (j : Fin 2048) :
    ∑ x ∈ Finset.range 2048, dvT g (j.val / 128) C.val (j.val % 128) x = val_main_v84 (F := Ideal) x0 x1 x2 x3 x4 (ix2 C j) := by
  rw [r84, r59, Finset.sum_range (M := EReal)]
  refine Finset.sum_congr rfl fun R _ => ?_
  refine (congrArg₂ (· * ·) (PR_eq h0 h1 h2 h4 hg ⟨j.val / 128, by omega⟩ R C) (DO_eq hg R ⟨j.val / 128, by omega⟩ ⟨j.val % 128, by omega⟩)).trans ?_
  exact mul_comm _ _

end Real

end Cert.AttnAlg
-- ==== Proof.AttnClaim.lean ====
/- The attention gradient: its claims. -/
module

public import proofs.«01_k».proof.Defs
public import proofs.«01_k».proof.Proof.Gen.Pre_finite
public import proofs.«01_k».proof.Proof.AttnIArr
public import proofs.«01_k».proof.Proof.AttnIHost
public import proofs.«01_k».proof.Proof.AttnAlg
public import proofs.«01_k».proof.Proof.AttnBFrame
public import Idealize.ShloMosaic.Lib.Claim
public import Idealize.ShloMosaic.Lib.Quiescent
public import Idealize.ShloMosaic.Lib.ReduceAll
public import Idealize.ShloMosaic.Lib.Affine

@[expose] public section

set_option maxRecDepth 16384

noncomputable section

namespace Cert.AttnClaim

open Cert.KernelIdeal Cert.KernelIdeal.Gen Cert.KernelIdeal.Attn Cert.AttnSpec Cert.AttnAlg
open Idealize.ShloMosaic Idealize.ShloMosaic.TcCoe Idealize.ShloMosaic.Tactic Idealize.SL Idealize.SL.Sem

/-! ## The precondition read back -/

theorem top_bits : Ideal.ofBits FTy.f32 0x7F800000#32 = ⊤ := by
  simp [Ideal.ofBits, Ideal.ieee]

theorem real_of_abs (x : EReal) (h : Ideal.cmp .olt (max x (-x)) (Ideal.ofBits FTy.f32 0x7F800000#32) = 1#1) : ∃ r : ℝ, x = r := by
  rw [top_bits] at h
  have h : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h; exact absurd (lt_of_le_of_lt (le_max_left _ _) h) (lt_irrefl _)
  have h2 : x ≠ ⊥ := fun e => by rw [e] at h; exact absurd (lt_of_le_of_lt (le_max_right _ _) h) (by rw [EReal.neg_bot]; exact lt_irrefl _)
  exact ⟨x.toReal, (EReal.coe_toReal h1 h2).symm⟩

/-- Where the predicate holds, every argument is a real number. -/
theorem finite_real (x0 : Vec Ideal S2048x4096 .f32) (x1 : Vec Ideal S2048x4096 .bf16) (x2 : Vec Ideal S2048x128 .bf16)
    (x3 : Vec Ideal S2048x2048 .bf16) (x4 : Vec Ideal S2048x256 .f32)
    (h : Cert.Pre_finite.fn (F := Ideal) x0 x1 x2 x3 x4 = fun _ => 1#1) :
    AllReal x0 ∧ AllReal x1 ∧ AllReal x2 ∧ AllReal x3 ∧ AllReal x4 := by
  have e := congrFun h ix0
  dsimp only [Cert.Pre_finite.fn, Cert.Pre_finite.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  have hs : Subsingleton (⟨0, ![]⟩ : Shape).Idx := ⟨fun a b => funext fun i => i.elim0⟩
  refine ⟨fun i => real_of_abs _ ?_, fun i => real_of_abs _ ?_, fun i => real_of_abs _ ?_, fun i => real_of_abs _ ?_, fun i => real_of_abs _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i
  · exact Host.reduce_andi_all _ _ _ _ _ e4 i

/-! ## The arrays the kernel reads, in the reference's terms -/

theorem q_at (y : Vec Ideal S2048x16x256 .f32) (R : Fin 2048) (h : Fin 16) (k : Fin 256) :
    at2 (n := 2048) (m := 4096) (truncf (F := Ideal) .bf16 (shapeCast _ y shapeCasts_S2048x16x256_S2048x4096) bitsLt_bf16_f32) R.val (256 * h.val + k.val) = y (ix3 R h k) := by
  refine (at2_eq _ R (⟨256 * h.val + k.val, by omega⟩ : Fin 4096) _ _ rfl rfl).trans ?_
  pointwise

theorem o_at (y : Vec Ideal S2048x16x128 .f32) (R : Fin 2048) (h : Fin 16) (k : Fin 128) :
    at2 (n := 2048) (m := 2048) (truncf (F := Ideal) .bf16 (shapeCast _ y shapeCasts_S2048x16x128_S2048x2048) bitsLt_bf16_f32) R.val (128 * h.val + k.val) = y (ix3 R h k) := by
  refine (at2_eq _ R (⟨128 * h.val + k.val, by omega⟩ : Fin 2048) _ _ rfl rfl).trans ?_
  pointwise

theorem l_at (a b : Vec Ideal S16x2048x1 .f32) (h : Fin 16) (R : Fin 2048) :
    at3 (n := 16) (m := 2048) (k := 128) (broadcastInDim S16x2048x128 ![0, 1, 2] bcast_S16x2048x1_S16x2048x128_0_1_2 (addf (F := Ideal) (φ := .f32) a (Host.log (F := Ideal) (φ := .f32) b))) h.val R.val
      = a (ix3 h R 0) + Ideal.log (b (ix3 h R 0)) := by
  refine (at3_eq _ h R (0 : Fin 128) _ _ rfl rfl rfl).trans ?_
  pointwise

theorem v41_at (x0 x1 x2 x4) (h : Fin 16) (R : Fin 2048) :
    Cert.ReferenceIdeal.Read.val_main_v41 (F := Ideal) x0 x1 x2 x4 (ix3 h R 0) = Cert.ReferenceIdeal.Read.val_main_v24 (F := Ideal) x0 x1 x2 x4 (ix2 h R) := by
  unfold Cert.ReferenceIdeal.Read.val_main_v41
  rw [Cert.AttnRef.v31_eq]
  generalize Cert.ReferenceIdeal.Read.val_main_v24 (F := Ideal) x0 x1 x2 x4 = f
  pointwise

theorem v46_at (x0 x1 x2 x4) (h : Fin 16) (R : Fin 2048) :
    Cert.ReferenceIdeal.Read.val_main_v46 (F := Ideal) x0 x1 x2 x4 (ix3 h R 0) = Cert.ReferenceIdeal.Read.val_main_v45 (F := Ideal) x0 x1 x2 x4 (ix2 h R) := by
  unfold Cert.ReferenceIdeal.Read.val_main_v46
  generalize Cert.ReferenceIdeal.Read.val_main_v45 (F := Ideal) x0 x1 x2 x4 = f
  pointwise

variable (m : (ℓ : Loc nD τ sig) → Buf (Elt Ideal) ℓ) (c : Dev nD)

theorem fit_q (R : Fin 2048) (h : Fin 16) (k : Fin 256) :
    (G m c).Q R.val (256 * h.val + k.val) = Cert.ReferenceIdeal.Read.val_main_v13 (F := Ideal) (m ((c : Thread nD τ).loc main_arg0)) (m ((c : Thread nD τ).loc main_arg4)) (ix3 R h k) := by
  rw [show (G m c).Q = at2 (n := 2048) (m := 4096) (V m c main_v40) from rfl, host_q]
  exact q_at _ R h k

theorem fit_o (R : Fin 2048) (h : Fin 16) (d : Fin 128) :
    (G m c).O R.val (128 * h.val + d.val) = Cert.ReferenceIdeal.Read.val_main_v53 (F := Ideal) (m ((c : Thread nD τ).loc main_arg0)) (m ((c : Thread nD τ).loc main_arg1)) (m ((c : Thread nD τ).loc main_arg2)) (m ((c : Thread nD τ).loc main_arg4)) (ix3 R h d) := by
  rw [show (G m c).O = at2 (n := 2048) (m := 2048) (V m c main_v41) from rfl, host_o]
  exact o_at _ R h d

theorem fit_l (h : Fin 16) (R : Fin 2048) :
    (G m c).LS h.val R.val = Cert.ReferenceIdeal.Read.val_main_v24 (F := Ideal) (m ((c : Thread nD τ).loc main_arg0)) (m ((c : Thread nD τ).loc main_arg1)) (m ((c : Thread nD τ).loc main_arg2)) (m ((c : Thread nD τ).loc main_arg4)) (ix2 h R) + Ideal.log (Cert.ReferenceIdeal.Read.val_main_v45 (F := Ideal) (m ((c : Thread nD τ).loc main_arg0)) (m ((c : Thread nD τ).loc main_arg1)) (m ((c : Thread nD τ).loc main_arg2)) (m ((c : Thread nD τ).loc main_arg4)) (ix2 h R)) := by
  rw [show (G m c).LS = at3 (n := 16) (m := 2048) (k := 128) (V m c main_v38) from rfl, host_l]
  refine (l_at _ _ h R).trans ?_
  rw [v41_at, v46_at]

theorem fits : Fits (m ((c : Thread nD τ).loc main_arg0)) (m ((c : Thread nD τ).loc main_arg1)) (m ((c : Thread nD τ).loc main_arg2)) (m ((c : Thread nD τ).loc main_arg3)) (m ((c : Thread nD τ).loc main_arg4)) (G m c) where
  q := fit_q m c
  kv C j := by
    rw [show (G m c).KV = at2 (n := 2048) (m := 4096) (V m c main_arg1) from rfl, V_main_arg1]
    exact at2_eq _ C j _ _ rfl rfl
  kr C k := by
    rw [show (G m c).KR = at2 (n := 2048) (m := 128) (V m c main_arg2) from rfl, V_main_arg2]
    exact at2_eq _ C k _ _ rfl rfl
  o := fit_o m c
  d R j := by
    rw [show (G m c).DO = at2 (n := 2048) (m := 2048) (V m c main_arg3) from rfl, V_main_arg3]
    exact at2_eq _ R j _ _ rfl rfl
  ls := fit_l m c
  t R k := by
    rw [show (G m c).T = at2 (n := 2048) (m := 256) (V m c main_arg4) from rfl, V_main_arg4]
    exact at2_eq _ R k _ _ rfl rfl

/-! ## The results are the reference's -/

variable (hpre : Cert.Pre_KernelIdeal_finite m)
include hpre

theorem final_dq : dqA m c = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨h0, h1, h2, h3, h4⟩ := finite_real _ _ _ _ _ (hpre c)
  funext y
  idx_vars y
  exact (dqA_at m c (ix2 y0 y1) y0.val y1.val _ _ rfl rfl rfl rfl).trans (dq_eq h0 h1 h2 h3 h4 (fits m c) y0 y1)

theorem final_dk : dkA m c = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨h0, h1, h2, h3, h4⟩ := finite_real _ _ _ _ _ (hpre c)
  funext y
  idx_vars y
  exact (dkA_at m c (ix2 y0 y1) y0.val y1.val _ _ rfl rfl rfl rfl).trans (dk_eq h0 h1 h2 h3 h4 (fits m c) y0 y1)

theorem final_dv : dvA m c = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨h0, h1, h2, h3, h4⟩ := finite_real _ _ _ _ _ (hpre c)
  funext y
  idx_vars y
  exact (dvA_at m c (ix2 y0 y1) y0.val y1.val _ _ rfl rfl rfl rfl).trans (dv_eq h0 h1 h2 h4 (fits m c) y0 y1)

omit hpre

/-! ## The claims -/

theorem quiescent_p : Cert.quiescent_Kernel := fun m ρ _ => Cert.Kernel.Attn.quiescent m ρ
theorem quiescent_pi : Cert.quiescent_KernelIdeal := fun m ρ _ => Cert.KernelIdeal.Attn.quiescent m ρ
theorem quiescent_pi_pre : Cert.quiescent_KernelIdeal_pre_finite := fun m ρ _ => Cert.KernelIdeal.Attn.quiescent m ρ

theorem quiescent_ri : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)
theorem quiescent_ri_pre : Cert.quiescent_ReferenceIdeal_pre_finite := fun m ρ _ => quiescent_ri m ρ trivial

theorem preserves : Cert.preserves_Kernel_KernelIdeal := IdealRules.named_const.statement _ _ _ _ _ rfl

theorem algebraic : Cert.algebraic_KernelIdeal_ReferenceIdeal_pre_finite := by
  intro m g m' g' hpre hagree
  refine ⟨fun c => dqA m c, fun c => dkA m c, fun c => dvA m c, ?_, ?_⟩
  · refine (θ_run Cert.KernelIdeal.defs _ _).mono ?_ (θ_run_and (Cert.KernelIdeal.Attn.run_arrays m g) (Cert.KernelIdeal.Attn.quiescent m g))
    exact fun r h c => ⟨((h.1 c).1 8).trans (arr_8 m c), ((h.1 c).1 9).trans (arr_9 m c), ((h.1 c).1 10).trans (arr_10 m c), h.2.1 c⟩
  · refine (θ_run Cert.ReferenceIdeal.defs _ _).mono ?_ (Cert.ReferenceIdeal.Value.run m' g')
    intro r h c
    obtain ⟨a0, a1, a2, a3, a4⟩ := hagree c
    refine ⟨(h c).1.trans ?_, (h c).2.1.trans ?_, (h c).2.2.1.trans ?_, (h c).2.2.2⟩
    · rw [Cert.ReferenceIdeal.Read.val_main_v80_eq, a0, a1, a2, a3, a4]
      exact (final_dq m c hpre).symm
    · rw [Cert.ReferenceIdeal.Read.val_main_v82_eq, a0, a1, a2, a3, a4]
      exact (final_dk m c hpre).symm
    · rw [Cert.ReferenceIdeal.Read.val_main_v84_eq, a0, a1, a2, a3, a4]
      exact (final_dv m c hpre).symm

end Cert.AttnClaim
-- ==== Proof.lean ====
module

public import proofs.«01_k».proof.Defs
public import proofs.«01_k».proof.Proof.Gen.Kernel.Skeleton
public import proofs.«01_k».proof.Proof.Gen.KernelIdeal.Skeleton
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.MulGwDown
public import proofs.«01_k».proof.Proof.MulDh2
public import proofs.«01_k».proof.Proof.MulDmerged
public import proofs.«01_k».proof.Proof.MulGwOut
public import proofs.«01_k».proof.Proof.MulGwQ
public import proofs.«01_k».proof.Proof.MulGwKv
public import proofs.«01_k».proof.Proof.MulGwLat
public import proofs.«01_k».proof.Proof.MulZLat
public import proofs.«01_k».proof.Proof.MulQ
public import proofs.«01_k».proof.Proof.MulKv
public import proofs.«01_k».proof.Proof.MulBranch
public import proofs.«01_k».proof.Proof.MulOut
public import proofs.«01_k».proof.Proof.MulDqn
public import proofs.«01_k».proof.Proof.MulDkvn
public import proofs.«01_k».proof.Proof.MulFfn
public import proofs.«01_k».proof.Proof.NormPre
public import proofs.«01_k».proof.Proof.NormPost
public import proofs.«01_k».proof.Proof.MulZBig
public import proofs.«01_k».proof.Proof.MulUp
public import proofs.«01_k».proof.Proof.MulDact
public import proofs.«01_k».proof.Proof.MulGwUp
public import proofs.«01_k».proof.Proof.MulDhBig
public import proofs.«01_k».proof.Proof.MulGwBig
public import proofs.«01_k».proof.Proof.MulDhLat
public import proofs.«01_k».proof.Proof.AdamSmall
public import proofs.«01_k».proof.Proof.AdamAda
public import proofs.«01_k».proof.Proof.AdamIn
public import proofs.«01_k».proof.Proof.AdamOut
public import proofs.«01_k».proof.Proof.AdamUq
public import proofs.«01_k».proof.Proof.AdamUkv
public import proofs.«01_k».proof.Proof.AdamUp
public import proofs.«01_k».proof.Proof.AdamDown
public import proofs.«01_k».proof.Proof.NormIn
public import proofs.«01_k».proof.Proof.NormMid
public import proofs.«01_k».proof.Proof.Merge
public import proofs.«01_k».proof.Proof.Latents
public import proofs.«01_k».proof.Proof.Gen.Pre_finite
public import proofs.«01_k».proof.Proof.AttnClaim

@[expose] public section

namespace Cert.Proof

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.Kernel24.Gen.facts,
   Cert.Kernel24Ideal.Gen.facts,
   Cert.Reference24Ideal.Gen.facts,
   Cert.Kernel25.Gen.facts,
   Cert.Kernel25Ideal.Gen.facts,
   Cert.Reference25Ideal.Gen.facts,
   Cert.Kernel26.Gen.facts,
   Cert.Kernel26Ideal.Gen.facts,
   Cert.Reference26Ideal.Gen.facts,
   Cert.Kernel27.Gen.facts,
   Cert.Kernel27Ideal.Gen.facts,
   Cert.Reference27Ideal.Gen.facts,
   Cert.Kernel28.Gen.facts,
   Cert.Kernel28Ideal.Gen.facts,
   Cert.Reference28Ideal.Gen.facts,
   Cert.Kernel29.Gen.facts,
   Cert.Kernel29Ideal.Gen.facts,
   Cert.Reference29Ideal.Gen.facts,
   Cert.Kernel30.Gen.facts,
   Cert.Kernel30Ideal.Gen.facts,
   Cert.Reference30Ideal.Gen.facts,
   Cert.Kernel31.Gen.facts,
   Cert.Kernel31Ideal.Gen.facts,
   Cert.Reference31Ideal.Gen.facts,
   Cert.Kernel32.Gen.facts,
   Cert.Kernel32Ideal.Gen.facts,
   Cert.Reference32Ideal.Gen.facts,
   Cert.Kernel33.Gen.facts,
   Cert.Kernel33Ideal.Gen.facts,
   Cert.Reference33Ideal.Gen.facts,
   Cert.Kernel34.Gen.facts,
   Cert.Kernel34Ideal.Gen.facts,
   Cert.Reference34Ideal.Gen.facts,
   Cert.Kernel35.Gen.facts,
   Cert.Kernel35Ideal.Gen.facts,
   Cert.Reference35Ideal.Gen.facts,
   Cert.Kernel37.Gen.facts,
   Cert.Kernel37Ideal.Gen.facts,
   Cert.Reference37Ideal.Gen.facts,
   Cert.Kernel38.Gen.facts,
   Cert.Kernel38Ideal.Gen.facts,
   Cert.Reference38Ideal.Gen.facts,
   Cert.Pre_finite.Gen.facts,
   Cert.AttnClaim.quiescent_p,
   Cert.AttnClaim.quiescent_pi,
   Cert.AttnClaim.quiescent_pi_pre,
   Cert.AttnClaim.quiescent_ri,
   Cert.AttnClaim.quiescent_ri_pre,
   Cert.MulGwDown.quiescent_p,
   Cert.MulGwDown.quiescent_pi,
   Cert.MulGwDown.quiescent_ri,
   Cert.MulDh2.quiescent_p,
   Cert.MulDh2.quiescent_pi,
   Cert.MulDh2.quiescent_ri,
   Cert.MulDmerged.quiescent_p,
   Cert.MulDmerged.quiescent_pi,
   Cert.MulDmerged.quiescent_ri,
   Cert.MulGwOut.quiescent_p,
   Cert.MulGwOut.quiescent_pi,
   Cert.MulGwOut.quiescent_ri,
   Cert.MulGwQ.quiescent_p,
   Cert.MulGwQ.quiescent_pi,
   Cert.MulGwQ.quiescent_ri,
   Cert.MulDqn.quiescent_p,
   Cert.MulDqn.quiescent_pi,
   Cert.MulDqn.quiescent_ri,
   Cert.MulGwKv.quiescent_p,
   Cert.MulGwKv.quiescent_pi,
   Cert.MulGwKv.quiescent_ri,
   Cert.MulDkvn.quiescent_p,
   Cert.MulDkvn.quiescent_pi,
   Cert.MulDkvn.quiescent_ri,
   Cert.MulGwLat.quiescent_p,
   Cert.MulGwLat.quiescent_pi,
   Cert.MulGwLat.quiescent_ri,
   Cert.MulZLat.quiescent_p,
   Cert.MulZLat.quiescent_pi,
   Cert.MulZLat.quiescent_ri,
   Cert.MulQ.quiescent_p,
   Cert.MulQ.quiescent_pi,
   Cert.MulQ.quiescent_ri,
   Cert.MulKv.quiescent_p,
   Cert.MulKv.quiescent_pi,
   Cert.MulKv.quiescent_ri,
   Cert.MulBranch.quiescent_p,
   Cert.MulBranch.quiescent_pi,
   Cert.MulBranch.quiescent_ri,
   Cert.MulOut.quiescent_p,
   Cert.MulOut.quiescent_pi,
   Cert.MulOut.quiescent_ri,
   Cert.MulFfn.quiescent_p,
   Cert.MulFfn.quiescent_pi,
   Cert.MulFfn.quiescent_ri,
   Cert.NormPre.quiescent_p,
   Cert.NormPre.quiescent_pi,
   Cert.NormPre.quiescent_ri,
   Cert.NormPost.quiescent_p,
   Cert.NormPost.quiescent_pi,
   Cert.NormPost.quiescent_ri,
   Cert.MulZBig.quiescent_p,
   Cert.MulZBig.quiescent_pi,
   Cert.MulZBig.quiescent_ri,
   Cert.MulUp.quiescent_p,
   Cert.MulUp.quiescent_pi,
   Cert.MulUp.quiescent_ri,
   Cert.MulDact.quiescent_p,
   Cert.MulDact.quiescent_pi,
   Cert.MulDact.quiescent_ri,
   Cert.MulGwUp.quiescent_p,
   Cert.MulGwUp.quiescent_pi,
   Cert.MulGwUp.quiescent_ri,
   Cert.MulDhBig.quiescent_p,
   Cert.MulDhBig.quiescent_pi,
   Cert.MulDhBig.quiescent_ri,
   Cert.MulGwBig.quiescent_p,
   Cert.MulGwBig.quiescent_pi,
   Cert.MulGwBig.quiescent_ri,
   Cert.MulDhLat.quiescent_p,
   Cert.MulDhLat.quiescent_pi,
   Cert.MulDhLat.quiescent_ri,
   Cert.AdamSmall.quiescent_p,
   Cert.AdamSmall.quiescent_pi,
   Cert.AdamSmall.quiescent_ri,
   Cert.AdamAda.quiescent_p,
   Cert.AdamAda.quiescent_pi,
   Cert.AdamAda.quiescent_ri,
   Cert.AdamIn.quiescent_p,
   Cert.AdamIn.quiescent_pi,
   Cert.AdamIn.quiescent_ri,
   Cert.AdamOut.quiescent_p,
   Cert.AdamOut.quiescent_pi,
   Cert.AdamOut.quiescent_ri,
   Cert.AdamUq.quiescent_p,
   Cert.AdamUq.quiescent_pi,
   Cert.AdamUq.quiescent_ri,
   Cert.AdamUkv.quiescent_p,
   Cert.AdamUkv.quiescent_pi,
   Cert.AdamUkv.quiescent_ri,
   Cert.AdamUp.quiescent_p,
   Cert.AdamUp.quiescent_pi,
   Cert.AdamUp.quiescent_ri,
   Cert.AdamDown.quiescent_p,
   Cert.AdamDown.quiescent_pi,
   Cert.AdamDown.quiescent_ri,
   Cert.NormIn.quiescent_p,
   Cert.NormIn.quiescent_pi,
   Cert.NormIn.quiescent_ri,
   Cert.NormMid.quiescent_p,
   Cert.NormMid.quiescent_pi,
   Cert.NormMid.quiescent_ri,
   Cert.Merge.quiescent_p,
   Cert.Merge.quiescent_pi,
   Cert.Merge.quiescent_ri,
   Cert.Latents.quiescent_p,
   Cert.Latents.quiescent_pi,
   Cert.Latents.quiescent_ri,
   Cert.AttnClaim.preserves,
   Cert.AttnClaim.algebraic,
   trivial,
   Cert.MulGwDown.algebraic,
   trivial,
   Cert.MulDh2.algebraic,
   trivial,
   Cert.MulDmerged.algebraic,
   trivial,
   Cert.MulGwOut.algebraic,
   trivial,
   Cert.MulGwQ.algebraic,
   trivial,
   Cert.MulDqn.algebraic,
   trivial,
   Cert.MulGwKv.algebraic,
   trivial,
   Cert.MulDkvn.algebraic,
   trivial,
   Cert.MulGwLat.algebraic,
   trivial,
   Cert.MulZLat.algebraic,
   trivial,
   Cert.MulQ.algebraic,
   trivial,
   Cert.MulKv.algebraic,
   trivial,
   Cert.MulBranch.algebraic,
   trivial,
   Cert.MulOut.algebraic,
   trivial,
   Cert.MulFfn.algebraic,
   trivial,
   Cert.NormPre.algebraic,
   trivial,
   Cert.NormPost.algebraic,
   trivial,
   Cert.MulZBig.algebraic,
   trivial,
   Cert.MulUp.algebraic,
   trivial,
   Cert.MulDact.algebraic,
   trivial,
   Cert.MulGwUp.algebraic,
   trivial,
   Cert.MulDhBig.algebraic,
   trivial,
   Cert.MulGwBig.algebraic,
   trivial,
   Cert.MulDhLat.algebraic,
   Cert.AdamSmall.preserves,
   Cert.AdamSmall.algebraic,
   Cert.AdamAda.preserves,
   Cert.AdamAda.algebraic,
   Cert.AdamIn.preserves,
   Cert.AdamIn.algebraic,
   Cert.AdamOut.preserves,
   Cert.AdamOut.algebraic,
   Cert.AdamUq.preserves,
   Cert.AdamUq.algebraic,
   Cert.AdamUkv.preserves,
   Cert.AdamUkv.algebraic,
   Cert.AdamUp.preserves,
   Cert.AdamUp.algebraic,
   Cert.AdamDown.preserves,
   Cert.AdamDown.algebraic,
   trivial,
   Cert.NormIn.algebraic,
   trivial,
   Cert.NormMid.algebraic,
   trivial,
   Cert.Merge.algebraic,
   trivial,
   Cert.Latents.algebraic⟩

end Cert.Proof
